-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S256x512 : Shape := ⟨2, ![256, 512]⟩
abbrev S256x1024 : Shape := ⟨2, ![256, 1024]⟩
abbrev S4x256x512 : Shape := ⟨3, ![4, 256, 512]⟩
abbrev S3x512x1024 : Shape := ⟨3, ![3, 512, 1024]⟩
abbrev S3x1024x512 : Shape := ⟨3, ![3, 1024, 512]⟩
abbrev S8 : Shape := ⟨1, ![8]⟩
abbrev S25 : Shape := ⟨1, ![25]⟩
abbrev S1 : Shape := ⟨1, ![1]⟩
abbrev S_ : Shape := ⟨0, ![]⟩
abbrev S1x512x1024 : Shape := ⟨3, ![1, 512, 1024]⟩
abbrev S1x1024x512 : Shape := ⟨3, ![1, 1024, 512]⟩
abbrev S64x256 : Shape := ⟨2, ![64, 256]⟩
abbrev S128x512 : Shape := ⟨2, ![128, 512]⟩
abbrev S128x1024 : Shape := ⟨2, ![128, 1024]⟩
abbrev S64x1024 : Shape := ⟨2, ![64, 1024]⟩
abbrev S1x128x256 : Shape := ⟨3, ![1, 128, 256]⟩
abbrev S128x256 : Shape := ⟨2, ![128, 256]⟩
abbrev S1024x256 : Shape := ⟨2, ![1024, 256]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .bf16⟩
  | .local _ .vmem, ⟨0, _⟩ => ⟨S256x512, .bf16⟩
  | .local _ .vmem, ⟨1, _⟩ => ⟨S256x1024, .bf16⟩
  | .local _ .vmem, ⟨2, _⟩ => ⟨S256x512, .bf16⟩
  | .local _ .vmem, ⟨3, _⟩ => ⟨S4x256x512, .bf16⟩
  | .local _ .vmem, ⟨4, _⟩ => ⟨S64x512, .f32⟩
  | .local _ .vmem, ⟨5, _⟩ => ⟨S64x512, .bf16⟩
  | .local _ .vmem, ⟨6, _⟩ => ⟨S3x512x1024, .f32⟩
  | .local _ .vmem, ⟨7, _⟩ => ⟨S3x1024x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_43 : BitVec 32 := 1#32
  let v74 : BitVec 32 := Scalar.muli v3 c1_i32_43
  let v75 : BitVec 32 := Scalar.addi c0_i32_44 v74
  v75.toNat
def k0_dev2 (d0 : Dev nD) : Nat :=
  let c0_i32_47 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_46 : BitVec 32 := 1#32
  let v76 : BitVec 32 := Scalar.muli v4 c1_i32_46
  let v77 : BitVec 32 := Scalar.addi c0_i32_47 v76
  v77.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v82 : Index := Scalar.indexCast v5
  let c0_50 : Index := 0#32
  ![v82.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let c0_i32_56 : BitVec 32 := 0#32
  ![v5.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_54 : BitVec 32 := 1#32
  let v86 : BitVec 32 := Scalar.muli v3 c1_i32_54
  let v87 : BitVec 32 := Scalar.addi c0_i32_55 v86
  v87.toNat
def k0_dev4 (d0 : Dev nD) : Nat :=
  let c0_i32_61 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_60 : BitVec 32 := 1#32
  let v94 : BitVec 32 := Scalar.muli v4 c1_i32_60
  let v95 : BitVec 32 := Scalar.addi c0_i32_61 v94
  v95.toNat
def k0_off3 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let c0_i32_90 : BitVec 32 := 0#32
  ![v7.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_88 : BitVec 32 := 1#32
  let v122 : BitVec 32 := Scalar.muli v3 c1_i32_88
  let v123 : BitVec 32 := Scalar.addi c0_i32_89 v122
  v123.toNat
def k0_off4 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c1_i32_0
  let c64_i32_1 : BitVec 32 := 64#32
  let v6 : BitVec 32 := Scalar.muli v3 c64_i32_1
  let c256_i32 : BitVec 32 := 256#32
  ![v6.toNat, 256]
def k0_dev6 (d0 : Dev nD) : Nat :=
  let c0_i32_95 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_94 : BitVec 32 := 1#32
  let v130 : BitVec 32 := Scalar.muli v4 c1_i32_94
  let v131 : BitVec 32 := Scalar.addi c0_i32_95 v130
  v131.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v11 : BitVec 1 := Scalar.cmpi .sgt v2 c0_i32
  let v12 : BitVec 32 := Scalar.extui v11
  let c0_i32_5 : BitVec 32 := 0#32
  let v13 : BitVec 1 := Scalar.cmpi .slt v2 c0_i32_5
  let v14 : BitVec 32 := Scalar.extui v13
  let v15 : BitVec 32 := Scalar.subi v12 v14
  let c2_i32_4 : BitVec 32 := 2#32
  let c0_i32_6 : BitVec 32 := 0#32
  let v16 : BitVec 1 := Scalar.cmpi .sgt c2_i32_4 c0_i32_6
  let v17 : BitVec 32 := Scalar.extui v16
  let c0_i32_7 : BitVec 32 := 0#32
  let v18 : BitVec 1 := Scalar.cmpi .slt c2_i32_4 c0_i32_7
  let v19 : BitVec 32 := Scalar.extui v18
  let v20 : BitVec 32 := Scalar.subi v17 v19
  let v21 : BitVec 1 := Scalar.cmpi .ne v15 v20
  let v22 : BitVec 32 := Scalar.remsi v2 c2_i32_4
  let c0_i32_8 : BitVec 32 := 0#32
  let v23 : BitVec 1 := Scalar.cmpi .ne v22 c0_i32_8
  let v24 : BitVec 1 := Scalar.andi v21 v23
  let v10 : BitVec 32 := Scalar.divsi v2 c2_i32_4
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli v26 c128_i32
  let v145 : Index := Scalar.indexCast v27
  let c0_104 : Index := 0#32
  ![v145.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v11 : BitVec 1 := Scalar.cmpi .sgt v2 c0_i32
  let v12 : BitVec 32 := Scalar.extui v11
  let c0_i32_5 : BitVec 32 := 0#32
  let v13 : BitVec 1 := Scalar.cmpi .slt v2 c0_i32_5
  let v14 : BitVec 32 := Scalar.extui v13
  let v15 : BitVec 32 := Scalar.subi v12 v14
  let c2_i32_4 : BitVec 32 := 2#32
  let c0_i32_6 : BitVec 32 := 0#32
  let v16 : BitVec 1 := Scalar.cmpi .sgt c2_i32_4 c0_i32_6
  let v17 : BitVec 32 := Scalar.extui v16
  let c0_i32_7 : BitVec 32 := 0#32
  let v18 : BitVec 1 := Scalar.cmpi .slt c2_i32_4 c0_i32_7
  let v19 : BitVec 32 := Scalar.extui v18
  let v20 : BitVec 32 := Scalar.subi v17 v19
  let v21 : BitVec 1 := Scalar.cmpi .ne v15 v20
  let v22 : BitVec 32 := Scalar.remsi v2 c2_i32_4
  let c0_i32_8 : BitVec 32 := 0#32
  let v23 : BitVec 1 := Scalar.cmpi .ne v22 c0_i32_8
  let v24 : BitVec 1 := Scalar.andi v21 v23
  let v10 : BitVec 32 := Scalar.divsi v2 c2_i32_4
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli v26 c128_i32
  let v151 : Index := Scalar.indexCast v27
  let c0_106 : Index := 0#32
  ![v151.toNat, 0]
def k0_off7 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let v155 : Index := Scalar.indexCast v7
  let c0_107 : Index := 0#32
  ![v155.toNat, 0]
def k0_off8 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let v161 : Index := Scalar.indexCast v7
  let c0_110 : Index := 0#32
  ![v161.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.xori v2 c2_i32
  let c64_i32_3 : BitVec 32 := 64#32
  let v9 : BitVec 32 := Scalar.muli v8 c64_i32_3
  let v185 : Index := Scalar.indexCast v9
  let c0_133 : Index := 0#32
  ![v185.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.xori v2 c2_i32
  let c64_i32_3 : BitVec 32 := 64#32
  let v9 : BitVec 32 := Scalar.muli v8 c64_i32_3
  let v191 : Index := Scalar.indexCast v9
  let c0_136 : Index := 0#32
  ![v191.toNat, 0]
def k0_dev7 (d0 : Dev nD) : Nat :=
  let c0_i32_153 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_152 : BitVec 32 := 1#32
  let v208 : BitVec 32 := Scalar.muli v4 c1_i32_152
  let v209 : BitVec 32 := Scalar.addi c0_i32_153 v208
  v209.toNat
def k0_dev8 (d0 : Dev nD) : Nat :=
  let c0_i32_162 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_161 : BitVec 32 := 1#32
  let v217 : BitVec 32 := Scalar.muli v4 c1_i32_161
  let v218 : BitVec 32 := Scalar.addi c0_i32_162 v217
  v218.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_173 : BitVec 32 := 1#32
  let v232 : BitVec 32 := Scalar.muli v3 c1_i32_173
  let v233 : BitVec 32 := Scalar.addi c0_i32_174 v232
  v233.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_181 : BitVec 32 := 1#32
  let v241 : BitVec 32 := Scalar.muli v3 c1_i32_181
  let v242 : BitVec 32 := Scalar.addi c0_i32_182 v241
  v242.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_214 : BitVec 32 := 1#32
  let v269 : BitVec 32 := Scalar.muli v3 c1_i32_214
  let v270 : BitVec 32 := Scalar.addi c0_i32_215 v269
  v270.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_245 : BitVec 32 := 1#32
  let v297 : BitVec 32 := Scalar.muli v3 c1_i32_245
  let v298 : BitVec 32 := Scalar.addi c0_i32_246 v297
  v298.toNat
def k0_dev13 (d0 : Dev nD) : Nat :=
  let c0_i32_278 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_277 : BitVec 32 := 1#32
  let v325 : BitVec 32 := Scalar.muli v4 c1_i32_277
  let v326 : BitVec 32 := Scalar.addi c0_i32_278 v325
  v326.toNat
def k0_dev14 (d0 : Dev nD) : Nat :=
  let c0_i32_310 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_309 : BitVec 32 := 1#32
  let v353 : BitVec 32 := Scalar.muli v4 c1_i32_309
  let v354 : BitVec 32 := Scalar.addi c0_i32_310 v353
  v354.toNat
def k0_dev15 (d0 : Dev nD) : Nat :=
  let c0_i32_449 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_448 : BitVec 32 := 1#32
  let v484 : BitVec 32 := Scalar.muli v4 c1_i32_448
  let v485 : BitVec 32 := Scalar.addi c0_i32_449 v484
  v485.toNat
def k0_dev16 (d0 : Dev nD) : Nat :=
  let c0_i32_457 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_456 : BitVec 32 := 1#32
  let v493 : BitVec 32 := Scalar.muli v4 c1_i32_456
  let v494 : BitVec 32 := Scalar.addi c0_i32_457 v493
  v494.toNat
def k0_dev17 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_469 : BitVec 32 := 1#32
  let v508 : BitVec 32 := Scalar.muli v3 c1_i32_469
  let v509 : BitVec 32 := Scalar.addi c0_i32_470 v508
  v509.toNat
def k0_dev18 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_477 : BitVec 32 := 1#32
  let v517 : BitVec 32 := Scalar.muli v3 c1_i32_477
  let v518 : BitVec 32 := Scalar.addi c0_i32_478 v517
  v518.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_509 : BitVec 32 := 1#32
  let v545 : BitVec 32 := Scalar.muli v3 c1_i32_509
  let v546 : BitVec 32 := Scalar.addi c0_i32_510 v545
  v546.toNat
def k0_dev20 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_541 : BitVec 32 := 1#32
  let v573 : BitVec 32 := Scalar.muli v3 c1_i32_541
  let v574 : BitVec 32 := Scalar.addi c0_i32_542 v573
  v574.toNat
def k0_dev21 (d0 : Dev nD) : Nat :=
  let c0_i32_574 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_573 : BitVec 32 := 1#32
  let v601 : BitVec 32 := Scalar.muli v4 c1_i32_573
  let v602 : BitVec 32 := Scalar.addi c0_i32_574 v601
  v602.toNat
def k0_dev22 (d0 : Dev nD) : Nat :=
  let c0_i32_606 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_605 : BitVec 32 := 1#32
  let v629 : BitVec 32 := Scalar.muli v4 c1_i32_605
  let v630 : BitVec 32 := Scalar.addi c0_i32_606 v629
  v630.toNat
def k0_off11 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v29 : BitVec 1 := Scalar.cmpi .sgt v2 c0_i32_11
  let v30 : BitVec 32 := Scalar.extui v29
  let c0_i32_12 : BitVec 32 := 0#32
  let v31 : BitVec 1 := Scalar.cmpi .slt v2 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v2 c2_i32_10
  let c0_i32_15 : BitVec 32 := 0#32
  let v41 : BitVec 1 := Scalar.cmpi .ne v40 c0_i32_15
  let v42 : BitVec 1 := Scalar.andi v39 v41
  let v28 : BitVec 32 := Scalar.divsi v2 c2_i32_10
  let c1_i32_16 : BitVec 32 := 1#32
  let v43 : BitVec 32 := Scalar.subi v28 c1_i32_16
  let v44 : BitVec 32 := Scalar.select v42 v43 v28
  let v45 : BitVec 32 := Scalar.subi c1_i32_17 v44
  let c128_i32_18 : BitVec 32 := 128#32
  let v46 : BitVec 32 := Scalar.muli v45 c128_i32_18
  let v754 : Index := Scalar.indexCast v46
  let c0_738 : Index := 0#32
  ![v754.toNat, 0]
def k0_off12 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v29 : BitVec 1 := Scalar.cmpi .sgt v2 c0_i32_11
  let v30 : BitVec 32 := Scalar.extui v29
  let c0_i32_12 : BitVec 32 := 0#32
  let v31 : BitVec 1 := Scalar.cmpi .slt v2 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v2 c2_i32_10
  let c0_i32_15 : BitVec 32 := 0#32
  let v41 : BitVec 1 := Scalar.cmpi .ne v40 c0_i32_15
  let v42 : BitVec 1 := Scalar.andi v39 v41
  let v28 : BitVec 32 := Scalar.divsi v2 c2_i32_10
  let c1_i32_16 : BitVec 32 := 1#32
  let v43 : BitVec 32 := Scalar.subi v28 c1_i32_16
  let v44 : BitVec 32 := Scalar.select v42 v43 v28
  let v45 : BitVec 32 := Scalar.subi c1_i32_17 v44
  let c128_i32_18 : BitVec 32 := 128#32
  let v46 : BitVec 32 := Scalar.muli v45 c128_i32_18
  let v759 : Index := Scalar.indexCast v46
  let c0_740 : Index := 0#32
  ![v759.toNat, 0]
def k0_off13 (d0 : Dev nD) : Fin 3 → Nat :=
  let c0_i32_741 : BitVec 32 := 0#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v29 : BitVec 1 := Scalar.cmpi .sgt v2 c0_i32_11
  let v30 : BitVec 32 := Scalar.extui v29
  let c0_i32_12 : BitVec 32 := 0#32
  let v31 : BitVec 1 := Scalar.cmpi .slt v2 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v2 c2_i32_10
  let c0_i32_15 : BitVec 32 := 0#32
  let v41 : BitVec 1 := Scalar.cmpi .ne v40 c0_i32_15
  let v42 : BitVec 1 := Scalar.andi v39 v41
  let v28 : BitVec 32 := Scalar.divsi v2 c2_i32_10
  let c1_i32_16 : BitVec 32 := 1#32
  let v43 : BitVec 32 := Scalar.subi v28 c1_i32_16
  let v44 : BitVec 32 := Scalar.select v42 v43 v28
  let v45 : BitVec 32 := Scalar.subi c1_i32_17 v44
  let c128_i32_18 : BitVec 32 := 128#32
  let v46 : BitVec 32 := Scalar.muli v45 c128_i32_18
  let c0_i32_745 : BitVec 32 := 0#32
  ![0, v46.toNat, 0]
def k0_off14 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v29 : BitVec 1 := Scalar.cmpi .sgt v2 c0_i32_11
  let v30 : BitVec 32 := Scalar.extui v29
  let c0_i32_12 : BitVec 32 := 0#32
  let v31 : BitVec 1 := Scalar.cmpi .slt v2 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v2 c2_i32_10
  let c0_i32_15 : BitVec 32 := 0#32
  let v41 : BitVec 1 := Scalar.cmpi .ne v40 c0_i32_15
  let v42 : BitVec 1 := Scalar.andi v39 v41
  let v28 : BitVec 32 := Scalar.divsi v2 c2_i32_10
  let c1_i32_16 : BitVec 32 := 1#32
  let v43 : BitVec 32 := Scalar.subi v28 c1_i32_16
  let v44 : BitVec 32 := Scalar.select v42 v43 v28
  let v45 : BitVec 32 := Scalar.subi c1_i32_17 v44
  let c128_i32_18 : BitVec 32 := 128#32
  let v46 : BitVec 32 := Scalar.muli v45 c128_i32_18
  let c0_i32_746 : BitVec 32 := 0#32
  ![v46.toNat, 0]
def k0_dev23 (d0 : Dev nD) : Nat :=
  let c0_i32_744 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_743 : BitVec 32 := 1#32
  let v763 : BitVec 32 := Scalar.muli v4 c1_i32_743
  let v764 : BitVec 32 := Scalar.addi c0_i32_744 v763
  v764.toNat
def k0_off15 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v29 : BitVec 1 := Scalar.cmpi .sgt v2 c0_i32_11
  let v30 : BitVec 32 := Scalar.extui v29
  let c0_i32_12 : BitVec 32 := 0#32
  let v31 : BitVec 1 := Scalar.cmpi .slt v2 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v2 c2_i32_10
  let c0_i32_15 : BitVec 32 := 0#32
  let v41 : BitVec 1 := Scalar.cmpi .ne v40 c0_i32_15
  let v42 : BitVec 1 := Scalar.andi v39 v41
  let v28 : BitVec 32 := Scalar.divsi v2 c2_i32_10
  let c1_i32_16 : BitVec 32 := 1#32
  let v43 : BitVec 32 := Scalar.subi v28 c1_i32_16
  let v44 : BitVec 32 := Scalar.select v42 v43 v28
  let v45 : BitVec 32 := Scalar.subi c1_i32_17 v44
  let c128_i32_18 : BitVec 32 := 128#32
  let v46 : BitVec 32 := Scalar.muli v45 c128_i32_18
  let v775 : Index := Scalar.indexCast v46
  let c256_748 : Index := 256#32
  ![v775.toNat, 256]
def k0_off16 (d0 : Dev nD) (c2_i32 : BitVec 32) : Fin 3 → Nat :=
  let c0_i32_749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.xori v2 c2_i32
  let c64_i32_3 : BitVec 32 := 64#32
  let v9 : BitVec 32 := Scalar.muli v8 c64_i32_3
  let c256_i32_753 : BitVec 32 := 256#32
  ![0, v9.toNat, 256]
def k0_dev24 (d0 : Dev nD) : Nat :=
  let c0_i32_752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_751 : BitVec 32 := 1#32
  let v779 : BitVec 32 := Scalar.muli v3 c1_i32_751
  let v780 : BitVec 32 := Scalar.addi c0_i32_752 v779
  v780.toNat
def k0_dev25 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_760 : BitVec 32 := 1#32
  let v796 : BitVec 32 := Scalar.muli v3 c1_i32_760
  let v797 : BitVec 32 := Scalar.addi c0_i32_761 v796
  v797.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v11 : BitVec 1 := Scalar.cmpi .sgt v2 c0_i32
  let v12 : BitVec 32 := Scalar.extui v11
  let c0_i32_5 : BitVec 32 := 0#32
  let v13 : BitVec 1 := Scalar.cmpi .slt v2 c0_i32_5
  let v14 : BitVec 32 := Scalar.extui v13
  let v15 : BitVec 32 := Scalar.subi v12 v14
  let c2_i32_4 : BitVec 32 := 2#32
  let c0_i32_6 : BitVec 32 := 0#32
  let v16 : BitVec 1 := Scalar.cmpi .sgt c2_i32_4 c0_i32_6
  let v17 : BitVec 32 := Scalar.extui v16
  let c0_i32_7 : BitVec 32 := 0#32
  let v18 : BitVec 1 := Scalar.cmpi .slt c2_i32_4 c0_i32_7
  let v19 : BitVec 32 := Scalar.extui v18
  let v20 : BitVec 32 := Scalar.subi v17 v19
  let v21 : BitVec 1 := Scalar.cmpi .ne v15 v20
  let v22 : BitVec 32 := Scalar.remsi v2 c2_i32_4
  let c0_i32_8 : BitVec 32 := 0#32
  let v23 : BitVec 1 := Scalar.cmpi .ne v22 c0_i32_8
  let v24 : BitVec 1 := Scalar.andi v21 v23
  let v10 : BitVec 32 := Scalar.divsi v2 c2_i32_4
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli v26 c128_i32
  let v817 : Index := Scalar.indexCast v27
  let c0_777 : Index := 0#32
  ![v817.toNat, 0]
def k0_off18 (d0 : Dev nD) : Fin 3 → Nat :=
  let c0_778 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v11 : BitVec 1 := Scalar.cmpi .sgt v2 c0_i32
  let v12 : BitVec 32 := Scalar.extui v11
  let c0_i32_5 : BitVec 32 := 0#32
  let v13 : BitVec 1 := Scalar.cmpi .slt v2 c0_i32_5
  let v14 : BitVec 32 := Scalar.extui v13
  let v15 : BitVec 32 := Scalar.subi v12 v14
  let c2_i32_4 : BitVec 32 := 2#32
  let c0_i32_6 : BitVec 32 := 0#32
  let v16 : BitVec 1 := Scalar.cmpi .sgt c2_i32_4 c0_i32_6
  let v17 : BitVec 32 := Scalar.extui v16
  let c0_i32_7 : BitVec 32 := 0#32
  let v18 : BitVec 1 := Scalar.cmpi .slt c2_i32_4 c0_i32_7
  let v19 : BitVec 32 := Scalar.extui v18
  let v20 : BitVec 32 := Scalar.subi v17 v19
  let v21 : BitVec 1 := Scalar.cmpi .ne v15 v20
  let v22 : BitVec 32 := Scalar.remsi v2 c2_i32_4
  let c0_i32_8 : BitVec 32 := 0#32
  let v23 : BitVec 1 := Scalar.cmpi .ne v22 c0_i32_8
  let v24 : BitVec 1 := Scalar.andi v21 v23
  let v10 : BitVec 32 := Scalar.divsi v2 c2_i32_4
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli v26 c128_i32
  let v819 : Index := Scalar.indexCast v27
  let c0_779 : Index := 0#32
  ![0, v819.toNat, 0]
def k0_off19 (d0 : Dev nD) : Fin 3 → Nat :=
  let c2_i32_781 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c64_i32_1 : BitVec 32 := 64#32
  let v6 : BitVec 32 := Scalar.muli v3 c64_i32_1
  let c0_i32_785 : BitVec 32 := 0#32
  ![2, v6.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c64_i32_1 : BitVec 32 := 64#32
  let v6 : BitVec 32 := Scalar.muli v3 c64_i32_1
  let c0_i32_786 : BitVec 32 := 0#32
  ![v6.toNat, 0]
def k0_dev26 (d0 : Dev nD) : Nat :=
  let c0_i32_784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_783 : BitVec 32 := 1#32
  let v827 : BitVec 32 := Scalar.muli v3 c1_i32_783
  let v828 : BitVec 32 := Scalar.addi c0_i32_784 v827
  v828.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v860 : Index := Scalar.indexCast v5
  let c256_813 : Index := 256#32
  ![v860.toNat, 256]
def k0_off22 (d0 : Dev nD) : Fin 3 → Nat :=
  let c0_814 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v862 : Index := Scalar.indexCast v5
  let c256_815 : Index := 256#32
  ![0, v862.toNat, 256]
def k0_off23 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let v870 : Index := Scalar.indexCast v7
  let c256_817 : Index := 256#32
  ![v870.toNat, 256]
def k0_off24 (d0 : Dev nD) : Fin 3 → Nat :=
  let c0_818 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let v872 : Index := Scalar.indexCast v7
  let c256_819 : Index := 256#32
  ![0, v872.toNat, 256]
def k0_off25 (d0 : Dev nD) : Fin 3 → Nat :=
  let c2_i32_821 : BitVec 32 := 2#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let c256_i32_825 : BitVec 32 := 256#32
  ![2, v7.toNat, 256]
def k0_off26 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_2 : BitVec 32 := 64#32
  let v7 : BitVec 32 := Scalar.muli v4 c64_i32_2
  let c256_i32_826 : BitVec 32 := 256#32
  ![v7.toNat, 256]
def k0_dev27 (d0 : Dev nD) : Nat :=
  let c0_i32_824 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_823 : BitVec 32 := 1#32
  let v880 : BitVec 32 := Scalar.muli v4 c1_i32_823
  let v881 : BitVec 32 := Scalar.addi c0_i32_824 v880
  v881.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v901 : Index := Scalar.indexCast v5
  let c0_840 : Index := 0#32
  ![v901.toNat, 0]
def k0_off28 (d0 : Dev nD) : Fin 3 → Nat :=
  let c2_841 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v903 : Index := Scalar.indexCast v5
  let c0_842 : Index := 0#32
  ![2, v903.toNat, 0]
def k0_off29 (d0 : Dev nD) : Fin 3 → Nat :=
  let c2_859 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v5 : BitVec 32 := Scalar.muli v2 c64_i32
  let v924 : Index := Scalar.indexCast v5
  let c256_860 : Index := 256#32
  ![2, v924.toNat, 256]
-- ==== ReferenceIdeal.lean ====
abbrev S256x512 : Shape := ⟨2, ![256, 512]⟩
abbrev S512x4096 : Shape := ⟨2, ![512, 4096]⟩
abbrev S4096x512 : Shape := ⟨2, ![4096, 512]⟩
abbrev S256x4096 : Shape := ⟨2, ![256, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S4096x512, .f32⟩
  | .hbm, ⟨5, _⟩ => ⟨S512x4096, .f32⟩
  | .hbm, ⟨6, _⟩ => ⟨S4096x512, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x512, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S256x512, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S256x512, .f32⟩
  | .hbm, ⟨22, _⟩ => ⟨S256x512, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.KernelIdeal.Base.lean ====
/-
The devices of the square, the tiles of the on-chip buffers, and the assertions that say which
tiles of which buffer a device holds and what they contain.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duties of the cells are named by booleans: a device's barrier cell has two. -/
abbrev UB : Type := URounds (GSem nD τ sig) Bool
abbrev UU : Type := UR sig nD τ × UB

local notation "𝕄" => MT nD τ sig Unit (Elt F) ℕ UU ℕ

/-! ## The square of devices -/

/-- The three other devices, as each device names them: `aD` differs in the lowest bit, `bD` is the
    mirror image, `dD` the one left. -/
def aD (c : Dev nD) : Dev nD := (![1, 0, 3, 2] : Fin 4 → Fin 4) c
def bD (c : Dev nD) : Dev nD := (![3, 2, 1, 0] : Fin 4 → Fin 4) c
def dD (c : Dev nD) : Dev nD := (![2, 3, 0, 1] : Fin 4 → Fin 4) c

theorem aD_aD (c : Dev nD) : aD (aD c) = c := by revert c; decide
theorem bD_bD (c : Dev nD) : bD (bD c) = c := by revert c; decide
theorem bD_ne_aD (c : Dev nD) : bD c ≠ aD c := by revert c; decide

/-! ## Tiles -/

/-- A tile: its slab (of a buffer of three dimensions), its block of 64 rows, its half of 256 columns. -/
abbrev Tile : Type := Fin 4 × Fin 4 × Fin 2

/-- Coordinate `k` of an index. -/
def co {s : Shape} (i : s.Idx) (k : ℕ) : ℕ := if h : k < s.rank then (i ⟨k, h⟩).val else 0

/-- The tile an index lies in. -/
def tl {s : Shape} (i : s.Idx) : Tile :=
  (if s.rank = 3 then Fin.ofNat 4 (co i 0) else 0, Fin.ofNat 4 (co i (s.rank - 2) / 64), Fin.ofNat 2 (co i (s.rank - 1) / 256))

/-- The indices of the tiles of `T`. -/
def tset (s : Shape) (T : Tile → Bool) : Finset s.Idx := Finset.univ.filter fun i => T (tl i) = true

theorem mem_tset {s : Shape} {T : Tile → Bool} {i : s.Idx} : i ∈ tset s T ↔ T (tl i) = true := by
  unfold tset; rw [Finset.mem_filter]; exact ⟨fun h => h.2, fun h => ⟨Finset.mem_univ _, h⟩⟩

/-- The tiles in slabs `S`, row blocks `R` and halves `H`. -/
def bx (S : Fin 4 → Bool) (R : Fin 4 → Bool) (H : Fin 2 → Bool) : Tile → Bool := fun t => S t.1 && R t.2.1 && H t.2.2

/-- Every tile. -/
def allT : Tile → Bool := fun _ => true

theorem tset_all (s : Shape) : tset s allT = Finset.univ := by
  unfold tset; exact Finset.filter_true_of_mem fun _ _ => rfl

/-! ## What a device holds -/

section Hold

variable (ok : Prop) (c : Dev nD) (b : Ref sig .tc) {T T₁ T₂ : Tile → Bool} {q : PosShare TreeShare} {G G' : b.ty.Contents (Elt F)}

/-- The tiles `T` of device `c`'s buffer `b`, at share `q`, with the contents of `G` there if `ok`. -/
def reg (T : Tile → Bool) (q : PosShare TreeShare) (G : b.ty.Contents (Elt F)) : sProp 𝕄 :=
  iprop(∃ f : Buf (Elt F) ((c : Thread nD τ).loc b), ⌜ok → ∀ i, T (tl i) = true → f i = G i⌝
    ∗ (((c : Thread nD τ).loc b) ↦[tset b.ty.shape T]{q} f))

/-- The same tiles, whole, at whatever contents. -/
def own (T : Tile → Bool) : sProp 𝕄 :=
  iprop(∃ f : Buf (Elt F) ((c : Thread nD τ).loc b), (((c : Thread nD τ).loc b) ↦[tset b.ty.shape T]{fullShare} f))

instance reg_storable (T q) (G : b.ty.Contents (Elt F)) : BI.Storable (upEmb : UEmb _ 𝕄) (reg ok c b T q G) := by
  unfold reg; infer_instance
instance own_storable (T) : BI.Storable (upEmb : UEmb _ 𝕄) (own (F := F) c b T) := by
  unfold own; infer_instance

theorem tset_union (s : Shape) (h : ∀ t, T t = (T₁ t || T₂ t)) : tset s T = tset s T₁ ∪ tset s T₂ := by
  ext i; rw [Finset.mem_union, mem_tset, mem_tset, mem_tset, h, Bool.or_eq_true]

theorem tset_disjoint (s : Shape) (h : ∀ t, (T₁ t && T₂ t) = false) : Disjoint (tset s T₁) (tset s T₂) := by
  rw [Finset.disjoint_left]
  intro i h₁ h₂
  have := h (tl i)
  rw [mem_tset.mp h₁, mem_tset.mp h₂] at this
  exact Bool.noConfusion this

theorem reg_own : reg ok c b T fullShare G ⊢ own c b T := by
  unfold reg own
  iintro ⟨%f, -, H⟩
  iexists f; iexact H

theorem own_split (h : ∀ t, T t = (T₁ t || T₂ t)) (hd : ∀ t, (T₁ t && T₂ t) = false) :
    own (F := F) c b T ⊢ iprop(own c b T₁ ∗ own c b T₂) := by
  unfold own
  iintro ⟨%f, H⟩
  rw [tset_union _ h]
  ihave H' := (pointsTo_union (tset_disjoint _ hd)).1 $$ H
  icases H' with ⟨H1, H2⟩
  isplitl [H1]
  · iexists f; iexact H1
  · iexists f; iexact H2

theorem own_join (h : ∀ t, T t = (T₁ t || T₂ t)) (hd : ∀ t, (T₁ t && T₂ t) = false) :
    iprop(own (F := F) c b T₁ ∗ own c b T₂) ⊢ own c b T := by
  unfold own
  iintro ⟨⟨%f, H1⟩, %g, H2⟩
  rw [tset_union _ h]
  iexists _
  iapply (pointsTo_join (tset_disjoint _ hd))
  isplitl [H1] <;> iassumption

theorem reg_split (h : ∀ t, T t = (T₁ t || T₂ t)) (hd : ∀ t, (T₁ t && T₂ t) = false) :
    reg ok c b T q G ⊢ iprop(reg ok c b T₁ q G ∗ reg ok c b T₂ q G) := by
  unfold reg
  iintro ⟨%f, %hf, H⟩
  rw [tset_union _ h]
  ihave H' := (pointsTo_union (tset_disjoint _ hd)).1 $$ H
  icases H' with ⟨H1, H2⟩
  isplitl [H1]
  · iexists f; isplitr
    · ipureintro; exact fun k i hi => hf k i (by rw [h, hi, Bool.true_or])
    iexact H1
  · iexists f; isplitr
    · ipureintro; exact fun k i hi => hf k i (by rw [h, hi, Bool.or_true])
    iexact H2

theorem reg_join (h : ∀ t, T t = (T₁ t || T₂ t)) (hd : ∀ t, (T₁ t && T₂ t) = false) :
    iprop(reg ok c b T₁ q G ∗ reg ok c b T₂ q G) ⊢ reg ok c b T q G := by
  unfold reg
  iintro ⟨⟨%f, %hf, H1⟩, %g, %hg, H2⟩
  iexists ((tset b.ty.shape T₂).piecewise g f)
  isplitr
  · ipureintro
    intro k i hi
    by_cases h2 : i ∈ tset b.ty.shape T₂
    · rw [Finset.piecewise_eq_of_mem _ _ _ h2]; exact hg k i (mem_tset.mp h2)
    · rw [Finset.piecewise_eq_of_notMem _ _ _ h2]
      refine hf k i ?_
      rw [h, Bool.or_eq_true] at hi
      exact hi.resolve_right fun h' => h2 (mem_tset.mpr h')
  rw [tset_union _ h]
  iapply (pointsTo_join (tset_disjoint _ hd))
  isplitl [H1] <;> iassumption

/-- A share in two halves, -/
theorem reg_halve : reg ok c b T fullShare G ⊢ iprop(reg ok c b T fullShare.left G ∗ reg ok c b T fullShare.right G) := by
  unfold reg
  iintro ⟨%f, %hf, H⟩
  ihave H' := (pointsTo_share (PosShare.mem_left_op_right _)).1 $$ H
  icases H' with ⟨H1, H2⟩
  isplitl [H1]
  · iexists f; isplitr; · ipureintro; exact hf
    iexact H1
  · iexists f; isplitr; · ipureintro; exact hf
    iexact H2

/-- and back. -/
theorem reg_unhalve : iprop(reg ok c b T fullShare.left G ∗ reg ok c b T fullShare.right G) ⊢ reg ok c b T fullShare G := by
  unfold reg
  iintro ⟨⟨%f, %hf, H1⟩, %g, %hg, H2⟩
  ihave %hag := (pointsTo_agree (I := tset b.ty.shape T) (J := tset b.ty.shape T) (f := f) (g := g)) $$ [H1 H2]
  · isplitl [H1] <;> iassumption
  iexists f
  isplitr; · ipureintro; exact hf
  iapply (pointsTo_share (PosShare.mem_left_op_right _)).2
  isplitl [H1]; · iexact H1
  rw [pointsTo_congr (f := f) (g := g) fun i hi => (hag i (by rw [Finset.inter_self]; exact hi)).1]
  iexact H2

theorem reg_congr (h : ∀ t, T t = T₁ t) : reg ok c b T q G = reg ok c b T₁ q G := by
  rw [show T = T₁ from funext h]

theorem own_congr (h : ∀ t, T t = T₁ t) : own (F := F) c b T = own c b T₁ := by
  rw [show T = T₁ from funext h]

end Hold

end Cert.KernelIdeal.Pf
end
-- ==== Proof.KernelIdeal.Sched.lean ====
/-
The protocol: the barrier, the seven local copies in and the one out, and the twenty-five exchanges
between neighbours of the square, as a schedule of one round per semaphore.
-/
module

public import proofs.«01_k».proof.Proof.KernelIdeal.Base

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- What the buffers are to hold, stage by stage, and whether the proof follows the values at all (`ok`). -/
structure Spec (F : FTy → Type) where
  ok : Prop
  /-- the input of each layer, all rows; -/
  X : Fin 3 → Vec F S256x512 .bf16
  /-- a device's columns of the hidden layer; -/
  H : Fin 3 → Dev nD → Vec F S256x1024 .bf16
  /-- a device's partial product; -/
  Z : Fin 3 → Dev nD → Vec F S256x512 .bf16
  /-- the same with the first neighbour's added; -/
  Y : Fin 3 → Dev nD → Vec F S256x512 .bf16
  /-- a device's rows of the result. -/
  O : Dev nD → Vec F S64x512 .bf16

/-- A stack of four copies of one matrix. -/
def slab4 (z : Vec F S256x512 .bf16) : Vec F S4x256x512 .bf16 := fun i => z (ix2 (i 1) (i 2))
/-- Three matrices stacked. -/
def stk1 (A₀ A₁ A₂ : Vec F S512x1024 .f32) : Vec F S3x512x1024 .f32 :=
  fun i => (![A₀, A₁, A₂] : Fin 3 → Vec F S512x1024 .f32) (i 0) (ix2 (i 1) (i 2))
def stk2 (A₀ A₁ A₂ : Vec F S1024x512 .f32) : Vec F S3x1024x512 .f32 :=
  fun i => (![A₀, A₁, A₂] : Fin 3 → Vec F S1024x512 .f32) (i 0) (ix2 (i 1) (i 2))

/-! ## The exchanges -/

/-- Whether exchange `k` is with the neighbour `aD` (else with `bD`). -/
def toA : ℕ → Bool
  | 0 | 2 | 6 | 7 | 8 | 9 | 14 | 15 | 16 | 17 | 21 | 22 | 23 => true
  | _ => false
/-- The partner of exchange `k`. -/
def pr (k : ℕ) (c : Dev nD) : Dev nD := if toA k then aD c else bD c

theorem pr_pr (k : ℕ) (c : Dev nD) : pr k (pr k c) = c := by
  unfold pr; split
  · exact aD_aD c
  · exact bD_bD c

/-- The row blocks device `c` sends in exchange `k`, -/
def rows (k : ℕ) (c : Dev nD) : Fin 4 → Bool := match k with
  | 0 | 1 => fun r => r == c
  | 2 => fun r => r == bD c
  | 3 => fun r => r == aD c
  | 4 | 5 | 6 | 7 | 12 | 13 | 14 | 15 => fun r => decide (r.val < 2)
  | 8 | 9 | 10 | 11 | 16 | 17 | 18 | 19 => fun r => decide (2 ≤ r.val)
  | 20 => fun r => r == bD c || r == dD c
  | 21 => fun r => r == dD c
  | 22 | 23 => fun r => r == aD c
  | _ => fun r => r == bD c
/-- the columns, -/
def half (k : ℕ) : Fin 2 → Bool := match k with
  | 0 | 1 => fun _ => true
  | 2 | 4 | 6 | 8 | 10 | 12 | 14 | 16 | 18 | 20 | 23 => fun h => h == 0
  | _ => fun h => h == 1
/-- and the slab of the landing buffer. -/
def slab (k : ℕ) : Fin 4 := match k with
  | 6 | 7 | 10 | 11 | 23 | 24 => 2
  | 12 | 13 | 16 | 17 => 1
  | 14 | 15 | 18 | 19 => 3
  | _ => 0

def srcT (k : ℕ) (c : Dev nD) : Tile → Bool := bx (· == 0) (rows k c) (half k)
def dstT (k : ℕ) (c : Dev nD) : Tile → Bool := bx (· == slab k) (rows k c) (half k)

/-- The share of its source an exchange takes: the first two read one source, the next two sources being read. -/
def shr (k : ℕ) : PosShare TreeShare := if k = 1 then fullShare.right else fullShare.left

section Pay

variable (𝒮 : Spec F) (m : (ℓ : Loc nD τ sig) → Buf (Elt F) ℓ)

/-- What exchange `k` sends from device `c`. -/
def cont (k : ℕ) (c : Dev nD) : Vec F S256x512 .bf16 := match k with
  | 0 | 1 | 2 | 3 => 𝒮.X 0
  | 4 | 5 | 8 | 9 => 𝒮.Z 0 c
  | 6 | 7 | 10 | 11 => 𝒮.Y 0 c
  | 12 | 13 | 16 | 17 => 𝒮.Z 1 c
  | 14 | 15 | 18 | 19 => 𝒮.Y 1 c
  | 20 | 21 | 22 => 𝒮.Z 2 c
  | _ => 𝒮.Y 2 c

/-- The source of exchange `k` on device `c`, as it takes it and gives it back; -/
def source (k : ℕ) (c : Dev nD) : sProp 𝕄 :=
  if k < 4 then reg 𝒮.ok c cc0_scratch0 (srcT k c) (shr k) (cont 𝒮 k c)
  else reg 𝒮.ok c cc0_scratch2 (srcT k c) fullShare (cont 𝒮 k c)
/-- where it lands on the partner, before; -/
def room (k : ℕ) (c : Dev nD) : sProp 𝕄 :=
  if k < 4 then own (F := F) (pr k c) cc0_scratch0 (srcT k c) else own (pr k c) cc0_scratch3 (dstT k c)
/-- and after, on the receiver `c`. -/
def landed (k : ℕ) (c : Dev nD) : sProp 𝕄 :=
  if k < 4 then reg 𝒮.ok c cc0_scratch0 (srcT k (pr k c)) fullShare (cont 𝒮 k (pr k c))
  else reg 𝒮.ok c cc0_scratch3 (dstT k (pr k c)) fullShare (slab4 (cont 𝒮 k (pr k c)))
/-- What comes with it: the landing places of the last exchanges, free again. -/
def extra (k : ℕ) (c : Dev nD) : sProp 𝕄 :=
  if k = 12 then iprop(room (F := F) 20 c ∗ room 24 c)
  else if k = 16 then iprop(room (F := F) 21 c ∗ room 22 c ∗ room 23 c)
  else iprop(emp)

/-- The rooms a neighbour hands over at the barrier. -/
def rooms (c : Dev nD) : List ℕ → sProp 𝕄
  | [] => iprop(emp)
  | k :: l => iprop(room (F := F) k c ∗ rooms c l)

def roomsA : List ℕ := [0, 2, 8, 9, 6, 7, 16, 17, 14, 15]
def roomsB : List ℕ := [1, 3, 4, 5, 10, 11, 12, 13, 18, 19]

def barPay (d : Bool) (c : Dev nD) : sProp 𝕄 := rooms c (if d then roomsA else roomsB)

/-- Device `c`'s argument `b`, as launched. -/
abbrev arg (b : Ref sig .tc) (c : Dev nD) : Buf (Elt F) ((c : Thread nD τ).loc b) := m ((c : Thread nD τ).loc b)
abbrev argPts (b : Ref sig .tc) (c : Dev nD) : sProp 𝕄 := iprop(((c : Thread nD τ).loc b) ↦[Finset.univ]{fullShare} arg m b c)

def w1 (c : Dev nD) : Vec F S3x512x1024 .f32 := stk1 (arg m main_arg1 c) (arg m main_arg3 c) (arg m main_arg5 c)
def w2 (c : Dev nD) : Vec F S3x1024x512 .f32 := stk2 (arg m main_arg2 c) (arg m main_arg4 c) (arg m main_arg6 c)

/-- The slab `l` of a buffer. -/
def slT (l : Fin 4) : Tile → Bool := bx (· == l) (fun _ => true) (fun _ => true)

/-- What a local copy leaves. -/
def localPay (w : ℕ) (c : Dev nD) : sProp 𝕄 := match w with
  | 0 => iprop(reg True c cc0_scratch6 (slT 0) fullShare (w1 m c) ∗ argPts m main_arg1 c)
  | 1 => iprop(reg True c cc0_scratch7 (slT 0) fullShare (w2 m c) ∗ argPts m main_arg2 c)
  | 2 => iprop(reg True c cc0_scratch6 (slT 1) fullShare (w1 m c) ∗ argPts m main_arg3 c)
  | 3 => iprop(reg True c cc0_scratch7 (slT 1) fullShare (w2 m c) ∗ argPts m main_arg4 c)
  | 4 => iprop(reg True c cc0_scratch6 (slT 2) fullShare (w1 m c) ∗ argPts m main_arg5 c)
  | 5 => iprop(reg True c cc0_scratch7 (slT 2) fullShare (w2 m c) ∗ argPts m main_arg6 c)
  | 6 => iprop(reg True c cc0_scratch4 allT fullShare (arg m main_arg0 c) ∗ argPts m main_arg0 c)
  | _ => iprop(reg 𝒮.ok c main_v1 allT fullShare (𝒮.O c) ∗ reg 𝒮.ok c cc0_scratch5 allT fullShare (𝒮.O c))

/-- What the wait on DMA semaphore `i` yields. -/
def pay (i : ℕ) (c : Dev nD) : sProp 𝕄 :=
  if i < 8 then localPay 𝒮 m i c
  else if i < 33 then source 𝒮 (i - 8) c
  else iprop(landed 𝒮 (i - 33) c ∗ extra (i - 33) c)

end Pay

/-! ## Amounts -/

def amtX (k : ℕ) : ℕ := match k with
  | 0 | 1 => Ref.dmaCredit cc0_scratch0 S64x512 .bf16
  | 2 | 3 => Ref.dmaCredit cc0_scratch0 S64x256 .bf16
  | 21 | 22 | 23 | 24 => Ref.dmaCredit cc0_scratch3 S64x256 .bf16
  | _ => Ref.dmaCredit cc0_scratch3 S128x256 .bf16
def amtL (w : ℕ) : ℕ := match w with
  | 0 | 2 | 4 => Ref.dmaCredit cc0_scratch6 S512x1024 .f32
  | 6 => Ref.dmaCredit cc0_scratch4 S64x512 .f32
  | 7 => Ref.dmaCredit main_v1 S64x512 .bf16
  | _ => Ref.dmaCredit cc0_scratch7 S1024x512 .f32
/-- The units DMA semaphore `i` receives. -/
def amt (i : ℕ) : ℕ := if i < 8 then amtL i else if i < 33 then amtX (i - 8) else amtX (i - 33)

theorem amt_pos (i : ℕ) : 0 < amt i := by
  unfold amt amtL amtX
  (repeat' split) <;> exact RefSig.dmaCredit_pos _ _ _ _ _ _ (by decide)

/-! ## The cells and the schedule -/

abbrev barS : Sem sig := (SemArray.scalar (sig.barrier 0 rfl) : Sems sig S_).sem
/-- DMA semaphore `i` of device `c`, -/
abbrev dcell (c : Dev nD) (i : DmaSem sig) : GSem nD τ sig := ((c : Thread nD τ), .dma i)
/-- its barrier semaphore. -/
abbrev bcell (c : Dev nD) : GSem nD τ sig := ((c : Thread nD τ), .reg barS)
/-- The semaphore of the sending and of the receiving side of exchange `k`. -/
def sS (k : ℕ) : DmaSem sig := Fin.ofNat 58 (8 + k)
def rS (k : ℕ) : DmaSem sig := Fin.ofNat 58 (33 + k)

abbrev CellIx : Type := Option (Fin 58)
def csem : CellIx → SemLoc sig
  | none => .reg barS
  | some i => .dma i
abbrev kcell (ck : Dev nD × CellIx) : GSem nD τ sig := ((ck.1 : Thread nD τ), csem ck.2)

section Rd

variable (𝒮 : Spec F) (m : (ℓ : Loc nD τ sig) → Buf (Elt F) ℓ)

def rdDuties (g : GSem nD τ sig) (r : ℕ) : Finset Bool :=
  if r = 0 then (match g.2 with | .reg _ => Finset.univ | .dma _ => {false}) else ∅
def rdAmount (g : GSem nD τ sig) : ℕ := match g.2 with | .reg _ => 1 | .dma i => amt i.val
def rdPayload (g : GSem nD τ sig) (d : Bool) : sProp 𝕄 := match g.2 with
  | .reg _ => barPay d g.1.1
  | .dma i => pay 𝒮 m i.val g.1.1

def rd : Rounds.Schedule (GSem nD τ sig) Bool 𝕄 where
  duties := rdDuties
  unitless _ := False
  amount g _ _ := rdAmount g
  payload g _ d := rdPayload 𝒮 m g d
  amount_pos g _ _ _ := by
    unfold rdAmount; split
    · exact Nat.one_pos
    · exact amt_pos _

instance room_storable (k : ℕ) (c : Dev nD) : BI.Storable (upEmb : UEmb _ 𝕄) (room (F := F) k c) := by
  unfold room; split <;> infer_instance
instance rooms_storable (c : Dev nD) (l : List ℕ) : BI.Storable (upEmb : UEmb _ 𝕄) (rooms (F := F) c l) := by
  induction l with
  | nil => unfold rooms; infer_instance
  | cons k l ih => unfold rooms; infer_instance
instance source_storable (k : ℕ) (c : Dev nD) : BI.Storable (upEmb : UEmb _ 𝕄) (source 𝒮 k c) := by
  unfold source; split <;> infer_instance
instance landed_storable (k : ℕ) (c : Dev nD) : BI.Storable (upEmb : UEmb _ 𝕄) (landed 𝒮 k c) := by
  unfold landed; split <;> infer_instance
instance extra_storable (k : ℕ) (c : Dev nD) : BI.Storable (upEmb : UEmb _ 𝕄) (extra (F := F) k c) := by
  unfold extra; (repeat' split) <;> infer_instance
instance localPay_storable (w : ℕ) (c : Dev nD) : BI.Storable (upEmb : UEmb _ 𝕄) (localPay 𝒮 m w c) := by
  unfold localPay; split <;> infer_instance
instance pay_storable (i : ℕ) (c : Dev nD) : BI.Storable (upEmb : UEmb _ 𝕄) (pay 𝒮 m i c) := by
  unfold pay; (repeat' split) <;> infer_instance

instance rd_storable (g : GSem nD τ sig) (r : ℕ) (d : Bool) :
    BI.Storable (upEmb : UEmb _ 𝕄) ((rd 𝒮 m).payload g r d) := by
  show BI.Storable upEmb (rdPayload 𝒮 m g d)
  unfold rdPayload; split
  · unfold barPay; infer_instance
  · infer_instance

theorem duties_later (g : GSem nD τ sig) : ∀ r, 1 ≤ r → (rd 𝒮 m).duties g r = ∅ :=
  fun r hr => if_neg (by omega)
theorem duties_dma (c : Dev nD) (i : DmaSem sig) : (rd 𝒮 m).duties (dcell c i) 0 = {false} := rfl
theorem duties_bar (c : Dev nD) : (rd 𝒮 m).duties (bcell c) 0 = Finset.univ := rfl
theorem amount_dma (c : Dev nD) (i : DmaSem sig) (d : Bool) : (rd 𝒮 m).amount (dcell c i) 0 d = amt i.val := rfl
theorem amount_bar (c : Dev nD) (d : Bool) : (rd 𝒮 m).amount (bcell c) 0 d = 1 := rfl
theorem payload_dma (c : Dev nD) (i : DmaSem sig) (d : Bool) : (rd 𝒮 m).payload (dcell c i) 0 d = pay 𝒮 m i.val c := rfl
theorem payload_bar (c : Dev nD) (d : Bool) : (rd 𝒮 m).payload (bcell c) 0 d = barPay d c := rfl

theorem expect_dma (c : Dev nD) (i : DmaSem sig) : (rd 𝒮 m).expect (dcell c i) 0 = amt i.val := by
  unfold Schedule.expect Schedule.amountOf; rw [duties_dma, Finset.sum_singleton, amount_dma]
theorem expect_bar (c : Dev nD) : (rd 𝒮 m).expect (bcell c) 0 = 2 := by
  unfold Schedule.expect Schedule.amountOf
  rw [duties_bar, Finset.sum_congr rfl fun d _ => amount_bar 𝒮 m c d, Finset.sum_const, Finset.card_univ, Fintype.card_bool, smul_eq_mul]

theorem rest_dma (c : Dev nD) (i : DmaSem sig) :
    bigSep ((rd 𝒮 m).duties (dcell c i) 0 \ ∅) (fun d => (rd 𝒮 m).payload (dcell c i) 0 d) = pay 𝒮 m i.val c := by
  rw [Finset.sdiff_empty, duties_dma, bigSep_singleton, payload_dma]
theorem rest_bar (c : Dev nD) :
    bigSep ((rd 𝒮 m).duties (bcell c) 0 \ ∅) (fun d => (rd 𝒮 m).payload (bcell c) 0 d) = iprop(barPay true c ∗ barPay false c) := by
  rw [Finset.sdiff_empty, duties_bar, bigSep_univ_eq_bigSepL [true, false] (by decide) (by decide), bigSepL_cons_cons, bigSepL_singleton,
    payload_bar, payload_bar]
  rfl

end Rd

/-! ## What is owed, and the levels -/

/-- The exchanges in the order they start. -/
def order : List ℕ := [0, 1, 2, 3, 4, 5, 8, 9, 6, 7, 10, 11, 12, 13, 16, 17, 14, 15, 18, 19, 20, 21, 22, 23, 24]

/-- What device `c` owes while the exchanges of the list are still to start. -/
def Orem (c : Dev nD) : List ℕ → CellTallies nD τ sig Unit
  | [] => 0
  | k :: l => Orem c l + tallyAt (dcell (pr k c) (rS k)) () (amtX k)
/-- At launch it owes the barrier units too: the signal to `aD` comes first. -/
def O₁ (c : Dev nD) : CellTallies nD τ sig Unit := Orem c order + tallyAt (bcell (bD c)) () 1
def O₀ (c : Dev nD) : CellTallies nD τ sig Unit := O₁ c + tallyAt (bcell (aD c)) () 1

def L (g : GSem nD τ sig) : Finset Unit := if g.1.2 = .tc then {()} else ∅
def lv (g : GSem nD τ sig) (_ : Unit) : ℕ := match g.2 with
  | .reg _ => 1
  | .dma i => if i.val < 33 then 0 else 2 + order.idxOf (i.val - 33)

theorem L_of_ne (g : GSem nD τ sig) (h : g.1.2 ≠ .tc) : L g = ∅ := if_neg h
theorem L_tc (c : Dev nD) (sm : SemLoc sig) : L ((c : Thread nD τ), sm) = {()} := if_pos rfl

theorem Orem_pos {c : Dev nD} {l : List ℕ} {g : GSem nD τ sig} {u : Unit} (h : 0 < Orem c l g u) :
    ∃ k ∈ l, g = dcell (pr k c) (rS k) := by
  induction l with
  | nil => exact absurd h (Nat.lt_irrefl 0)
  | cons k l ih =>
    unfold Orem at h
    rw [Pi.add_apply, Finsupp.add_apply, tallyAt_apply] at h
    by_cases hg : g = dcell (pr k c) (rS k)
    · exact ⟨k, List.mem_cons_self, hg⟩
    · rw [if_neg (fun h' => hg h'.1), Nat.add_zero] at h
      obtain ⟨k', hk', e⟩ := ih h
      exact ⟨k', List.mem_cons_of_mem _ hk', e⟩

theorem add_tally_pos {O : CellTallies nD τ sig Unit} {g g' : GSem nD τ sig} {u u' : Unit} {n : ℕ} (h : 0 < (O + tallyAt g' u' n) g u) :
    0 < O g u ∨ g = g' := by
  rw [Pi.add_apply, Finsupp.add_apply, tallyAt_apply] at h
  by_cases hg : g = g'
  · exact .inr hg
  · rw [if_neg (fun h' => hg h'.1), Nat.add_zero] at h
    exact .inl h

theorem O₀_pos {c : Dev nD} {g : GSem nD τ sig} {u : Unit} (h : 0 < O₀ c g u) :
    (∃ k ∈ order, g = dcell (pr k c) (rS k)) ∨ g = bcell (bD c) ∨ g = bcell (aD c) := by
  rcases add_tally_pos h with h | h
  · rcases add_tally_pos h with h | h
    · exact .inl (Orem_pos h)
    · exact .inr (.inl h)
  · exact .inr (.inr h)

theorem rS_val {k : ℕ} (hk : k < 25) : (rS k).val = 33 + k := by
  show (33 + k) % 58 = 33 + k
  omega

theorem lv_dma (c : Dev nD) (i : DmaSem sig) (u : Unit) :
    lv (dcell c i) u = if i.val < 33 then 0 else 2 + order.idxOf (i.val - 33) := rfl

theorem lv_rS (c : Dev nD) {k : ℕ} (hk : k < 25) (u : Unit) : lv (dcell c (rS k)) u = 2 + order.idxOf k := by
  rw [lv_dma, rS_val hk, if_neg (by omega), Nat.add_sub_cancel_left]

/-- A wait is admitted when every exchange still to start lands on a semaphore of a higher level. -/
theorem mayWait (c : Dev nD) (sm : SemLoc sig) (l : List ℕ)
    (h : ∀ k ∈ l, lv ((c : Thread nD τ), sm) () < 2 + order.idxOf k ∧ k < 25) :
    (levAts L lv : sProp 𝕄) ⊢ MayWait (c : Thread nD τ) sm () (Orem c l) := by
  refine MayOwe.of_cut (L := L) (lev := lv) (lv ((c : Thread nD τ), sm) ()) ?_ ?_ ?_ ?_
  · intro p hp; rw [Finset.mem_singleton.mp hp, L_tc]; exact Finset.mem_singleton_self _
  · intro g u hg
    obtain ⟨k, _, rfl⟩ := Orem_pos hg
    rw [L_tc]; exact Finset.mem_singleton_self _
  · intro p hp; rw [Finset.mem_singleton.mp hp]
  · intro g u hg
    obtain ⟨k, hk, rfl⟩ := Orem_pos hg
    obtain ⟨h1, h2⟩ := h k hk
    rw [lv_rS _ h2]
    exact h1

end Cert.KernelIdeal.Pf
end
-- ==== Proof.KernelIdeal.Geom.lean ====
/-
Which tiles a rectangle of a buffer covers.
-/
module

public import proofs.«01_k».proof.Proof.KernelIdeal.Sched

@[expose] public section

noncomputable section

namespace Cert.KernelIdeal.Pf

open Cert.KernelIdeal Cert.KernelIdeal.Gen
open Idealize.ShloMosaic
open Idealize.ShloMosaic.TcCoe
open Idealize.ShloMosaic.ValueIdx

/-- The rectangle of offsets `off` and sizes `size` is the row blocks `R` and the column halves `H`. -/
def fits (off size : Fin 2 → ℕ) (R : Fin 4 → Bool) (H : Fin 2 → Bool) : Prop :=
  (off 0 % 64 = 0 ∧ size 0 % 64 = 0 ∧ off 1 % 256 = 0 ∧ size 1 % 256 = 0)
    ∧ (∀ r : Fin 4, R r = decide (off 0 ≤ 64 * r.val ∧ 64 * r.val < off 0 + size 0))
    ∧ (∀ h : Fin 2, H h = decide (off 1 ≤ 256 * h.val ∧ 256 * h.val < off 1 + size 1))

instance (off size : Fin 2 → ℕ) (R : Fin 4 → Bool) (H : Fin 2 → Bool) : Decidable (fits off size R H) := by
  unfold fits; infer_instance

theorem fits_row {off size : Fin 2 → ℕ} {R : Fin 4 → Bool} {H : Fin 2 → Bool} (hf : fits off size R H) {x : ℕ} (hx : x < 256) :
    R (Fin.ofNat 4 (x / 64)) = true ↔ off 0 ≤ x ∧ x < off 0 + size 0 := by
  obtain ⟨⟨h0, h1, -, -⟩, hR, -⟩ := hf
  rw [hR, decide_eq_true_iff]
  have e : (Fin.ofNat 4 (x / 64)).val = x / 64 := Nat.mod_eq_of_lt (by omega)
  rw [e]; omega

theorem fits_col {off size : Fin 2 → ℕ} {R : Fin 4 → Bool} {H : Fin 2 → Bool} (hf : fits off size R H) {y : ℕ} (hy : y < 512) :
    H (Fin.ofNat 2 (y / 256)) = true ↔ off 1 ≤ y ∧ y < off 1 + size 1 := by
  obtain ⟨⟨-, -, h0, h1⟩, -, hH⟩ := hf
  rw [hH, decide_eq_true_iff]
  have e : (Fin.ofNat 2 (y / 256)).val = y / 256 := Nat.mod_eq_of_lt (by omega)
  rw [e]; omega

theorem bx_true {S R : Fin 4 → Bool} {H : Fin 2 → Bool} {t : Tile} : bx S R H t = true ↔ S t.1 = true ∧ R t.2.1 = true ∧ H t.2.2 = true := by
  unfold bx; rw [Bool.and_eq_true, Bool.and_eq_true, and_assoc]

/-- In a buffer of up to 256 rows and 512 columns. -/
theorem set2 {Rw : ℕ} (hRw : Rw ≤ 256) {off size : Fin 2 → ℕ} {inb} {S R : Fin 4 → Bool} {H : Fin 2 → Bool} (hS : S 0 = true) (hf : fits off size R H) :
    (Rect.unit (s := ⟨2, ![Rw, 512]⟩) off size inb).set = tset ⟨2, ![Rw, 512]⟩ (bx S R H) := by
  ext i
  rw [Rect.mem_set_unit, mem_tset, bx_true]
  have h0 : (i 0).val < 256 := lt_of_lt_of_le (i 0).isLt hRw
  have h1 : (i 1).val < 512 := (i 1).isLt
  show (∀ a : Fin 2, _) ↔ S 0 = true ∧ R (Fin.ofNat 4 ((i 0).val / 64)) = true ∧ H (Fin.ofNat 2 ((i 1).val / 256)) = true
  rw [fits_row hf h0, fits_col hf h1, Fin.forall_fin_two]
  exact ⟨fun h => ⟨hS, h⟩, fun h => h.2⟩

/-- In the hidden layer's buffer, over all columns. -/
theorem set2h {off size : Fin 2 → ℕ} {inb} {S R : Fin 4 → Bool} {H : Fin 2 → Bool} (hS : S 0 = true) (hf : fits off size R H)
    (hoff : off 1 = 0) (hsize : size 1 = 1024) :
    (Rect.unit (s := ⟨2, ![256, 1024]⟩) off size inb).set = tset ⟨2, ![256, 1024]⟩ (bx S R H) := by
  ext i
  rw [Rect.mem_set_unit, mem_tset, bx_true]
  have h0 : (i 0).val < 256 := (i 0).isLt
  have h1 : (i 1).val < 1024 := (i 1).isLt
  show (∀ a : Fin 2, _) ↔ S 0 = true ∧ R (Fin.ofNat 4 ((i 0).val / 64)) = true ∧ H (Fin.ofNat 2 ((i 1).val / 256)) = true
  rw [fits_row hf h0, Fin.forall_fin_two]
  refine ⟨fun h => ⟨hS, h.1, ?_⟩, fun h => ⟨h.2.1, ?_⟩⟩
  · rw [hf.2.2, decide_eq_true_iff, hoff, hsize]
    have := (Fin.ofNat 2 ((i 1).val / 256)).isLt
    omega
  · rw [hoff, hsize]; omega

/-- In the landing buffer. -/
theorem set3 {off size : Fin 3 → ℕ} {inb} {S R : Fin 4 → Bool} {H : Fin 2 → Bool} (hsz : size 0 = 1) (hS : ∀ s : Fin 4, S s = decide (s.val = off 0))
    (hf : fits (fun a => off a.succ) (fun a => size a.succ) R H) :
    (Rect.unit (s := ⟨3, ![4, 256, 512]⟩) off size inb).set = tset ⟨3, ![4, 256, 512]⟩ (bx S R H) := by
  ext i
  rw [Rect.mem_set_unit, mem_tset, bx_true]
  have h0 : (i 0).val < 4 := (i 0).isLt
  have h1 : (i 1).val < 256 := (i 1).isLt
  have h2 : (i 2).val < 512 := (i 2).isLt
  show (∀ a : Fin 3, _) ↔ S (Fin.ofNat 4 (i 0).val) = true ∧ R (Fin.ofNat 4 ((i 1).val / 64)) = true ∧ H (Fin.ofNat 2 ((i 2).val / 256)) = true
  rw [fits_row hf h1, fits_col hf h2, Fin.forall_fin_succ, Fin.forall_fin_two, hS, decide_eq_true_iff]
  have e : (Fin.ofNat 4 (i 0).val).val = (i 0).val := Nat.mod_eq_of_lt h0
  rw [e, hsz]
  refine and_congr ?_ Iff.rfl
  omega

/-- A slab of one of the weight buffers. -/
theorem set3w {A B : ℕ} {off size : Fin 3 → ℕ} {inb} (l : Fin 4) (h0 : off 0 = l.val) (hsz : size 0 = 1) (h1 : off 1 = 0) (h2 : off 2 = 0)
    (hA : size 1 = A) (hB : size 2 = B) :
    (Rect.unit (s := ⟨3, ![3, A, B]⟩) off size inb).set = tset ⟨3, ![3, A, B]⟩ (slT l) := by
  ext i
  unfold slT
  rw [Rect.mem_set_unit, mem_tset, bx_true]
  have i0 : (i 0).val < 3 := (i 0).isLt
  have i1 : (i 1).val < A := (i 1).isLt
  have i2 : (i 2).val < B := (i 2).isLt
  show (∀ a : Fin 3, _) ↔ (Fin.ofNat 4 (i 0).val == l) = true ∧ true = true ∧ true = true
  have e : (Fin.ofNat 4 (i 0).val).val = (i 0).val := Nat.mod_eq_of_lt (by omega)
  rw [beq_iff_eq, Fin.ext_iff, e, Fin.forall_fin_succ, Fin.forall_fin_two]
  show ((off 0 ≤ (i 0).val ∧ (i 0).val < off 0 + size 0) ∧ (off 1 ≤ (i 1).val ∧ (i 1).val < off 1 + size 1)
    ∧ (off 2 ≤ (i 2).val ∧ (i 2).val < off 2 + size 2)) ↔ (i 0).val = l.val ∧ true = true ∧ true = true
  rw [h0, h1, h2, hsz, hA, hB]
  exact ⟨fun h => ⟨by omega, rfl, rfl⟩, fun h => ⟨by omega, by omega, by omega⟩⟩

end Cert.KernelIdeal.Pf
end
-- ==== Proof.KernelIdeal.Steps.lean ====
/-
One operation at a time: a local copy, a send, the waits, a load of tiles, a store over tiles.
-/
module

public import proofs.«01_k».proof.Proof.KernelIdeal.Geom

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s program `p` runs to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds of the protocol -/

/-- The obligations left and the waits made so far; -/
def Ow (c : Dev nD) (l : List ℕ) : sProp 𝕄 := iprop(∃ W, owes (c : Thread nD τ) (Orem c l) W)

/-- the tokens of exchange `k` before it starts: both duties, both positions, the credit of what it receives; -/
def tok (k : ℕ) (c : Dev nD) : sProp 𝕄 :=
  iprop(dutyTok ER (dcell c (sS k)) 0 false ∗ dutyTok ER (dcell (pr k c) (rS k)) 0 false
    ∗ atPos ER (dcell c (sS k)) 0 ∅ 0 ∗ atPos ER (dcell c (rS k)) 0 ∅ 0 ∗ cred (tallyAt (dcell c (rS k)) () (amt (rS k).val)))
def roomIf (k : ℕ) (c : Dev nD) : sProp 𝕄 := if k < 20 then room k c else iprop(emp)
/-- the tokens, and the landing places already granted, of the exchanges left; -/
def Toks (c : Dev nD) : List ℕ → sProp 𝕄
  | [] => iprop(emp)
  | k :: l => iprop((tok (F := F) k c ∗ roomIf k c) ∗ Toks c l)
/-- the semaphores done with, at zero. -/
def Done (c : Dev nD) : List (DmaSem sig) → sProp 𝕄
  | [] => iprop(emp)
  | i :: l => iprop(semVal (dcell c i) 0 ∗ Done c l)
theorem Done_cons (c : Dev nD) (i : DmaSem sig) (l : List (DmaSem sig)) : Done (F := F) c (i :: l) = iprop(semVal (dcell c i) 0 ∗ Done c l) := rfl
/-- After `n` exchanges have started, -/
def St (c : Dev nD) (n : ℕ) (dn : List (DmaSem sig)) : sProp 𝕄 :=
  iprop(Ow (F := F) c (order.drop n) ∗ Toks c (order.drop n) ∗ Done c dn)
/-- A semaphore to wait for. -/
def XC (c : Dev nD) (i : DmaSem sig) : sProp 𝕄 :=
  iprop(cred (tallyAt (dcell c i) () (amt i.val)) ∗ atPos ER (dcell c i) 0 ∅ 0)

section Steps

variable (𝒮 : Spec F) (m : (ℓ : Loc nD τ sig) → Buf (Elt F) ℓ) (K : Dev nD × CellIx → ℕ)

/-- Every cell's invariant and that its round is open; the levels. -/
def records : sProp 𝕄 :=
  iprop((bigSep Finset.univ fun ck : Dev nD × CellIx => cellInv ER (rd 𝒮 m) (K ck) (kcell ck))
    ∗ (bigSep Finset.univ fun ck : Dev nD × CellIx => reached ER (kcell ck) 0) ∗ levAts L lv)

instance records_persistent : BI.Persistent (records 𝒮 m K) := by unfold records; infer_instance

theorem inv_at' (ck : Dev nD × CellIx) :
    (bigSep Finset.univ fun ck : Dev nD × CellIx => (cellInv ER (rd 𝒮 m) (K ck) (kcell ck) : sProp 𝕄)) ⊢ cellInv ER (rd 𝒮 m) (K ck) (kcell ck) :=
  bigSep_elim (Finset.mem_univ ck)
theorem reached_at' (ck : Dev nD × CellIx) :
    (bigSep Finset.univ fun ck : Dev nD × CellIx => (reached ER (kcell ck) 0 : sProp 𝕄)) ⊢ reached ER (kcell ck) 0 :=
  bigSep_elim (Finset.mem_univ ck)

theorem inv_at (ck : Dev nD × CellIx) : records 𝒮 m K ⊢ cellInv ER (rd 𝒮 m) (K ck) (kcell ck) := by
  unfold records
  iintro ⟨#HI, -, -⟩
  iapply (inv_at' 𝒮 m K ck)
  iexact HI
theorem reached_at (ck : Dev nD × CellIx) : records 𝒮 m K ⊢ reached ER (kcell ck) 0 := by
  unfold records
  iintro ⟨-, #HI, -⟩
  iapply (reached_at' (F := F) ck)
  iexact HI
theorem levs_at : records 𝒮 m K ⊢ levAts L lv := by
  unfold records
  iintro ⟨-, -, #HL⟩
  iexact HL

variable {α : Type} {Q : α → sProp (MT nD τ sig Unit (Elt F) ℕ UU ℕ)} (c : Dev nD)

/-! ## Waits -/

theorem wp_waitO (i : DmaSem sig) {l : List ℕ} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hs : sem = i) (ha : dst.view.dmaCredit = amt i.val)
    (hl : ∀ k ∈ l, lv (dcell c i) () < 2 + order.idxOf k ∧ k < 25) :
    records 𝒮 m K ⊢ iprop(Ow c l -∗ XC c i -∗ (Ow c l -∗ semVal (dcell c i) 0 -∗ pay 𝒮 m i.val c -∗ runs c (kk ⟨⟩) Q)
      -∗ runs c (.op (.waitDma2 sem src dst hsrc hdst) kk) Q) := by
  subst hs
  unfold XC Ow
  iintro #HR ⟨%W, HO⟩ ⟨Hc, Hp⟩ Hk
  rw [← ha]
  iapply (Rounds.wp_wait_rest_token 𝒱₀ ER (rd 𝒮 m) (c : Thread nD τ) none (κ := K (c, some sem))
      (wpE_waitDma2_eq 𝒱₀ (c : Thread nD τ) none Set.univ) (Set.mem_univ _) () (O := Orem c l) (W := W) (R := 0) (m := 0) (T := ∅)
      (by rw [Nat.zero_add, expect_dma, ha])) $$ [Hc HO Hp]
  · isplitr; · iapply (inv_at 𝒮 m K (c, some sem)); iexact HR
    isplitl [Hc]; · iexact Hc
    isplitl [HO]; · iexact HO
    isplitr; · iapply (mayWait c (.dma sem) _ hl); iapply (levs_at 𝒮 m K); iexact HR
    iexact Hp
  iintro ⟨HO, Hp, -, Hpay⟩
  ihave Hpay := (Entails.of_eq (rest_dma 𝒮 m c sem)) $$ Hpay
  imod (Rounds.cell_close ER (rd 𝒮 m) (Set.mem_univ (K (c, some sem))) (fun h => h) (R := 0 + 1) (duties_later 𝒮 m (dcell c sem))) $$ [Hp] with Hz
  · isplitr; · iapply (inv_at 𝒮 m K (c, some sem)); iexact HR
    iexact Hp
  iapply Hk $$ [HO] Hz Hpay
  iexists _; iexact HO

theorem wp_waitD (i : DmaSem sig) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hs : sem = i) (ha : dst.view.dmaCredit = amt i.val)
    (hl : ∀ k ∈ order.drop n, lv (dcell c i) () < 2 + order.idxOf k ∧ k < 25) :
    records 𝒮 m K ⊢ iprop(St c n dn -∗ XC c i -∗ (St c n (i :: dn) -∗ pay 𝒮 m i.val c -∗ runs c (kk ⟨⟩) Q)
      -∗ runs c (.op (.waitDma2 sem src dst hsrc hdst) kk) Q) := by
  unfold St
  iintro #HR ⟨HO, HT, HD⟩ HX Hk
  iapply (wp_waitO 𝒮 m K c i hs ha hl) $$ HR HO HX
  iintro HO Hz Hpay
  iapply Hk $$ [HO HT HD Hz] Hpay
  isplitl [HO]; · iexact HO
  isplitl [HT]; · iexact HT
  rw [Done_cons]
  isplitl [Hz]; · iexact Hz
  iexact HD

/-- On the sending side of exchange `k`; -/
theorem wp_waitS (k : ℕ) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hk : k < 25) (hs : sem = sS k) (ha : dst.view.dmaCredit = amtX k)
    (hl : ∀ k ∈ order.drop n, k < 25) :
    records 𝒮 m K ⊢ iprop(St c n dn -∗ XC c (sS k) -∗ (St c n (sS k :: dn) -∗ source 𝒮 k c -∗ runs c (kk ⟨⟩) Q)
      -∗ runs c (.op (.waitDma2 sem src dst hsrc hdst) kk) Q) := by
  have e : (sS k).val = 8 + k := by show (8 + k) % 58 = 8 + k; omega
  have ea : amt (sS k).val = amtX k := by
    rw [e]; unfold amt; rw [if_neg (by omega), if_pos (by omega), Nat.add_sub_cancel_left]
  have ep : pay 𝒮 m (sS k).val c = source 𝒮 k c := by
    rw [e]; unfold pay; rw [if_neg (by omega), if_pos (by omega), Nat.add_sub_cancel_left]
  have h := wp_waitD 𝒮 m K c (sS k) (n := n) (dn := dn) (hsrc := hsrc) (hdst := hdst) (kk := kk) (Q := Q) hs (ha.trans ea.symm)
    (fun k' hk' => ⟨by rw [lv_dma, e, if_pos (by omega)]; omega, hl k' hk'⟩)
  rw [ep] at h
  exact h

/-- on the receiving side, every exchange still to start being later; -/
theorem wp_waitR (k : ℕ) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hk : k < 25) (hs : sem = rS k) (ha : dst.view.dmaCredit = amtX k)
    (hl : ∀ k' ∈ order.drop n, order.idxOf k < order.idxOf k' ∧ k' < 25) :
    records 𝒮 m K ⊢ iprop(St c n dn -∗ XC c (rS k) -∗ (St c n (rS k :: dn) -∗ landed 𝒮 k c -∗ extra k c -∗ runs c (kk ⟨⟩) Q)
      -∗ runs c (.op (.waitDma2 sem src dst hsrc hdst) kk) Q) := by
  have e : (rS k).val = 33 + k := rS_val hk
  have ea : amt (rS k).val = amtX k := by
    rw [e]; unfold amt; rw [if_neg (by omega), if_neg (by omega), Nat.add_sub_cancel_left]
  have ep : pay 𝒮 m (rS k).val c = iprop(landed 𝒮 k c ∗ extra k c) := by
    rw [e]; unfold pay; rw [if_neg (by omega), if_neg (by omega), Nat.add_sub_cancel_left]
  have h := wp_waitD 𝒮 m K c (rS k) (n := n) (dn := dn) (hsrc := hsrc) (hdst := hdst) (kk := kk) (Q := Q) hs (ha.trans ea.symm)
    (fun k' hk' => ⟨by rw [lv_rS c hk]; have := (hl k' hk').1; omega, (hl k' hk').2⟩)
  rw [ep] at h
  iintro #HR HS HX Hk
  iapply h $$ HR HS HX
  iintro HS ⟨H1, H2⟩
  iapply Hk $$ HS H1 H2

/-- The semaphore of local copy `w`. -/
def wS (w : ℕ) : DmaSem sig := Fin.ofNat 58 w

/-- for a local copy. -/
theorem wp_waitL (w : ℕ) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hw : w < 8) (hs : sem = wS w) (ha : dst.view.dmaCredit = amtL w)
    (hl : ∀ k ∈ order.drop n, k < 25) :
    records 𝒮 m K ⊢ iprop(St c n dn -∗ XC c (wS w) -∗ (St c n (wS w :: dn) -∗ localPay 𝒮 m w c -∗ runs c (kk ⟨⟩) Q)
      -∗ runs c (.op (.waitDma2 sem src dst hsrc hdst) kk) Q) := by
  have e : (wS w).val = w := by show w % 58 = w; omega
  have ea : amt (wS w).val = amtL w := by rw [e]; unfold amt; rw [if_pos hw]
  have ep : pay 𝒮 m (wS w).val c = localPay 𝒮 m w c := by rw [e]; unfold pay; rw [if_pos hw]
  have h := wp_waitD 𝒮 m K c (wS w) (n := n) (dn := dn) (hsrc := hsrc) (hdst := hdst) (kk := kk) (Q := Q) hs (ha.trans ea.symm)
    (fun k' hk' => ⟨by rw [lv_dma, e, if_pos (by omega)]; omega, hl k' hk'⟩)
  rw [ep] at h
  exact h

/-! ## A local copy -/

/-- The tokens of a local copy before it starts. -/
def ltok (w : ℕ) (c : Dev nD) : sProp 𝕄 := iprop(dutyTok ER (dcell c (wS w)) 0 false ∗ atPos ER (dcell c (wS w)) 0 ∅ 0)

theorem wp_copyL (w : ℕ) {sp sp' : Space} {s : Shape} {e : EltTy} {sem : DmaSem sig}
    {src : Memref sig .tc sp s e} {dst : Memref sig .tc sp' s e} {hsrc : src.view.WordExact} {hdst : dst.view.WordExact}
    {hsem : DmaTarget.Typed (nD := nD) (p := (c : Thread nD τ).2) sp (.dma sem) (.here dst)}
    {kk : PUnit → Prog (TpuEff nD τ sig (Elt F) Λ₀ .tc) α} (hw : w < 8) (hs : sem = wS w) (ha : dst.view.dmaCredit = amtL w)
    {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ localPay 𝒮 m w c) :
    records 𝒮 m K ⊢ iprop(ltok w c -∗ (src.view.loc (c : Thread nD τ) ↦[src.view.set]{fullShare} fs)
        -∗ (dst.view.loc (c : Thread nD τ) ↦[dst.view.set]{fullShare} fd) -∗ (XC c (wS w) -∗ runs c (kk ⟨⟩) Q)
      -∗ runs c (.op (.enqueueDma src (.here dst) (.dma sem) hsrc hdst hsem) kk) Q) := by
  have e : (wS w).val = w := by show w % 58 = w; omega
  have ea : amt (wS w).val = amtL w := by rw [e]; unfold amt; rw [if_pos hw]
  have ep : pay 𝒮 m (wS w).val c = localPay 𝒮 m w c := by rw [e]; unfold pay; rw [if_pos hw]
  subst hs
  unfold ltok XC
  iintro #HR ⟨Ht, Hp⟩ Hs Hd Hk
  rw [ea]
  iapply (Rounds.wp_copy_pointsTo 𝒱₀ ER (rd 𝒮 m) (c : Thread nD τ) none (κ := K (c, some (wS w))) (r := 0) (d := false)
    (by rw [duties_dma]; exact Finset.mem_singleton_self _) () (amtL w) (show dst.view.amount (.dma (wS w)) = _ from ha) (by rw [amount_dma, ea])
    (by rw [payload_dma, ep]; exact hpay)) $$ [Hs Hd Ht]
  · isplitr; · iapply (inv_at 𝒮 m K (c, some (wS w))); iexact HR
    isplitl [Hs]; · iexact Hs
    isplitl [Hd]; · iexact Hd
    isplitl [Ht]; · iexact Ht
    iapply (reached_at 𝒮 m K (c, some (wS w))); iexact HR
  iintro Hc
  iapply Hk
  isplitl [Hc] <;> iassumption

/-! ## A send -/

theorem wp_sendX (k : ℕ) {l n : ℕ} {dn : List (DmaSem sig)} {p : Dev nD} {sp sp' : Space} {s : Shape} {e : EltTy} {s₁ s₂ : DmaSem sig}
    {src : Memref sig .tc sp s e} {dst : Memref sig .tc sp' s e} {hsc : dst.view.ref.isScScratch = false}
    {hsrc : src.view.WordExact} {hdst : dst.view.WordExact} {hsem : DmaTarget.Typed sp (.dma s₂) (.remote (Dev.tc p) dst (.dma s₁) hsc)}
    {kk : PUnit → Prog (TpuEff nD τ sig (Elt F) Λ₀ .tc) α} (hk : k < 25) (ho : order.drop n = k :: order.drop (n + 1))
    (hp : p = pr k c) (h₁ : s₁ = sS k) (h₂ : s₂ = rS k) (ha : dst.view.dmaCredit = amtX k)
    {q : PosShare TreeShare} {fs : Buf (Elt F) (src.view.loc (c : Thread nD τ))} {fd : Buf (Elt F) (dst.view.loc (pr k c : Thread nD τ))}
    (hback : (src.view.loc (c : Thread nD τ) ↦[src.view.set]{q} fs : sProp 𝕄) ⊢ source 𝒮 k c)
    (hland : (dst.view.loc (pr k c : Thread nD τ) ↦[dst.view.set]{fullShare} (dst.view.write (Elt F) fd (src.view.read (Elt F) fs) Finset.univ) : sProp 𝕄)
      ⊢ landed 𝒮 k (pr k c)) :
    records 𝒮 m K ⊢ iprop(Ow c (order.drop n) -∗ tok k c -∗ (src.view.loc (c : Thread nD τ) ↦[src.view.set]{q} fs)
        -∗ (dst.view.loc (pr k c : Thread nD τ) ↦[dst.view.set]{fullShare} fd) -∗ extra k (pr k c)
        -∗ (Ow c (order.drop (n + 1)) -∗ XC c (sS k) -∗ XC c (rS k) -∗ runs c (kk ⟨⟩) Q)
      -∗ runs c (.op (.enqueueDma src (.remote (Dev.tc p) dst (.dma s₁) hsc) (.dma s₂) hsrc hdst hsem) kk) Q) := by
  have e₁ : (sS k).val = 8 + k := by show (8 + k) % 58 = 8 + k; omega
  have e₂ : (rS k).val = 33 + k := rS_val hk
  have ea₁ : amt (sS k).val = amtX k := by
    rw [e₁]; unfold amt; rw [if_neg (by omega), if_pos (by omega), Nat.add_sub_cancel_left]
  have ea₂ : amt (rS k).val = amtX k := by
    rw [e₂]; unfold amt; rw [if_neg (by omega), if_neg (by omega), Nat.add_sub_cancel_left]
  have ep₁ : pay 𝒮 m (sS k).val c = source 𝒮 k c := by
    rw [e₁]; unfold pay; rw [if_neg (by omega), if_pos (by omega), Nat.add_sub_cancel_left]
  have ep₂ : pay 𝒮 m (rS k).val (pr k c) = iprop(landed 𝒮 k (pr k c) ∗ extra k (pr k c)) := by
    rw [e₂]; unfold pay; rw [if_neg (by omega), if_neg (by omega), Nat.add_sub_cancel_left]
  subst hp h₁ h₂
  unfold Ow tok XC
  rw [ho, ea₁, ea₂]
  iintro #HR ⟨%W, HO⟩ ⟨Ht1, Ht2, Hp1, Hp2, Hc2⟩ Hs Hd Hx Hk
  iapply (Rounds.wp_send_pointsTo_with 𝒱₀ ER (rd 𝒮 m) (c : Thread nD τ) none (κ₁ := K (c, some (sS k))) (κ₂ := K (pr k c, some (rS k)))
    (r₁ := 0) (r₂ := 0) (d₁ := false) (d₂ := false) (fd := fd) (F := extra k (pr k c))
    (by rw [duties_dma]; exact Finset.mem_singleton_self _) (by rw [duties_dma]; exact Finset.mem_singleton_self _)
    () () (amtX k) (show dst.view.amount (.dma (rS k)) = _ from ha) (by rw [amount_dma, ea₁]) (by rw [amount_dma, ea₂]) (Orem c (order.drop (n + 1))) rfl (W := W)
    (by rw [payload_dma, ep₁]; exact hback)
    (by rw [payload_dma, ep₂]; exact sep_mono_left hland)) $$ [HO Ht1 Ht2 Hs Hd Hx]
  · isplitr; · iapply (inv_at 𝒮 m K (c, some (sS k))); iexact HR
    isplitr; · iapply (inv_at 𝒮 m K (pr k c, some (rS k))); iexact HR
    isplitl [Hs]; · iexact Hs
    isplitl [Hd Hx]; · isplitl [Hd] <;> iassumption
    isplitl [HO]; · iexact HO
    isplitl [Ht1]; · iexact Ht1
    isplitr; · iapply (reached_at 𝒮 m K (c, some (sS k))); iexact HR
    isplitl [Ht2]; · iexact Ht2
    iapply (reached_at 𝒮 m K (pr k c, some (rS k))); iexact HR
  iintro ⟨Hc1, HO⟩
  iapply Hk $$ [HO] [Hc1 Hp1] [Hc2 Hp2]
  · iexists _; iexact HO
  · isplitl [Hc1] <;> iassumption
  · isplitl [Hc2] <;> iassumption

end Steps

end Cert.KernelIdeal.Pf
end
-- ==== Proof.KernelIdeal.Moves.lean ====
/-
Loads and stores of tiles, and the copies between buffers, by what the tiles hold.
-/
module

public import proofs.«01_k».proof.Proof.KernelIdeal.Steps

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Mem

variable (ok : Prop) (c : Dev nD) {α : Type} {Q : α → sProp (MT nD τ sig Unit (Elt F) ℕ UU ℕ)}
variable {cs : CoreSpace} {s : Shape} {e : EltTy} (M : Memref sig .tc cs s e)

/-- A load of tiles held: if the values are followed, what is read is known. -/
theorem wp_loadR {r : Rect s} {hl : M.view.LoadsAt r.toLoadRect} {kk : (r.toLoadRect.shape.Idx → Elt F e) → Prog (TpuEff nD τ sig (Elt F) Λ₀ .tc) α}
    {T T' : Tile → Bool} {q : PosShare TreeShare} {G : M.view.ref.ty.Contents (Elt F)}
    (hset : (M.access r).set = tset M.view.ref.ty.shape T') (hle : ∀ t, T' t = true → T t = true) :
    reg ok c M.view.ref T q G
      ⊢ iprop((∀ v, ⌜ok → v = (M.access r).read (Elt F) G⌝ -∗ reg ok c M.view.ref T q G -∗ runs c (kk v) Q)
        -∗ runs c (.op (.load M r.toLoadRect hl) kk) Q) := by
  have hS : (M.access r).set ⊆ tset M.view.ref.ty.shape T := by
    rw [hset]; intro i hi; exact mem_tset.mpr (hle _ (mem_tset.mp hi))
  unfold reg
  iintro ⟨%f, %hf, H⟩ Hk
  iapply (wp_load_rect 𝒱₀ (c : Thread nD τ) none Set.univ (m := M) (r := r) hS) $$ H
  iintro H
  iapply Hk $$ %((M.access r).read (Elt F) f) [] [H]
  · ipureintro
    intro hok
    exact View.read_congr (fun i hi => hf hok i (mem_tset.mp (hS hi)))
  · iexists f
    isplitr; · ipureintro; exact hf
    iexact H

/-- A load of tiles owned, nothing being known. -/
theorem wp_loadO {r : Rect s} {hl : M.view.LoadsAt r.toLoadRect} {kk : (r.toLoadRect.shape.Idx → Elt F e) → Prog (TpuEff nD τ sig (Elt F) Λ₀ .tc) α}
    {T T' : Tile → Bool} (hset : (M.access r).set = tset M.view.ref.ty.shape T') (hle : ∀ t, T' t = true → T t = true) :
    own c M.view.ref T
      ⊢ iprop((∀ v, own c M.view.ref T -∗ runs c (kk v) Q)
        -∗ runs c (.op (.load M r.toLoadRect hl) kk) Q) := by
  have hS : (M.access r).set ⊆ tset M.view.ref.ty.shape T := by
    rw [hset]; intro i hi; exact mem_tset.mpr (hle _ (mem_tset.mp hi))
  unfold own
  iintro ⟨%f, H⟩ Hk
  iapply (wp_load_rect 𝒱₀ (c : Thread nD τ) none Set.univ (m := M) (r := r) hS) $$ H
  iintro H
  iapply Hk $$ %((M.access r).read (Elt F) f)
  iexists f
  iexact H

/-- A store over exactly the tiles owned. -/
theorem wp_storeO {r : Rect s} {w : r.shape.Idx → Elt F e} {hx : (M.access r).Stores Finset.univ} {hm}
    {kk : PUnit → Prog (TpuEff nD τ sig (Elt F) Λ₀ .tc) α}
    {T : Tile → Bool} {G : M.view.ref.ty.Contents (Elt F)} (hset : (M.access r).set = tset M.view.ref.ty.shape T)
    (hval : ok → w = (M.access r).read (Elt F) G) :
    own c M.view.ref T
      ⊢ iprop((reg ok c M.view.ref T fullShare G -∗ runs c (kk ⟨⟩) Q)
        -∗ runs c (.op (.store M r w Finset.univ hx hm) kk) Q) := by
  unfold own reg
  iintro ⟨%f, H⟩ Hk
  iapply (wp_store 𝒱₀ (c : Thread nD τ) none Set.univ (m := M) (r := r) (Mk := Finset.univ)
    (by rw [View.setOn_univ]; exact hset.le)) $$ H
  iintro H
  iapply Hk
  iexists _
  isplitr
  rotate_left
  · iexact H
  · ipureintro
    intro hok i hi
    rw [← mem_tset (s := M.view.ref.ty.shape), ← hset] at hi
    obtain ⟨j, -, rfl⟩ := Finset.mem_map.mp hi
    rw [View.write_emb_of_mem _ _ (Finset.mem_univ j), hval hok, View.read_apply, cast_cast]
    rfl

end Mem

/-! ## The exchanges -/

theorem Toks_cons (c : Dev nD) (k : ℕ) (l : List ℕ) : Toks (F := F) c (k :: l) = iprop((tok k c ∗ roomIf k c) ∗ Toks c l) := rfl

theorem source_lt {𝒮 : Spec F} {k : ℕ} {c : Dev nD} (h : k < 4) :
    source 𝒮 k c = reg 𝒮.ok c cc0_scratch0 (srcT k c) (shr k) (cont 𝒮 k c) := if_pos h
theorem source_ge {𝒮 : Spec F} {k : ℕ} {c : Dev nD} (h : ¬ k < 4) :
    source 𝒮 k c = reg 𝒮.ok c cc0_scratch2 (srcT k c) fullShare (cont 𝒮 k c) := if_neg h
theorem room_lt {k : ℕ} {c : Dev nD} (h : k < 4) : room (F := F) k c = own (pr k c) cc0_scratch0 (srcT k c) := if_pos h
theorem room_ge {k : ℕ} {c : Dev nD} (h : ¬ k < 4) : room (F := F) k c = own (pr k c) cc0_scratch3 (dstT k c) := if_neg h
theorem landed_lt {𝒮 : Spec F} {k : ℕ} {c : Dev nD} (h : k < 4) :
    landed 𝒮 k c = reg 𝒮.ok c cc0_scratch0 (srcT k (pr k c)) fullShare (cont 𝒮 k (pr k c)) := if_pos h
theorem landed_ge {𝒮 : Spec F} {k : ℕ} {c : Dev nD} (h : ¬ k < 4) :
    landed 𝒮 k c = reg 𝒮.ok c cc0_scratch3 (dstT k (pr k c)) fullShare (slab4 (cont 𝒮 k (pr k c))) := if_neg h

section Sends

variable (𝒮 : Spec F) (m : (ℓ : Loc nD τ sig) → Buf (Elt F) ℓ) (K : Dev nD × CellIx → ℕ)
variable (c : Dev nD) {α : Type} {Q : α → sProp (MT nD τ sig Unit (Elt F) ℕ UU ℕ)}

abbrev M0 : Memref sig .tc .vmem S256x512 .bf16 := Memref.whole cc0_scratch0
abbrev M2 : Memref sig .tc .vmem S256x512 .bf16 := Memref.whole cc0_scratch2
abbrev M3 : Memref sig .tc .vmem S4x256x512 .bf16 := Memref.whole cc0_scratch3

/-- An exchange of the first layer's input: the same rows of the same buffer, here and there. -/
theorem wp_send0 (k : ℕ) {n : ℕ} {dn : List (DmaSem sig)} {p : Dev nD} {r : Rect S256x512} {hr : ∀ a, r.stride a = 1} {s₁ s₂ : DmaSem sig}
    {hsc : (M0.slice r hr).view.ref.isScScratch = false} {hsrc : (M0.slice r hr).view.WordExact} {hdst : (M0.slice r hr).view.WordExact}
    {hsem : DmaTarget.Typed .vmem (.dma s₂) (.remote (Dev.tc p) (M0.slice r hr) (.dma s₁) hsc)}
    {kk : PUnit → Prog (TpuEff nD τ sig (Elt F) Λ₀ .tc) α} (hk : k < 4) (ho : order.drop n = k :: order.drop (n + 1))
    (hh : p = pr k c ∧ s₁ = sS k ∧ s₂ = rS k) (ha : (M0.slice r hr).view.dmaCredit = amtX k)
    (hset : r.set = tset S256x512 (srcT k c)) (hcont : cont 𝒮 k (pr k (pr k c)) = cont 𝒮 k c) :
    records 𝒮 m K ⊢ iprop(St c n dn -∗ source 𝒮 k c
        -∗ (St c (n + 1) dn -∗ XC c (sS k) -∗ XC c (rS k) -∗ runs c (kk ⟨⟩) Q)
      -∗ runs c (.op (.enqueueDma (M0.slice r hr) (.remote (Dev.tc p) (M0.slice r hr) (.dma s₁) hsc) (.dma s₂) hsrc hdst hsem) kk) Q) := by
  obtain ⟨hp, h₁, h₂⟩ := hh
  have hset' : (M0.slice r hr).view.set = tset cc0_scratch0.ty.shape (srcT k c) := (View.set_slice_whole cc0_scratch0 r).trans hset
  rw [source_lt hk]
  unfold St reg
  rw [ho, Toks_cons]
  unfold roomIf
  rw [if_pos (show k < 20 by omega), room_lt hk]
  unfold own
  iintro #HR ⟨HO, ⟨⟨Ht, %fd, Hd⟩, HT⟩, HD⟩ ⟨%f, %hf, Hs⟩ Hk
  rw [← hset', ← ho]
  iapply (wp_sendX 𝒮 m K c k (src := M0.slice r hr) (dst := M0.slice r hr) (l := 0) (dn := dn) (q := shr k) (fs := f) (fd := fd) (by omega) ho hp h₁ h₂ ha ?_ ?_) $$ HR HO Ht Hs Hd []
  · rw [source_lt hk, hset']; unfold reg
    iintro H; iexists f; isplitr; · ipureintro; exact hf
    iexact H
  · rw [landed_lt hk, pr_pr, hset']; unfold reg
    iintro H; iexists _
    isplitr
    rotate_left
    · iexact H
    · ipureintro
      intro hok i hi
      rw [← mem_tset (s := cc0_scratch0.ty.shape), ← hset'] at hi
      obtain ⟨j, -, rfl⟩ := Finset.mem_map.mp hi
      rw [View.write_emb_of_mem _ _ (Finset.mem_univ j), View.read_apply, cast_cast]
      exact hf hok _ (mem_tset.mp (hset' ▸ hi))
  · unfold extra; rw [if_neg (by omega), if_neg (by omega)]; iempintro
  iintro HO H1 H2
  iapply Hk $$ [HO HT HD] H1 H2
  isplitl [HO]; · iexact HO
  isplitl [HT]; · iexact HT
  iexact HD

theorem unsqueeze {a b : ℕ} (h : (⟨2, ![a, b]⟩ : Shape).numel = (⟨3, ![1, a, b]⟩ : Shape).numel) (j : (⟨2, ![a, b]⟩ : Shape).Idx) :
    Shape.reshapeEquiv h j = ix3 (⟨0, Nat.one_pos⟩ : Fin 1) (j 0) (j 1) := by
  refine Eq.trans (congrArg _ ?_) (reshapeEquiv_ix2_1ab h (j 0) (j 1))
  funext a; revert a
  exact Fin.forall_fin_two.mpr ⟨rfl, rfl⟩

/-- What the sender hands over with exchange `k`: the landing place, of the last five, and what `extra` says. -/
def hands (k : ℕ) (c : Dev nD) : sProp 𝕄 := iprop((if k < 20 then iprop(emp) else room (F := F) k c) ∗ extra k (pr k c))

theorem hands_none {k : ℕ} {c : Dev nD} (h : k < 20 ∧ k ≠ 12 ∧ k ≠ 16) : (iprop(emp) : sProp 𝕄) ⊢ hands k c := by
  unfold hands extra
  rw [if_pos h.1, if_neg h.2.1, if_neg h.2.2]
  iintro -
  isplitr <;> iempintro

theorem room_hands (k : ℕ) (c : Dev nD) : iprop(roomIf (F := F) k c ∗ hands k c) ⊢ iprop(room k c ∗ extra k (pr k c)) := by
  unfold roomIf hands
  by_cases h20 : k < 20
  · rw [if_pos h20, if_pos h20]
    iintro ⟨H, -, Hx⟩
    isplitl [H] <;> iassumption
  · rw [if_neg h20, if_neg h20]
    iintro ⟨-, H, Hx⟩
    isplitl [H] <;> iassumption

/-- An exchange of partial sums: into the slab of the landing buffer there. -/
theorem wp_sendZ (k : ℕ) {n : ℕ} {dn : List (DmaSem sig)} {p : Dev nD} {nn w : ℕ} {off : Fin 2 → ℕ} {off3 : Fin 3 → ℕ} {inb inb3} {s₁ s₂ : DmaSem sig}
    {hr : ∀ a, (Rect.unit (s := S256x512) off ![nn, w] inb).stride a = 1} {hr3 : ∀ a, (Rect.unit (s := S4x256x512) off3 ![1, nn, w] inb3).stride a = 1}
    {hq : (Rect.unit (s := S4x256x512) off3 ![1, nn, w] inb3).shape.Squeezes ⟨2, ![nn, w]⟩}
    {hsc : ((M3.slice (Rect.unit (s := S4x256x512) off3 ![1, nn, w] inb3) hr3).squeeze ⟨2, ![nn, w]⟩ hq).view.ref.isScScratch = false}
    {hsrc : (M2.slice (Rect.unit (s := S256x512) off ![nn, w] inb) hr).view.WordExact}
    {hdst : ((M3.slice (Rect.unit (s := S4x256x512) off3 ![1, nn, w] inb3) hr3).squeeze ⟨2, ![nn, w]⟩ hq).view.WordExact}
    {hsem : DmaTarget.Typed .vmem (.dma s₂) (.remote (Dev.tc p) ((M3.slice (Rect.unit (s := S4x256x512) off3 ![1, nn, w] inb3) hr3).squeeze ⟨2, ![nn, w]⟩ hq) (.dma s₁) hsc)}
    {kk : PUnit → Prog (TpuEff nD τ sig (Elt F) Λ₀ .tc) α} (hk : ¬ k < 4 ∧ k < 25) (ho : order.drop n = k :: order.drop (n + 1))
    (hh : p = pr k c ∧ s₁ = sS k ∧ s₂ = rS k)
    (ha : ((M3.slice (Rect.unit (s := S4x256x512) off3 ![1, nn, w] inb3) hr3).squeeze ⟨2, ![nn, w]⟩ hq).view.dmaCredit = amtX k)
    (hg : fits off ![nn, w] (rows k c) (half k) ∧ off3 0 = (slab k).val ∧ off3 1 = off 0 ∧ off3 2 = off 1) :
    records 𝒮 m K ⊢ iprop(St c n dn -∗ reg 𝒮.ok c cc0_scratch2 (srcT k c) fullShare (cont 𝒮 k c) -∗ hands k c
        -∗ (St c (n + 1) dn -∗ XC c (sS k) -∗ XC c (rS k) -∗ runs c (kk ⟨⟩) Q)
      -∗ runs c (.op (.enqueueDma (M2.slice (Rect.unit (s := S256x512) off ![nn, w] inb) hr)
          (.remote (Dev.tc p) ((M3.slice (Rect.unit (s := S4x256x512) off3 ![1, nn, w] inb3) hr3).squeeze ⟨2, ![nn, w]⟩ hq) (.dma s₁) hsc)
          (.dma s₂) hsrc hdst hsem) kk) Q) := by
  obtain ⟨hp, h₁, h₂⟩ := hh
  obtain ⟨hf, h0, h1, h2⟩ := hg
  have hset : (M2.slice (Rect.unit (s := S256x512) off ![nn, w] inb) hr).view.set = tset cc0_scratch2.ty.shape (srcT k c) :=
    (View.set_slice_whole cc0_scratch2 _).trans (set2 (Rw := 256) le_rfl (by decide) hf)
  have hf3 : fits (fun a => off3 a.succ) (fun a => (![1, nn, w] : Fin 3 → ℕ) a.succ) (rows k c) (half k) := by
    have e : (fun a : Fin 2 => off3 a.succ) = off := by
      funext a; revert a; rw [Fin.forall_fin_two]; exact ⟨h1, h2⟩
    rw [e]; exact hf
  have hset3 : ((M3.slice (Rect.unit (s := S4x256x512) off3 ![1, nn, w] inb3) hr3).squeeze ⟨2, ![nn, w]⟩ hq).view.set = tset S4x256x512 (dstT k c) := by
    refine (View.set_reshape _ _).trans ((View.set_slice_whole cc0_scratch3 _).trans (set3 rfl (fun s => ?_) hf3))
    rw [h0, Bool.eq_iff_iff, beq_iff_eq, decide_eq_true_iff, Fin.ext_iff]
  unfold St reg
  rw [ho, Toks_cons]
  iintro #HR ⟨HO, ⟨⟨Ht, Hroom⟩, HT⟩, HD⟩ ⟨%f, %hf', Hs⟩ Hh Hk
  ihave Hrx := (show iprop(roomIf (F := F) k c ∗ hands k c) ⊢ iprop((∃ f : Buf (Elt F) ((pr k c : Thread nD τ).loc cc0_scratch3), (((pr k c : Thread nD τ).loc cc0_scratch3) ↦[tset S4x256x512 (dstT k c)]{fullShare} f)) ∗ extra k (pr k c)) from (room_hands k c).trans (by rw [room_ge hk.1]; exact .rfl)) $$ [Hroom Hh]
  · isplitl [Hroom] <;> iassumption
  icases Hrx with ⟨⟨%fd, Hd⟩, Hx⟩
  rw [← hset, ← hset3, ← ho]
  iapply (wp_sendX 𝒮 m K c k (src := M2.slice (Rect.unit (s := S256x512) off ![nn, w] inb) hr)
    (dst := (M3.slice (Rect.unit (s := S4x256x512) off3 ![1, nn, w] inb3) hr3).squeeze ⟨2, ![nn, w]⟩ hq) (l := 0) (dn := dn) (q := fullShare) (fs := f) (fd := fd) hk.2 ho hp h₁ h₂ ha ?_ ?_) $$ HR HO Ht Hs Hd Hx
  · rw [source_ge hk.1, hset]; unfold reg
    iintro H; iexists f; isplitr; · ipureintro; exact hf'
    iexact H
  · rw [landed_ge hk.1, pr_pr, hset3]; unfold reg
    iintro H; iexists _
    isplitr
    rotate_left
    · iexact H
    · ipureintro
      intro hok i hi
      rw [← mem_tset (s := S4x256x512), ← hset3] at hi
      obtain ⟨j, -, rfl⟩ := Finset.mem_map.mp hi
      rw [View.write_emb_of_mem _ _ (Finset.mem_univ j), View.read_apply, cast_cast]
      have hj : (M2.slice (Rect.unit (s := S256x512) off ![nn, w] inb) hr).view.emb j ∈ tset cc0_scratch2.ty.shape (srcT k c) := by
        rw [← hset]; exact View.emb_mem_set _ j
      refine (hf' hok _ (mem_tset.mp hj)).trans ?_
      have ej := unsqueeze hq.numel_eq j
      show cont 𝒮 k c _ = cont 𝒮 k c _
      congr 1
      funext a
      revert a
      refine Fin.forall_fin_two.mpr ⟨?_, ?_⟩
      · apply Fin.ext
        show off 0 + 1 * (j 0).val = off3 1 + 1 * (Shape.reshapeEquiv hq.numel_eq j 1).val
        rw [ej, h1]; rfl
      · apply Fin.ext
        show off 1 + 1 * (j 1).val = off3 2 + 1 * (Shape.reshapeEquiv hq.numel_eq j 2).val
        rw [ej, h2]; rfl
  iintro HO H1 H2
  iapply Hk $$ [HO HT HD] H1 H2
  isplitl [HO]; · iexact HO
  isplitl [HT]; · iexact HT
  iexact HD

/-! ## The local copies -/

abbrev M6 : Memref sig .tc .vmem S3x512x1024 .f32 := Memref.whole cc0_scratch6

/-- A layer's weight into its slab (`w1`). -/
theorem wp_copy1 (w : ℕ) (l : Fin 3) {src : Memref sig .tc .hbm S512x1024 .f32} {off : Fin 3 → ℕ} {inb} {sem : DmaSem sig}
    {hr : ∀ a, (Rect.unit (s := S3x512x1024) off ![1, 512, 1024] inb).stride a = 1}
    {hq : (Rect.unit (s := S3x512x1024) off ![1, 512, 1024] inb).shape.Squeezes S512x1024} {hsrc : src.view.WordExact}
    {hdst : ((M6.slice (Rect.unit (s := S3x512x1024) off ![1, 512, 1024] inb) hr).squeeze S512x1024 hq).view.WordExact}
    {hsem : DmaTarget.Typed (nD := nD) (p := (c : Thread nD τ).2) .hbm (.dma sem) (.here ((M6.slice (Rect.unit (s := S3x512x1024) off ![1, 512, 1024] inb) hr).squeeze S512x1024 hq))}
    {kk : PUnit → Prog (TpuEff nD τ sig (Elt F) Λ₀ .tc) α} (hw : w < 8) (hs : sem = wS w)
    (ha : ((M6.slice (Rect.unit (s := S3x512x1024) off ![1, 512, 1024] inb) hr).squeeze S512x1024 hq).view.dmaCredit = amtL w)
    (h0 : off 0 = l.val) (h1 : off 1 = 0) (h2 : off 2 = 0) {fs : Buf (Elt F) (src.view.loc (c : Thread nD τ))} (hu : src.view.set = Finset.univ)
    (hfs : ∀ j : S512x1024.Idx, src.view.read (Elt F) fs j = w1 m c (ix3 l (j 0) (j 1)))
    (hp : localPay 𝒮 m w c = iprop(reg True c cc0_scratch6 (slT l.castSucc) fullShare (w1 m c) ∗ (src.view.loc (c : Thread nD τ) ↦[Finset.univ]{fullShare} fs))) :
    records 𝒮 m K ⊢ iprop(ltok w c -∗ (src.view.loc (c : Thread nD τ) ↦[Finset.univ]{fullShare} fs) -∗ own c cc0_scratch6 (slT l.castSucc)
        -∗ (XC c (wS w) -∗ runs c (kk ⟨⟩) Q)
      -∗ runs c (.op (.enqueueDma src (.here ((M6.slice (Rect.unit (s := S3x512x1024) off ![1, 512, 1024] inb) hr).squeeze S512x1024 hq)) (.dma sem) hsrc hdst hsem) kk) Q) := by
  have hset : ((M6.slice (Rect.unit (s := S3x512x1024) off ![1, 512, 1024] inb) hr).squeeze S512x1024 hq).view.set = tset cc0_scratch6.ty.shape (slT l.castSucc) :=
    (View.set_reshape _ _).trans ((View.set_slice_whole cc0_scratch6 _).trans (set3w l.castSucc h0 rfl h1 h2 rfl rfl))
  unfold own
  rw [← hset, ← hu]
  iintro #HR Ht Hs ⟨%fd, Hd⟩ Hk
  iapply (wp_copyL 𝒮 m K c w (src := src) (dst := (M6.slice (Rect.unit (s := S3x512x1024) off ![1, 512, 1024] inb) hr).squeeze S512x1024 hq)
    (fs := fs) (fd := fd) hw hs ha ?_) $$ HR Ht Hs Hd Hk
  rw [hp, hset, hu]
  refine sep_mono_left ?_
  unfold reg
  iintro H; iexists _
  isplitr
  rotate_left
  · iexact H
  · ipureintro
    intro hok i hi
    rw [← mem_tset (s := cc0_scratch6.ty.shape), ← hset] at hi
    obtain ⟨j, -, rfl⟩ := Finset.mem_map.mp hi
    rw [View.write_emb_of_mem _ _ (Finset.mem_univ j), hfs j]
    have ej := unsqueeze hq.numel_eq j
    show w1 m c _ = w1 m c _
    congr 1
    funext a
    revert a
    refine Fin.forall_fin_succ.mpr ⟨?_, Fin.forall_fin_two.mpr ⟨?_, ?_⟩⟩
    · apply Fin.ext
      show l.val = off 0 + 1 * (Shape.reshapeEquiv hq.numel_eq j 0).val
      rw [ej, h0]; rfl
    · apply Fin.ext
      show (j 0).val = off 1 + 1 * (Shape.reshapeEquiv hq.numel_eq j 1).val
      rw [ej, h1, Nat.zero_add, Nat.one_mul]; rfl
    · apply Fin.ext
      show (j 1).val = off 2 + 1 * (Shape.reshapeEquiv hq.numel_eq j 2).val
      rw [ej, h2, Nat.zero_add, Nat.one_mul]; rfl

abbrev M7 : Memref sig .tc .vmem S3x1024x512 .f32 := Memref.whole cc0_scratch7

/-- A layer's weight into its slab (`w2`). -/
theorem wp_copy2 (w : ℕ) (l : Fin 3) {src : Memref sig .tc .hbm S1024x512 .f32} {off : Fin 3 → ℕ} {inb} {sem : DmaSem sig}
    {hr : ∀ a, (Rect.unit (s := S3x1024x512) off ![1, 1024, 512] inb).stride a = 1}
    {hq : (Rect.unit (s := S3x1024x512) off ![1, 1024, 512] inb).shape.Squeezes S1024x512} {hsrc : src.view.WordExact}
    {hdst : ((M7.slice (Rect.unit (s := S3x1024x512) off ![1, 1024, 512] inb) hr).squeeze S1024x512 hq).view.WordExact}
    {hsem : DmaTarget.Typed (nD := nD) (p := (c : Thread nD τ).2) .hbm (.dma sem) (.here ((M7.slice (Rect.unit (s := S3x1024x512) off ![1, 1024, 512] inb) hr).squeeze S1024x512 hq))}
    {kk : PUnit → Prog (TpuEff nD τ sig (Elt F) Λ₀ .tc) α} (hw : w < 8) (hs : sem = wS w)
    (ha : ((M7.slice (Rect.unit (s := S3x1024x512) off ![1, 1024, 512] inb) hr).squeeze S1024x512 hq).view.dmaCredit = amtL w)
    (h0 : off 0 = l.val) (h1 : off 1 = 0) (h2 : off 2 = 0) {fs : Buf (Elt F) (src.view.loc (c : Thread nD τ))} (hu : src.view.set = Finset.univ)
    (hfs : ∀ j : S1024x512.Idx, src.view.read (Elt F) fs j = w2 m c (ix3 l (j 0) (j 1)))
    (hp : localPay 𝒮 m w c = iprop(reg True c cc0_scratch7 (slT l.castSucc) fullShare (w2 m c) ∗ (src.view.loc (c : Thread nD τ) ↦[Finset.univ]{fullShare} fs))) :
    records 𝒮 m K ⊢ iprop(ltok w c -∗ (src.view.loc (c : Thread nD τ) ↦[Finset.univ]{fullShare} fs) -∗ own c cc0_scratch7 (slT l.castSucc)
        -∗ (XC c (wS w) -∗ runs c (kk ⟨⟩) Q)
      -∗ runs c (.op (.enqueueDma src (.here ((M7.slice (Rect.unit (s := S3x1024x512) off ![1, 1024, 512] inb) hr).squeeze S1024x512 hq)) (.dma sem) hsrc hdst hsem) kk) Q) := by
  have hset : ((M7.slice (Rect.unit (s := S3x1024x512) off ![1, 1024, 512] inb) hr).squeeze S1024x512 hq).view.set = tset cc0_scratch7.ty.shape (slT l.castSucc) :=
    (View.set_reshape _ _).trans ((View.set_slice_whole cc0_scratch7 _).trans (set3w l.castSucc h0 rfl h1 h2 rfl rfl))
  unfold own
  rw [← hset, ← hu]
  iintro #HR Ht Hs ⟨%fd, Hd⟩ Hk
  iapply (wp_copyL 𝒮 m K c w (src := src) (dst := (M7.slice (Rect.unit (s := S3x1024x512) off ![1, 1024, 512] inb) hr).squeeze S1024x512 hq)
    (fs := fs) (fd := fd) hw hs ha ?_) $$ HR Ht Hs Hd Hk
  rw [hp, hset, hu]
  refine sep_mono_left ?_
  unfold reg
  iintro H; iexists _
  isplitr
  rotate_left
  · iexact H
  · ipureintro
    intro hok i hi
    rw [← mem_tset (s := cc0_scratch7.ty.shape), ← hset] at hi
    obtain ⟨j, -, rfl⟩ := Finset.mem_map.mp hi
    rw [View.write_emb_of_mem _ _ (Finset.mem_univ j), hfs j]
    have ej := unsqueeze hq.numel_eq j
    show w2 m c _ = w2 m c _
    congr 1
    funext a
    revert a
    refine Fin.forall_fin_succ.mpr ⟨?_, Fin.forall_fin_two.mpr ⟨?_, ?_⟩⟩
    · apply Fin.ext
      show l.val = off 0 + 1 * (Shape.reshapeEquiv hq.numel_eq j 0).val
      rw [ej, h0]; rfl
    · apply Fin.ext
      show (j 0).val = off 1 + 1 * (Shape.reshapeEquiv hq.numel_eq j 1).val
      rw [ej, h1, Nat.zero_add, Nat.one_mul]; rfl
    · apply Fin.ext
      show (j 1).val = off 2 + 1 * (Shape.reshapeEquiv hq.numel_eq j 2).val
      rw [ej, h2, Nat.zero_add, Nat.one_mul]; rfl

/-- A whole buffer onto a whole buffer. -/
theorem wp_copyAll (w : ℕ) {sp sp' : Space} {s : Shape} {e : EltTy} {sem : DmaSem sig} {src : Memref sig .tc sp s e} {dst : Memref sig .tc sp' s e}
    {hsrc : src.view.WordExact} {hdst : dst.view.WordExact} {hsem : DmaTarget.Typed (nD := nD) (p := (c : Thread nD τ).2) sp (.dma sem) (.here dst)}
    {kk : PUnit → Prog (TpuEff nD τ sig (Elt F) Λ₀ .tc) α} (hw : w < 8) (hs : sem = wS w) (ha : dst.view.dmaCredit = amtL w)
    {ok : Prop} {fs : src.view.ref.ty.Contents (Elt F)} {G : dst.view.ref.ty.Contents (Elt F)} (hu : src.view.set = Finset.univ) (hu' : dst.view.set = Finset.univ)
    (hval : dst.view.read (Elt F) G = src.view.read (Elt F) fs)
    (hp : iprop(reg ok c dst.view.ref allT fullShare G ∗ reg ok c src.view.ref allT fullShare fs) ⊢ localPay 𝒮 m w c) :
    records 𝒮 m K ⊢ iprop(ltok w c -∗ reg ok c src.view.ref allT fullShare fs -∗ own c dst.view.ref allT -∗ (XC c (wS w) -∗ runs c (kk ⟨⟩) Q)
      -∗ runs c (.op (.enqueueDma src (.here dst) (.dma sem) hsrc hdst hsem) kk) Q) := by
  have hs1 : src.view.set = tset src.view.ref.ty.shape allT := hu.trans (tset_all _).symm
  have hs2 : dst.view.set = tset dst.view.ref.ty.shape allT := hu'.trans (tset_all _).symm
  unfold own
  rw [show reg ok c src.view.ref allT fullShare fs = iprop(∃ f : Buf (Elt F) ((c : Thread nD τ).loc src.view.ref), ⌜ok → ∀ i, allT (tl i) = true → f i = fs i⌝
    ∗ (((c : Thread nD τ).loc src.view.ref) ↦[tset src.view.ref.ty.shape allT]{fullShare} f)) from rfl]
  rw [← hs1, ← hs2]
  iintro #HR Ht ⟨%f, %hf, Hs⟩ ⟨%fd, Hd⟩ Hk
  iapply (wp_copyL 𝒮 m K c w (src := src) (dst := dst) (fs := f) (fd := fd) hw hs ha ?_) $$ HR Ht Hs Hd Hk
  refine BIBase.Entails.trans (Q := iprop(reg ok c dst.view.ref allT fullShare G ∗ reg ok c src.view.ref allT fullShare fs)) ?_ hp
  unfold reg
  rw [hs1, hs2]
  iintro ⟨H1, H2⟩
  isplitl [H1]
  · iexists _
    isplitr
    rotate_left
    · iexact H1
    · ipureintro
      intro hok i hi
      have hi' : i ∈ dst.view.set := by rw [hu']; exact Finset.mem_univ i
      obtain ⟨j, -, rfl⟩ := Finset.mem_map.mp hi'
      have e : src.view.read (Elt F) f j = dst.view.read (Elt F) G j := by
        rw [hval]; exact congrFun (View.read_congr fun i _ => hf hok i rfl) j
      rw [View.write_emb_of_mem _ _ (Finset.mem_univ j), e, View.read_apply, cast_cast]
      rfl
  · iexists f
    isplitr; · ipureintro; exact hf
    iexact H2

end Sends

end Cert.KernelIdeal.Pf
end
-- ==== Proof.KernelIdeal.Ops.lean ====
/-
Loads and stores over whole buffers, and which tiles the rectangles of each buffer are.
-/
module

public import proofs.«01_k».proof.Proof.KernelIdeal.Moves

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the rectangle `r` of contents `G` holds. -/
abbrev at_ {s : Shape} {e : EltTy} (r : Rect s) (G : s.Idx → Elt F e) : r.shape.Idx → Elt F e := fun j => G (r.emb j)

abbrev M1 : Memref sig .tc .vmem S256x1024 .bf16 := Memref.whole cc0_scratch1
abbrev M4 : Memref sig .tc .vmem S64x512 .f32 := Memref.whole cc0_scratch4
abbrev M5 : Memref sig .tc .vmem S64x512 .bf16 := Memref.whole cc0_scratch5

section Dims
variable {off size : Fin 2 → ℕ} {R : Fin 4 → Bool} {H : Fin 2 → Bool}

/-! The tiles of a rectangle of each buffer. -/
theorem setM0 {inb} (hf : fits off size R H) : (M0.access (Rect.unit (s := S256x512) off size inb)).set = tset M0.view.ref.ty.shape (bx (· == 0) R H) :=
  (View.set_slice_whole cc0_scratch0 _).trans (set2 (Rw := 256) le_rfl (by decide) hf)
theorem setM2 {inb} (hf : fits off size R H) : (M2.access (Rect.unit (s := S256x512) off size inb)).set = tset M2.view.ref.ty.shape (bx (· == 0) R H) :=
  (View.set_slice_whole cc0_scratch2 _).trans (set2 (Rw := 256) le_rfl (by decide) hf)
theorem setM4 {inb} (hf : fits off size R H) : (M4.access (Rect.unit (s := S64x512) off size inb)).set = tset M4.view.ref.ty.shape (bx (· == 0) R H) :=
  (View.set_slice_whole cc0_scratch4 _).trans (set2 (Rw := 64) (by decide) (by decide) hf)
theorem setM5 {inb} (hf : fits off size R H) : (M5.access (Rect.unit (s := S64x512) off size inb)).set = tset M5.view.ref.ty.shape (bx (· == 0) R H) :=
  (View.set_slice_whole cc0_scratch5 _).trans (set2 (Rw := 64) (by decide) (by decide) hf)
theorem setM1 {inb} (hf : fits off size R H) (h0 : off 1 = 0) (h1 : size 1 = 1024) :
    (M1.access (Rect.unit (s := S256x1024) off size inb)).set = tset M1.view.ref.ty.shape (bx (· == 0) R H) :=
  (View.set_slice_whole cc0_scratch1 _).trans (set2h (by decide) hf h0 h1)
theorem setM3 {off size : Fin 3 → ℕ} {inb} {R : Fin 4 → Bool} {H : Fin 2 → Bool} (l : Fin 4) (h0 : off 0 = l.val) (hsz : size 0 = 1)
    (hf : fits (fun a => off a.succ) (fun a => size a.succ) R H) :
    (M3.access (Rect.unit (s := S4x256x512) off size inb)).set = tset M3.view.ref.ty.shape (bx (· == l) R H) :=
  (View.set_slice_whole cc0_scratch3 _).trans (set3 hsz (fun s => by rw [h0, Bool.eq_iff_iff, beq_iff_eq, decide_eq_true_iff, Fin.ext_iff]) hf)
theorem setM6 {off size : Fin 3 → ℕ} {inb} (l : Fin 4) (h0 : off 0 = l.val) (h : size 0 = 1 ∧ off 1 = 0 ∧ off 2 = 0 ∧ size 1 = 512 ∧ size 2 = 1024) :
    (M6.access (Rect.unit (s := S3x512x1024) off size inb)).set = tset M6.view.ref.ty.shape (slT l) :=
  (View.set_slice_whole cc0_scratch6 _).trans (set3w l h0 h.1 h.2.1 h.2.2.1 h.2.2.2.1 h.2.2.2.2)
theorem setM7 {off size : Fin 3 → ℕ} {inb} (l : Fin 4) (h0 : off 0 = l.val) (h : size 0 = 1 ∧ off 1 = 0 ∧ off 2 = 0 ∧ size 1 = 1024 ∧ size 2 = 512) :
    (M7.access (Rect.unit (s := S3x1024x512) off size inb)).set = tset M7.view.ref.ty.shape (slT l) :=
  (View.set_slice_whole cc0_scratch7 _).trans (set3w l h0 h.1 h.2.1 h.2.2.1 h.2.2.2.1 h.2.2.2.2)

end Dims

/-! The units a transfer onto a rectangle brings. -/
section Credit
variable {n w : ℕ}
theorem dcM0 {off inb hr} : (M0.slice (Rect.unit (s := S256x512) off ![n, w] inb) hr).view.dmaCredit = Ref.dmaCredit cc0_scratch0 ⟨2, ![n, w]⟩ .bf16 := rfl
theorem dcM2 {off inb hr} : (M2.slice (Rect.unit (s := S256x512) off ![n, w] inb) hr).view.dmaCredit = Ref.dmaCredit cc0_scratch2 ⟨2, ![n, w]⟩ .bf16 := rfl
theorem dcM3 {off inb hr hq} : ((M3.slice (Rect.unit (s := S4x256x512) off ![1, n, w] inb) hr).squeeze ⟨2, ![n, w]⟩ hq).view.dmaCredit
    = Ref.dmaCredit cc0_scratch3 ⟨2, ![n, w]⟩ .bf16 := rfl
theorem amt_in {k : ℕ} (hk : k < 2) : Ref.dmaCredit cc0_scratch0 ⟨2, ![64, 512]⟩ .bf16 = amtX k := by
  interval_cases k <;> rfl
theorem amt_in' {k : ℕ} (hk : k = 2 ∨ k = 3) : Ref.dmaCredit cc0_scratch0 ⟨2, ![64, 256]⟩ .bf16 = amtX k := by
  rcases hk with rfl | rfl <;> rfl
theorem amt_sum {k : ℕ} (hk : 4 ≤ k ∧ k < 21) : Ref.dmaCredit cc0_scratch3 ⟨2, ![128, 256]⟩ .bf16 = amtX k := by
  obtain ⟨h1, h2⟩ := hk
  interval_cases k <;> rfl
theorem amt_sum' {k : ℕ} (hk : 21 ≤ k ∧ k < 25) : Ref.dmaCredit cc0_scratch3 ⟨2, ![64, 256]⟩ .bf16 = amtX k := by
  obtain ⟨h1, h2⟩ := hk
  interval_cases k <;> rfl
theorem amt_23 {s : Shape} : Ref.dmaCredit cc0_scratch2 s .bf16 = Ref.dmaCredit cc0_scratch3 s .bf16 := rfl
end Credit

/-- Row blocks 0 and 1; 2 and 3. -/
abbrev R0 : Fin 4 → Bool := fun r => decide (r.val < 2)
abbrev R1 : Fin 4 → Bool := fun r => decide (2 ≤ r.val)
/-- The rows of a device and its neighbour `aD`; the others. -/
abbrev Rg (c : Dev nD) : Fin 4 → Bool := fun r => r == c || r == aD c
abbrev Rb (c : Dev nD) : Fin 4 → Bool := fun r => r == bD c || r == dD c
abbrev both : Fin 2 → Bool := fun _ => true

/-- The block of buffer rows: all columns. -/
abbrev bR (R : Fin 4 → Bool) : Tile → Bool := bx (· == 0) R both

section Facts
variable (𝒮 : Spec F) (m : (ℓ : Loc nD τ sig) → Buf (Elt F) ℓ)

abbrev arg0 (c : Dev nD) : Vec F S64x512 .f32 := arg m main_arg0 c

/-- A sum stored: `A` at `off` and `B` in the slab, added, is `C` at `off`. -/
def sums {nn w : ℕ} (pay : Vec F ⟨2, ![nn, w]⟩ .bf16 → Vec F ⟨3, ![1, nn, w]⟩ .bf16 → FVec F ⟨2, ![nn, w]⟩ .bf16) (off : Fin 2 → ℕ) (off3 : Fin 3 → ℕ)
    (A B C : Vec F S256x512 .bf16) : Prop :=
  ∀ inb inb3, pay (at_ (Rect.unit (s := S256x512) off ![nn, w] inb) A) (at_ (Rect.unit (s := S4x256x512) off3 ![1, nn, w] inb3) (slab4 B))
    = at_ (Rect.unit (s := S256x512) off ![nn, w] inb) C

/-- What each store of the kernel is to store, layer by layer. -/
structure Facts : Prop where
  x0 : ∀ c inb inb', k0_pay2 (at_ (Rect.unit (s := S64x512) ![0, 0] ![64, 512] inb) (arg0 m c)) = at_ (Rect.unit (s := S256x512) (k0_off1 c) ![64, 512] inb') (𝒮.X 0)
  h0g : ∀ c inb inb' inb'', k0_pay4 (at_ (Rect.unit (s := S3x512x1024) ![0, 0, 0] ![1, 512, 1024] inb) (w1 m c))
    (at_ (Rect.unit (s := S256x512) (k0_off5 c) ![128, 512] inb') (𝒮.X 0)) = at_ (Rect.unit (s := S256x1024) (k0_off6 c) ![128, 1024] inb'') (𝒮.H 0 c)
  h0b : ∀ c inb inb' inb'', k0_pay5 (k0_pay3 (at_ (Rect.unit (s := S3x512x1024) ![0, 0, 0] ![1, 512, 1024] inb) (w1 m c)))
    (at_ (Rect.unit (s := S256x512) (k0_off7 c) ![64, 512] inb') (𝒮.X 0)) = at_ (Rect.unit (s := S256x1024) (k0_off8 c) ![64, 1024] inb'') (𝒮.H 0 c)
  h0d : ∀ c inb inb' inb'', k0_pay6 (k0_pay3 (at_ (Rect.unit (s := S3x512x1024) ![0, 0, 0] ![1, 512, 1024] inb) (w1 m c)))
    (at_ (Rect.unit (s := S256x512) (k0_off9 c) ![64, 512] inb') (𝒮.X 0)) = at_ (Rect.unit (s := S256x1024) (k0_off10 c) ![64, 1024] inb'') (𝒮.H 0 c)
  z0t : ∀ c inb inb' inb'', k0_pay8 (at_ (Rect.unit (s := S3x1024x512) ![0, 0, 0] ![1, 1024, 512] inb) (w2 m c))
    (at_ (Rect.unit (s := S256x1024) ![0, 0] ![128, 1024] inb') (𝒮.H 0 c)) = at_ (Rect.unit (s := S256x512) ![0, 0] ![128, 512] inb'') (𝒮.Z 0 c)
  z0b : ∀ c inb inb' inb'', k0_pay9 (k0_pay7 (at_ (Rect.unit (s := S3x1024x512) ![0, 0, 0] ![1, 1024, 512] inb) (w2 m c)))
    (at_ (Rect.unit (s := S256x1024) ![128, 0] ![128, 1024] inb') (𝒮.H 0 c)) = at_ (Rect.unit (s := S256x512) ![128, 0] ![128, 512] inb'') (𝒮.Z 0 c)
  y0a : ∀ c, sums (nn := 128) (w := 256) k0_pay10 ![0, 0] ![0, 0, 0] (𝒮.Z 0 c) (𝒮.Z 0 (pr 4 c)) (𝒮.Y 0 c)
  y0b : ∀ c, sums (nn := 128) (w := 256) k0_pay11 ![0, 256] ![0, 0, 256] (𝒮.Z 0 c) (𝒮.Z 0 (pr 5 c)) (𝒮.Y 0 c)
  y0c : ∀ c, sums (nn := 128) (w := 256) (fun v u => k0_pay13 (k0_pay12 v u)) ![128, 0] ![0, 128, 0] (𝒮.Z 0 c) (𝒮.Z 0 (pr 8 c)) (𝒮.Y 0 c)
  y0d : ∀ c, sums (nn := 128) (w := 256) k0_pay14 ![128, 256] ![0, 128, 256] (𝒮.Z 0 c) (𝒮.Z 0 (pr 9 c)) (𝒮.Y 0 c)
  x1a : ∀ c, sums (nn := 128) (w := 256) k0_pay16 ![0, 0] ![2, 0, 0] (𝒮.Y 0 c) (𝒮.Y 0 (pr 6 c)) (𝒮.X 1)
  x1b : ∀ c, sums (nn := 128) (w := 256) k0_pay18 ![0, 256] ![2, 0, 256] (𝒮.Y 0 c) (𝒮.Y 0 (pr 7 c)) (𝒮.X 1)
  x1c : ∀ c, sums (nn := 128) (w := 256) k0_pay20 ![128, 0] ![2, 128, 0] (𝒮.Y 0 c) (𝒮.Y 0 (pr 10 c)) (𝒮.X 1)
  x1d : ∀ c, sums (nn := 128) (w := 256) k0_pay22 ![128, 256] ![2, 128, 256] (𝒮.Y 0 c) (𝒮.Y 0 (pr 11 c)) (𝒮.X 1)
  h1t : ∀ c inb inb1 inb2 inb', k0_pay19 (k0_pay15 (at_ (Rect.unit (s := S3x512x1024) ![1, 0, 0] ![1, 512, 1024] inb) (w1 m c)))
    (k0_pay17 (k0_pay15 (at_ (Rect.unit (s := S3x512x1024) ![1, 0, 0] ![1, 512, 1024] inb) (w1 m c))) (at_ (Rect.unit (s := S256x512) ![0, 0] ![128, 256] inb1) (𝒮.X 1)))
    (at_ (Rect.unit (s := S256x512) ![0, 256] ![128, 256] inb2) (𝒮.X 1)) = at_ (Rect.unit (s := S256x1024) ![0, 0] ![128, 1024] inb') (𝒮.H 1 c)
  h1b : ∀ c inb inb1 inb2 inb', k0_pay23 (k0_pay15 (at_ (Rect.unit (s := S3x512x1024) ![1, 0, 0] ![1, 512, 1024] inb) (w1 m c)))
    (k0_pay21 (k0_pay15 (at_ (Rect.unit (s := S3x512x1024) ![1, 0, 0] ![1, 512, 1024] inb) (w1 m c))) (at_ (Rect.unit (s := S256x512) ![128, 0] ![128, 256] inb1) (𝒮.X 1)))
    (at_ (Rect.unit (s := S256x512) ![128, 256] ![128, 256] inb2) (𝒮.X 1)) = at_ (Rect.unit (s := S256x1024) ![128, 0] ![128, 1024] inb') (𝒮.H 1 c)
  z1t : ∀ c inb inb' inb'', k0_pay25 (at_ (Rect.unit (s := S3x1024x512) ![1, 0, 0] ![1, 1024, 512] inb) (w2 m c))
    (at_ (Rect.unit (s := S256x1024) ![0, 0] ![128, 1024] inb') (𝒮.H 1 c)) = at_ (Rect.unit (s := S256x512) ![0, 0] ![128, 512] inb'') (𝒮.Z 1 c)
  z1b : ∀ c inb inb' inb'', k0_pay26 (k0_pay24 (at_ (Rect.unit (s := S3x1024x512) ![1, 0, 0] ![1, 1024, 512] inb) (w2 m c)))
    (at_ (Rect.unit (s := S256x1024) ![128, 0] ![128, 1024] inb') (𝒮.H 1 c)) = at_ (Rect.unit (s := S256x512) ![128, 0] ![128, 512] inb'') (𝒮.Z 1 c)
  y1a : ∀ c, sums (nn := 128) (w := 256) k0_pay27 ![0, 0] ![1, 0, 0] (𝒮.Z 1 c) (𝒮.Z 1 (pr 12 c)) (𝒮.Y 1 c)
  y1b : ∀ c, sums (nn := 128) (w := 256) k0_pay28 ![0, 256] ![1, 0, 256] (𝒮.Z 1 c) (𝒮.Z 1 (pr 13 c)) (𝒮.Y 1 c)
  y1c : ∀ c, sums (nn := 128) (w := 256) k0_pay29 ![128, 0] ![1, 128, 0] (𝒮.Z 1 c) (𝒮.Z 1 (pr 16 c)) (𝒮.Y 1 c)
  y1d : ∀ c, sums (nn := 128) (w := 256) k0_pay30 ![128, 256] ![1, 128, 256] (𝒮.Z 1 c) (𝒮.Z 1 (pr 17 c)) (𝒮.Y 1 c)
  x2a : ∀ c, sums (nn := 128) (w := 256) k0_pay32 ![0, 0] ![3, 0, 0] (𝒮.Y 1 c) (𝒮.Y 1 (pr 14 c)) (𝒮.X 2)
  x2b : ∀ c, sums (nn := 128) (w := 256) k0_pay34 ![0, 256] ![3, 0, 256] (𝒮.Y 1 c) (𝒮.Y 1 (pr 15 c)) (𝒮.X 2)
  x2c : ∀ c, sums (nn := 128) (w := 256) k0_pay36 ![128, 0] ![3, 128, 0] (𝒮.Y 1 c) (𝒮.Y 1 (pr 18 c)) (𝒮.X 2)
  x2d : ∀ c, sums (nn := 128) (w := 256) k0_pay38 ![128, 256] ![3, 128, 256] (𝒮.Y 1 c) (𝒮.Y 1 (pr 19 c)) (𝒮.X 2)
  h2t : ∀ c inb inb1 inb2 inb', k0_pay35 (k0_pay31 (at_ (Rect.unit (s := S3x512x1024) ![2, 0, 0] ![1, 512, 1024] inb) (w1 m c)))
    (k0_pay33 (at_ (Rect.unit (s := S3x512x1024) ![2, 0, 0] ![1, 512, 1024] inb) (w1 m c)) (at_ (Rect.unit (s := S256x512) ![0, 0] ![128, 256] inb1) (𝒮.X 2)))
    (at_ (Rect.unit (s := S256x512) ![0, 256] ![128, 256] inb2) (𝒮.X 2)) = at_ (Rect.unit (s := S256x1024) ![0, 0] ![128, 1024] inb') (𝒮.H 2 c)
  h2b : ∀ c inb inb1 inb2 inb', k0_pay39 (k0_pay31 (at_ (Rect.unit (s := S3x512x1024) ![2, 0, 0] ![1, 512, 1024] inb) (w1 m c)))
    (k0_pay37 (k0_pay31 (at_ (Rect.unit (s := S3x512x1024) ![2, 0, 0] ![1, 512, 1024] inb) (w1 m c))) (at_ (Rect.unit (s := S256x512) ![128, 0] ![128, 256] inb1) (𝒮.X 2)))
    (at_ (Rect.unit (s := S256x512) ![128, 256] ![128, 256] inb2) (𝒮.X 2)) = at_ (Rect.unit (s := S256x1024) ![128, 0] ![128, 1024] inb') (𝒮.H 2 c)
  z2l : ∀ c inb inb' inb'', k0_pay41 (at_ (Rect.unit (s := S3x1024x512) ![2, 0, 0] ![1, 1024, 512] inb) (w2 m c))
    (at_ (Rect.unit (s := S256x1024) (k0_off11 c) ![128, 1024] inb') (𝒮.H 2 c)) = at_ (Rect.unit (s := S256x512) (k0_off12 c) ![128, 256] inb'') (𝒮.Z 2 c)
  z2r : ∀ c inb inb' inb'', k0_pay42 (at_ (Rect.unit (s := S3x1024x512) ![2, 0, 0] ![1, 1024, 512] inb) (w2 m c))
    (at_ (Rect.unit (s := S256x1024) (k0_off11 c) ![128, 1024] inb') (𝒮.H 2 c)) = at_ (Rect.unit (s := S256x512) (k0_off15 c) ![128, 256] inb'') (𝒮.Z 2 c)
  z2g : ∀ c inb inb' inb'', k0_pay43 (k0_pay40 (at_ (Rect.unit (s := S3x1024x512) ![2, 0, 0] ![1, 1024, 512] inb) (w2 m c)))
    (at_ (Rect.unit (s := S256x1024) (k0_off6 c) ![128, 1024] inb') (𝒮.H 2 c)) = at_ (Rect.unit (s := S256x512) (k0_off5 c) ![128, 512] inb'') (𝒮.Z 2 c)
  y2g : ∀ c, sums (nn := 128) (w := 256) k0_pay44 (k0_off17 c) (k0_off18 c) (𝒮.Z 2 c) (𝒮.Z 2 (pr 20 c)) (𝒮.Y 2 c)
  y2p : ∀ c, sums (nn := 64) (w := 256) k0_pay45 (k0_off21 c) (k0_off22 c) (𝒮.Z 2 c) (𝒮.Z 2 (pr 22 c)) (𝒮.Y 2 c)
  y2b : ∀ c, sums (nn := 64) (w := 256) k0_pay46 (k0_off23 c) (k0_off24 c) (𝒮.Z 2 c) (𝒮.Z 2 (pr 21 c)) (𝒮.Y 2 c)
  o_l : ∀ c inb inb3 inb', k0_pay47 (at_ (Rect.unit (s := S256x512) (k0_off27 c) ![64, 256] inb) (𝒮.Y 2 c))
    (at_ (Rect.unit (s := S4x256x512) (k0_off28 c) ![1, 64, 256] inb3) (slab4 (𝒮.Y 2 (pr 23 c)))) = at_ (Rect.unit (s := S64x512) ![0, 0] ![64, 256] inb') (𝒮.O c)
  o_r : ∀ c inb inb3 inb', k0_pay1 (at_ (Rect.unit (s := S256x512) (k0_off21 c) ![64, 256] inb) (𝒮.Y 2 c))
    (at_ (Rect.unit (s := S4x256x512) (k0_off29 c) ![1, 64, 256] inb3) (slab4 (𝒮.Y 2 (pr 24 c)))) = at_ (Rect.unit (s := S64x512) ![0, 256] ![64, 256] inb') (𝒮.O c)

end Facts

end Cert.KernelIdeal.Pf
end
-- ==== Proof.KernelIdeal.Sums.lean ====
/-
The steps the layers repeat: the waits of an exchange of partial sums, a sum stored back, a sum stored as the next input.
-/
module

public import proofs.«01_k».proof.Proof.KernelIdeal.Ops

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sums

variable (𝒮 : Spec F) (m : (ℓ : Loc nD τ sig) → Buf (Elt F) ℓ) (K : Dev nD × CellIx → ℕ)
variable (c : Dev nD) {α : Type} {Q : α → sProp (MT nD τ sig Unit (Elt F) ℕ UU ℕ)}

/-! Tiles of the four buffers of the layers: the input, the hidden layer, the partial sums, the landing buffer. -/
abbrev xx (T : Tile → Bool) (G : Vec F S256x512 .bf16) : sProp 𝕄 := reg 𝒮.ok c cc0_scratch0 T fullShare G
abbrev hh (T : Tile → Bool) (G : Vec F S256x1024 .bf16) : sProp 𝕄 := reg 𝒮.ok c cc0_scratch1 T fullShare G
abbrev zz (T : Tile → Bool) (G : Vec F S256x512 .bf16) : sProp 𝕄 := reg 𝒮.ok c cc0_scratch2 T fullShare G
abbrev vv (T : Tile → Bool) (G : Vec F S256x512 .bf16) : sProp 𝕄 := reg 𝒮.ok c cc0_scratch3 T fullShare (slab4 G)
abbrev ox (T : Tile → Bool) : sProp 𝕄 := own (F := F) c cc0_scratch0 T
abbrev oh (T : Tile → Bool) : sProp 𝕄 := own (F := F) c cc0_scratch1 T
abbrev oz (T : Tile → Bool) : sProp 𝕄 := own (F := F) c cc0_scratch2 T
abbrev ov (T : Tile → Bool) : sProp 𝕄 := own (F := F) c cc0_scratch3 T

section Credit
variable {k : ℕ}
theorem a0 {off inb hr} (hk : k < 2) : (M0.slice (Rect.unit (s := S256x512) off ![64, 512] inb) hr).view.dmaCredit = amtX k := dcM0.trans (amt_in hk)
theorem a0' {off inb hr} (hk : k = 2 ∨ k = 3) : (M0.slice (Rect.unit (s := S256x512) off ![64, 256] inb) hr).view.dmaCredit = amtX k := dcM0.trans (amt_in' hk)
theorem aS {off inb hr} (hk : 4 ≤ k ∧ k < 21) : (M2.slice (Rect.unit (s := S256x512) off ![128, 256] inb) hr).view.dmaCredit = amtX k :=
  dcM2.trans (amt_23.trans (amt_sum hk))
theorem aS' {off inb hr} (hk : 21 ≤ k ∧ k < 25) : (M2.slice (Rect.unit (s := S256x512) off ![64, 256] inb) hr).view.dmaCredit = amtX k :=
  dcM2.trans (amt_23.trans (amt_sum' hk))
theorem aR {off inb hr hq} (hk : 4 ≤ k ∧ k < 21) :
    ((M3.slice (Rect.unit (s := S4x256x512) off ![1, 128, 256] inb) hr).squeeze ⟨2, ![128, 256]⟩ hq).view.dmaCredit = amtX k := dcM3.trans (amt_sum hk)
theorem aR' {off inb hr hq} (hk : 21 ≤ k ∧ k < 25) :
    ((M3.slice (Rect.unit (s := S4x256x512) off ![1, 64, 256] inb) hr).squeeze ⟨2, ![64, 256]⟩ hq).view.dmaCredit = amtX k := dcM3.trans (amt_sum' hk)
end Credit

/-- The wait on the sending side, for an exchange of partial sums, -/
theorem waitZ (k : ℕ) (T : Tile → Bool) (G : Vec F S256x512 .bf16) (hTG : srcT k c = T ∧ cont 𝒮 k c = G) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hk : ¬ k < 4 ∧ k < 25) (hs : sem = sS k) (ha : dst.view.dmaCredit = amtX k)
    (hl : ∀ k ∈ order.drop n, k < 25) :
    records 𝒮 m K ⊢ iprop(St c n dn -∗ XC c (sS k) -∗ (St c n (sS k :: dn) -∗ zz 𝒮 c T G -∗ runs c (kk ⟨⟩) Q)
      -∗ runs c (.op (.waitDma2 sem src dst hsrc hdst) kk) Q) := by
  have h := wp_waitS 𝒮 m K c k (n := n) (dn := dn) (hsrc := hsrc) (hdst := hdst) (kk := kk) (Q := Q) hk.2 hs ha hl
  rwa [source_ge hk.1, hTG.1, hTG.2] at h

/-- and on the receiving side. -/
theorem waitV (k : ℕ) (T : Tile → Bool) (G : Vec F S256x512 .bf16) (hTG : dstT k (pr k c) = T ∧ cont 𝒮 k (pr k c) = G) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} (hk : ¬ k < 4 ∧ k < 25) (hs : sem = rS k) (ha : dst.view.dmaCredit = amtX k)
    (hl : ∀ k' ∈ order.drop n, order.idxOf k < order.idxOf k' ∧ k' < 25) :
    records 𝒮 m K ⊢ iprop(St c n dn -∗ XC c (rS k)
        -∗ (St c n (rS k :: dn) -∗ vv 𝒮 c T G -∗ extra k c -∗ runs c (kk ⟨⟩) Q)
      -∗ runs c (.op (.waitDma2 sem src dst hsrc hdst) kk) Q) := by
  have h := wp_waitR 𝒮 m K c k (n := n) (dn := dn) (hsrc := hsrc) (hdst := hdst) (kk := kk) (Q := Q) hk.2 hs ha hl
  rwa [landed_ge hk.1, hTG.1, hTG.2] at h

variable {nn w : ℕ} {R : Fin 4 → Bool} {H : Fin 2 → Bool} {off : Fin 2 → ℕ} {off3 : Fin 3 → ℕ}

theorem fits3 (hf : fits off ![nn, w] R H) (h1 : off3 1 = off 0) (h2 : off3 2 = off 1) :
    fits (fun a => off3 a.succ) (fun a => (![1, nn, w] : Fin 3 → ℕ) a.succ) R H := by
  have e : (fun a : Fin 2 => off3 a.succ) = off := by
    funext a; revert a; rw [Fin.forall_fin_two]; exact ⟨h1, h2⟩
  rw [e]; exact hf

/-- A load of tiles of the landing buffer. -/
theorem ldV (l : Fin 4) {inb} {hl : M3.view.LoadsAt (Rect.unit (s := S4x256x512) off3 ![1, nn, w] inb).toLoadRect}
    {kk : ((Rect.unit (s := S4x256x512) off3 ![1, nn, w] inb).toLoadRect.shape.Idx → Elt F .bf16) → Prog (TpuEff nD τ sig (Elt F) Λ₀ .tc) α} {T : Tile → Bool}
    {G : Vec F S256x512 .bf16} (hf : fits off ![nn, w] R H) (h0 : off3 0 = l.val) (h1 : off3 1 = off 0) (h2 : off3 2 = off 1)
    (hle : ∀ t, bx (· == l) R H t = true → T t = true) :
    vv 𝒮 c T G
      ⊢ iprop((∀ v, ⌜𝒮.ok → v = at_ (Rect.unit (s := S4x256x512) off3 ![1, nn, w] inb) (slab4 G)⌝ -∗ vv 𝒮 c T G -∗ runs c (kk v) Q)
        -∗ runs c (.op (.load M3 (Rect.unit (s := S4x256x512) off3 ![1, nn, w] inb).toLoadRect hl) kk) Q) :=
  wp_loadR 𝒮.ok c M3 (setM3 l h0 rfl (fits3 hf h1 h2)) hle

/-- Partial sums added to those that landed, and stored back. -/
theorem sumZ (l : Fin 4) (pay : Vec F ⟨2, ![nn, w]⟩ .bf16 → Vec F ⟨3, ![1, nn, w]⟩ .bf16 → FVec F ⟨2, ![nn, w]⟩ .bf16) {inb inb3}
    {A B C : Vec F S256x512 .bf16} (hv : 𝒮.ok → sums pay off off3 A B C)
    {hl : M2.view.LoadsAt (Rect.unit (s := S256x512) off ![nn, w] inb).toLoadRect} {hl' : M2.view.LoadsAt (Rect.unit (s := S256x512) off ![nn, w] inb).toLoadRect}
    {hl3 : M3.view.LoadsAt (Rect.unit (s := S4x256x512) off3 ![1, nn, w] inb3).toLoadRect}
    {hx : (M2.access (Rect.unit (s := S256x512) off ![nn, w] inb)).Stores Finset.univ} {hm : Finset.univ = Finset.univ ∨ ∀ a, (Rect.unit (s := S256x512) off ![nn, w] inb).stride a = 1}
    {kk : PUnit → Prog (TpuEff nD τ sig (Elt F) Λ₀ .tc) α} (hf : fits off ![nn, w] R H ∧ off3 0 = l.val ∧ off3 1 = off 0 ∧ off3 2 = off 1) :
    zz 𝒮 c (bx (· == 0) R H) A
      ⊢ iprop(vv 𝒮 c (bx (· == l) R H) B -∗ (zz 𝒮 c (bx (· == 0) R H) C -∗ ov c (bx (· == l) R H) -∗ runs c (kk ⟨⟩) Q)
        -∗ runs c (.op (.load M2 (Rect.unit (s := S256x512) off ![nn, w] inb).toLoadRect hl) fun v =>
            .op (.load M3 (Rect.unit (s := S4x256x512) off3 ![1, nn, w] inb3).toLoadRect hl3) fun u =>
            .op (.load M2 (Rect.unit (s := S256x512) off ![nn, w] inb).toLoadRect hl') fun _ =>
            .op (.store M2 (Rect.unit (s := S256x512) off ![nn, w] inb) (pay v u) Finset.univ hx hm) kk) Q) := by
  have h0 := hf.2.1
  have h1 := hf.2.2.1
  have h2 := hf.2.2.2
  have hf := hf.1
  iintro HA HB Hk
  iapply (wp_loadR 𝒮.ok c M2 (setM2 hf) (fun _ h => h)) $$ HA
  iintro %v %ev HA
  iapply (ldV 𝒮 c l hf h0 h1 h2 (fun _ h => h)) $$ HB
  iintro %u %eu HB
  iapply (wp_loadR 𝒮.ok c M2 (setM2 hf) (fun _ h => h)) $$ HA
  iintro %_ - HA
  ihave HA := (reg_own 𝒮.ok c M2.view.ref) $$ HA
  iapply (wp_storeO 𝒮.ok c M2 (G := C) (setM2 hf) (fun hok => by rw [ev hok, eu hok]; exact hv hok inb inb3)) $$ HA
  iintro HC
  iapply Hk $$ HC
  iapply (reg_own 𝒮.ok c cc0_scratch3) $$ HB

/-- The sum as the next layer's input: into another buffer, over tiles owned. -/
theorem sumX (l : Fin 4) (pay : Vec F ⟨2, ![nn, w]⟩ .bf16 → Vec F ⟨3, ![1, nn, w]⟩ .bf16 → FVec F ⟨2, ![nn, w]⟩ .bf16) {inb inb3}
    {A B C : Vec F S256x512 .bf16} (hv : 𝒮.ok → sums pay off off3 A B C)
    {hl : M2.view.LoadsAt (Rect.unit (s := S256x512) off ![nn, w] inb).toLoadRect} {hl' : M0.view.LoadsAt (Rect.unit (s := S256x512) off ![nn, w] inb).toLoadRect}
    {hl3 : M3.view.LoadsAt (Rect.unit (s := S4x256x512) off3 ![1, nn, w] inb3).toLoadRect}
    {hx : (M0.access (Rect.unit (s := S256x512) off ![nn, w] inb)).Stores Finset.univ} {hm : Finset.univ = Finset.univ ∨ ∀ a, (Rect.unit (s := S256x512) off ![nn, w] inb).stride a = 1}
    {kk : PUnit → Prog (TpuEff nD τ sig (Elt F) Λ₀ .tc) α} (hf : fits off ![nn, w] R H ∧ off3 0 = l.val ∧ off3 1 = off 0 ∧ off3 2 = off 1) :
    zz 𝒮 c (bx (· == 0) R H) A
      ⊢ iprop(vv 𝒮 c (bx (· == l) R H) B -∗ ox c (bx (· == 0) R H)
        -∗ (oz c (bx (· == 0) R H) -∗ ov c (bx (· == l) R H) -∗ xx 𝒮 c (bx (· == 0) R H) C -∗ runs c (kk ⟨⟩) Q)
        -∗ runs c (.op (.load M2 (Rect.unit (s := S256x512) off ![nn, w] inb).toLoadRect hl) fun v =>
            .op (.load M3 (Rect.unit (s := S4x256x512) off3 ![1, nn, w] inb3).toLoadRect hl3) fun u =>
            .op (.load M0 (Rect.unit (s := S256x512) off ![nn, w] inb).toLoadRect hl') fun _ =>
            .op (.store M0 (Rect.unit (s := S256x512) off ![nn, w] inb) (pay v u) Finset.univ hx hm) kk) Q) := by
  have h0 := hf.2.1
  have h1 := hf.2.2.1
  have h2 := hf.2.2.2
  have hf := hf.1
  iintro HA HB HX Hk
  iapply (wp_loadR 𝒮.ok c M2 (setM2 hf) (fun _ h => h)) $$ HA
  iintro %v %ev HA
  iapply (ldV 𝒮 c l hf h0 h1 h2 (fun _ h => h)) $$ HB
  iintro %u %eu HB
  iapply (wp_loadO c M0 (setM0 hf) (fun _ h => h)) $$ HX
  iintro %_ HX
  iapply (wp_storeO 𝒮.ok c M0 (G := C) (setM0 hf) (fun hok => by rw [ev hok, eu hok]; exact hv hok inb inb3)) $$ HX
  iintro HC
  iapply Hk $$ [HA] [HB] HC
  · iapply (reg_own 𝒮.ok c cc0_scratch2) $$ HA
  · iapply (reg_own 𝒮.ok c cc0_scratch3) $$ HB

end Sums

end Cert.KernelIdeal.Pf
end
-- ==== Proof.KernelIdeal.Offs.lean ====
/-
The tiles of the kernel's offsets, how they cut one another, and the devices it addresses.
-/
module

public import proofs.«01_k».proof.Proof.KernelIdeal.Sums

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tiles and their cuts -/

abbrev hL : Fin 2 → Bool := fun h => h == 0
abbrev hR : Fin 2 → Bool := fun h => h == 1
/-- The four quarters of slab `l`. -/
abbrev qA (l : Fin 4) : Tile → Bool := bx (· == l) R0 hL
abbrev qB (l : Fin 4) : Tile → Bool := bx (· == l) R0 hR
abbrev qC (l : Fin 4) : Tile → Bool := bx (· == l) R1 hL
abbrev qD (l : Fin 4) : Tile → Bool := bx (· == l) R1 hR
/-- The rows of a device and of its two neighbours. -/
abbrev Rn (c : Dev nD) : Fin 4 → Bool := fun r => !(r == dD c)
/-- One row block. -/
abbrev rw1 (d : Dev nD) : Fin 4 → Bool := fun r => r == d
/-- Every row. -/
abbrev all0 : Tile → Bool := bR (fun _ => true)
/-- Slab `l`, all of it. -/
abbrev sl (l : Fin 4) : Tile → Bool := bx (· == l) (fun _ => true) both

/-- `T` is `T₁` and `T₂`, disjoint. -/
abbrev Cut (T T₁ T₂ : Tile → Bool) : Prop := ∀ t : Tile, T t = (T₁ t || T₂ t) ∧ (T₁ t && T₂ t) = false

theorem cut_l {T T₁ T₂ : Tile → Bool} (h : Cut T T₁ T₂) (t : Tile) (ht : T₁ t = true) : T t = true := by rw [(h t).1, ht]; rfl
theorem cut_r {T T₁ T₂ : Tile → Bool} (h : Cut T T₁ T₂) (t : Tile) (ht : T₂ t = true) : T t = true := by rw [(h t).1, ht, Bool.or_true]

section Cuts
variable (ok : Prop) (c : Dev nD) (b : Ref sig .tc) {T T₁ T₂ : Tile → Bool} {q : PosShare TreeShare} {G : b.ty.Contents (Elt F)}
theorem reg_cut (h : Cut T T₁ T₂) : reg ok c b T q G ⊢ iprop(reg ok c b T₁ q G ∗ reg ok c b T₂ q G) :=
  reg_split ok c b (fun t => (h t).1) (fun t => (h t).2)
theorem reg_cat (h : Cut T T₁ T₂) : reg ok c b T₁ q G ⊢ iprop(reg ok c b T₂ q G -∗ reg ok c b T q G) := by
  iintro H1 H2
  iapply (reg_join ok c b (fun t => (h t).1) (fun t => (h t).2))
  isplitl [H1] <;> iassumption
theorem own_cut (h : Cut T T₁ T₂) : own (F := F) c b T ⊢ iprop(own c b T₁ ∗ own c b T₂) :=
  own_split c b (fun t => (h t).1) (fun t => (h t).2)
theorem own_cat (h : Cut T T₁ T₂) : own (F := F) c b T₁ ⊢ iprop(own c b T₂ -∗ own c b T) := by
  iintro H1 H2
  iapply (own_join c b (fun t => (h t).1) (fun t => (h t).2))
  isplitl [H1] <;> iassumption

/-- A buffer of two dimensions lies in slab 0. -/
theorem tset2 {s : Shape} (h : s.rank ≠ 3) (h' : ∀ S R H, T (S, R, H) = T₁ (S, R, H) ∨ S ≠ 0) : tset s T = tset s T₁ := by
  ext i
  rw [mem_tset, mem_tset]
  unfold tl
  rw [if_neg h]
  rcases h' 0 (Fin.ofNat 4 (co i (s.rank - 2) / 64)) (Fin.ofNat 2 (co i (s.rank - 1) / 256)) with e | e
  · rw [e]
  · exact absurd rfl e
theorem own_flat (h : b.ty.shape.rank ≠ 3) (h' : ∀ S R H, T (S, R, H) = T₁ (S, R, H) ∨ S ≠ 0) : own (F := F) c b T ⊢ own c b T₁ := by
  unfold own; rw [tset2 h h']
theorem reg_flat (h : b.ty.shape.rank ≠ 3) (h' : ∀ S R H, T (S, R, H) = T₁ (S, R, H) ∨ S ≠ 0) : reg ok c b T q G ⊢ reg ok c b T₁ q G := by
  unfold reg
  rw [tset2 h h']
  iintro ⟨%f, %hf, H⟩
  iexists f
  isplitr
  · ipureintro
    intro k i hi
    refine hf k i (mem_tset.mp ?_)
    rw [tset2 h h']
    exact mem_tset.mpr hi
  iexact H
end Cuts

theorem cut_row (l : Fin 4) : Cut (sl l) (bx (· == l) R0 both) (bx (· == l) R1 both) := by revert l; decide
theorem cut_top (l : Fin 4) : Cut (bx (· == l) R0 both) (qA l) (qB l) := by revert l; decide
theorem cut_bot (l : Fin 4) : Cut (bx (· == l) R1 both) (qC l) (qD l) := by revert l; decide
theorem cut_bc : ∀ c, Cut (bR (Rb c)) (bx (· == 0) (Rb c) hL) (bx (· == 0) (Rb c) hR) := by decide
theorem cut_gc : ∀ c, Cut (bR (Rg c)) (bx (· == 0) (Rg c) hL) (bx (· == 0) (Rg c) hR) := by decide
theorem cut_n : ∀ c, Cut (bR (Rn c)) (bR (Rg c)) (bR (rw1 (bD c))) := by decide
theorem cut_all : ∀ c, Cut all0 (bR (Rn c)) (bR (rw1 (dD c))) := by decide
theorem cut_gb : ∀ c, Cut all0 (bR (Rb c)) (bR (Rg c)) := by decide
theorem cut_gL : ∀ c, Cut (bx (· == 0) (Rg c) hL) (bx (· == 0) (rw1 (aD c)) hL) (bx (· == 0) (rw1 c) hL) := by decide
theorem cut_gR : ∀ c, Cut (bx (· == 0) (Rg c) hR) (bx (· == 0) (rw1 (aD c)) hR) (bx (· == 0) (rw1 c) hR) := by decide
theorem cut_bR : ∀ c, Cut (bx (· == 0) (Rb c) hR) (bx (· == 0) (rw1 (dD c)) hR) (bx (· == 0) (rw1 (bD c)) hR) := by decide

section Quads
variable (ok : Prop) (c : Dev nD) (b : Ref sig .tc) (l : Fin 4) {q : PosShare TreeShare} {G : b.ty.Contents (Elt F)}
theorem own_quads : own (F := F) c b (sl l) ⊢ iprop(own c b (qA l) ∗ own c b (qB l) ∗ own c b (qC l) ∗ own c b (qD l)) := by
  iintro H
  ihave H := (own_cut c b (cut_row l)) $$ H
  icases H with ⟨H0, H1⟩
  ihave H0 := (own_cut c b (cut_top l)) $$ H0
  ihave H1 := (own_cut c b (cut_bot l)) $$ H1
  icases H0 with ⟨HA, HB⟩
  icases H1 with ⟨HC, HD⟩
  isplitl [HA]; · iexact HA
  isplitl [HB]; · iexact HB
  isplitl [HC]; · iexact HC
  iexact HD
theorem quads_own : own (F := F) c b (qA l) ⊢ iprop(own c b (qB l) -∗ own c b (qC l) -∗ own c b (qD l) -∗ own c b (sl l)) := by
  iintro HA HB HC HD
  iapply (own_cat c b (cut_row l)) $$ [HA HB] [HC HD]
  · iapply (own_cat c b (cut_top l)) $$ HA HB
  · iapply (own_cat c b (cut_bot l)) $$ HC HD
end Quads

/-! ## The offsets of the kernel -/

theorem f1 : ∀ c, fits (k0_off1 c) ![64, 512] (rw1 c) both := by decide +kernel
theorem f5 : ∀ c, fits (k0_off5 c) ![128, 512] (Rg c) both := by decide +kernel
theorem f6 : ∀ c, fits (k0_off6 c) ![128, 1024] (Rg c) both ∧ k0_off6 c 1 = 0 := by decide +kernel
theorem f7 : ∀ c, fits (k0_off7 c) ![64, 512] (rw1 (bD c)) both := by decide +kernel
theorem f8 : ∀ c, fits (k0_off8 c) ![64, 1024] (rw1 (bD c)) both ∧ k0_off8 c 1 = 0 := by decide +kernel
theorem f9 : ∀ c, fits (k0_off9 c) ![64, 512] (rw1 (dD c)) both := by decide +kernel
theorem f10 : ∀ c, fits (k0_off10 c) ![64, 1024] (rw1 (dD c)) both ∧ k0_off10 c 1 = 0 := by decide +kernel
theorem f11 : ∀ c, fits (k0_off11 c) ![128, 1024] (Rb c) both ∧ k0_off11 c 1 = 0 := by decide +kernel
theorem f12 : ∀ c, fits (k0_off12 c) ![128, 256] (Rb c) hL := by decide +kernel
theorem f15 : ∀ c, fits (k0_off15 c) ![128, 256] (Rb c) hR := by decide +kernel
theorem f27 : ∀ c, fits (k0_off27 c) ![64, 256] (rw1 c) hL := by decide +kernel
theorem f21 : ∀ c, fits (k0_off21 c) ![64, 256] (rw1 c) hR := by decide +kernel
theorem ft : fits ![0, 0] ![128, 1024] R0 both := by decide
theorem fb : fits ![128, 0] ![128, 1024] R1 both := by decide
theorem ft' : fits ![0, 0] ![128, 512] R0 both := by decide
theorem fb' : fits ![128, 0] ![128, 512] R1 both := by decide
theorem fA : fits ![0, 0] ![128, 256] R0 hL := by decide
theorem fB : fits ![0, 256] ![128, 256] R0 hR := by decide
theorem fC : fits ![128, 0] ![128, 256] R1 hL := by decide
theorem fD : fits ![128, 256] ![128, 256] R1 hR := by decide

/-- A rectangle at `off` and the one at `off3` in slab `l`. -/
abbrev At (off : Fin 2 → ℕ) (off3 : Fin 3 → ℕ) (sz : Fin 2 → ℕ) (l : Fin 4) (R : Fin 4 → Bool) (H : Fin 2 → Bool) : Prop :=
  fits off sz R H ∧ off3 0 = l.val ∧ off3 1 = off 0 ∧ off3 2 = off 1

theorem gA (l : Fin 4) : At ![0, 0] ![l.val, 0, 0] ![128, 256] l R0 hL := ⟨fA, rfl, rfl, rfl⟩
theorem gB (l : Fin 4) : At ![0, 256] ![l.val, 0, 256] ![128, 256] l R0 hR := ⟨fB, rfl, rfl, rfl⟩
theorem gC (l : Fin 4) : At ![128, 0] ![l.val, 128, 0] ![128, 256] l R1 hL := ⟨fC, rfl, rfl, rfl⟩
theorem gD (l : Fin 4) : At ![128, 256] ![l.val, 128, 256] ![128, 256] l R1 hR := ⟨fD, rfl, rfl, rfl⟩
theorem g20 : ∀ c, At (k0_off14 c) (k0_off13 c) ![128, 256] (slab 20) (rows 20 c) (half 20) := by decide +kernel
theorem g21 : ∀ c, At (k0_off4 c 2#32) (k0_off16 c 2#32) ![64, 256] (slab 21) (rows 21 c) (half 21) := by decide +kernel
theorem g22 : ∀ c, At (k0_off4 c 1#32) (k0_off16 c 1#32) ![64, 256] (slab 22) (rows 22 c) (half 22) := by decide +kernel
theorem g23 : ∀ c, At (k0_off20 c) (k0_off19 c) ![64, 256] (slab 23) (rows 23 c) (half 23) := by decide +kernel
theorem g24 : ∀ c, At (k0_off26 c) (k0_off25 c) ![64, 256] (slab 24) (rows 24 c) (half 24) := by decide +kernel
theorem s20 : ∀ c, At (k0_off17 c) (k0_off18 c) ![128, 256] 0 (Rg c) hL := by decide +kernel
theorem s22 : ∀ c, At (k0_off21 c) (k0_off22 c) ![64, 256] 0 (rw1 c) hR := by decide +kernel
theorem s21 : ∀ c, At (k0_off23 c) (k0_off24 c) ![64, 256] 0 (rw1 (bD c)) hR := by decide +kernel
theorem s23 : ∀ c, At (k0_off27 c) (k0_off28 c) ![64, 256] 2 (rw1 c) hL := by decide +kernel
theorem s24 : ∀ c, At (k0_off21 c) (k0_off29 c) ![64, 256] 2 (rw1 c) hR := by decide +kernel
theorem f0 : ∀ c, fits (k0_off2 c) ![64, 512] (rows 0 c) (half 0) := by decide +kernel
theorem f2 : ∀ c, fits (k0_off3 c) ![64, 256] (rows 2 c) (half 2) := by decide +kernel
theorem f3 : ∀ c, fits (k0_off4 c 1#32) ![64, 256] (rows 3 c) (half 3) := by decide +kernel

/-! What the receiver finds, as it names it. -/
theorem d20 (c : Dev nD) : dstT 20 (pr 20 c) = bx (· == 0) (Rg c) hL := funext (by revert c; decide)
theorem d21 (c : Dev nD) : dstT 21 (pr 21 c) = bx (· == 0) (rw1 (bD c)) hR := funext (by revert c; decide)
theorem d22 (c : Dev nD) : dstT 22 (pr 22 c) = bx (· == 0) (rw1 c) hR := funext (by revert c; decide)
theorem d23 (c : Dev nD) : dstT 23 (pr 23 c) = bx (· == 2) (rw1 c) hL := funext (by revert c; decide)
theorem d24 (c : Dev nD) : dstT 24 (pr 24 c) = bx (· == 2) (rw1 c) hR := funext (by revert c; decide)

/-! The partners. -/
theorem p1 : ∀ c, (⟨k0_dev1 c, k0_dev1_lt c⟩ : Dev nD) = aD c := by decide +kernel
theorem p2 : ∀ c, (⟨k0_dev2 c, k0_dev2_lt c⟩ : Dev nD) = bD c := by decide +kernel
theorem e0 : ∀ c, (⟨k0_dev3 c, k0_dev3_lt c⟩ : Dev nD) = pr 0 c ∧ Fin.ofNat 58 8 = sS 0 ∧ Fin.ofNat 58 33 = rS 0 := by decide +kernel
theorem e1 : ∀ c, (⟨k0_dev4 c, k0_dev4_lt c⟩ : Dev nD) = pr 1 c ∧ Fin.ofNat 58 9 = sS 1 ∧ Fin.ofNat 58 34 = rS 1 := by decide +kernel
theorem e2 : ∀ c, (⟨k0_dev5 c, k0_dev5_lt c⟩ : Dev nD) = pr 2 c ∧ Fin.ofNat 58 10 = sS 2 ∧ Fin.ofNat 58 35 = rS 2 := by decide +kernel
theorem e3 : ∀ c, (⟨k0_dev6 c, k0_dev6_lt c⟩ : Dev nD) = pr 3 c ∧ Fin.ofNat 58 11 = sS 3 ∧ Fin.ofNat 58 36 = rS 3 := by decide +kernel
theorem e4 : ∀ c, (⟨k0_dev7 c, k0_dev7_lt c⟩ : Dev nD) = pr 4 c ∧ Fin.ofNat 58 12 = sS 4 ∧ Fin.ofNat 58 37 = rS 4 := by decide +kernel
theorem e5 : ∀ c, (⟨k0_dev8 c, k0_dev8_lt c⟩ : Dev nD) = pr 5 c ∧ Fin.ofNat 58 13 = sS 5 ∧ Fin.ofNat 58 38 = rS 5 := by decide +kernel
theorem e8 : ∀ c, (⟨k0_dev9 c, k0_dev9_lt c⟩ : Dev nD) = pr 8 c ∧ Fin.ofNat 58 16 = sS 8 ∧ Fin.ofNat 58 41 = rS 8 := by decide +kernel
theorem e9 : ∀ c, (⟨k0_dev10 c, k0_dev10_lt c⟩ : Dev nD) = pr 9 c ∧ Fin.ofNat 58 17 = sS 9 ∧ Fin.ofNat 58 42 = rS 9 := by decide +kernel
theorem e6 : ∀ c, (⟨k0_dev11 c, k0_dev11_lt c⟩ : Dev nD) = pr 6 c ∧ Fin.ofNat 58 14 = sS 6 ∧ Fin.ofNat 58 39 = rS 6 := by decide +kernel
theorem e7 : ∀ c, (⟨k0_dev12 c, k0_dev12_lt c⟩ : Dev nD) = pr 7 c ∧ Fin.ofNat 58 15 = sS 7 ∧ Fin.ofNat 58 40 = rS 7 := by decide +kernel
theorem e10 : ∀ c, (⟨k0_dev13 c, k0_dev13_lt c⟩ : Dev nD) = pr 10 c ∧ Fin.ofNat 58 18 = sS 10 ∧ Fin.ofNat 58 43 = rS 10 := by decide +kernel
theorem e11 : ∀ c, (⟨k0_dev14 c, k0_dev14_lt c⟩ : Dev nD) = pr 11 c ∧ Fin.ofNat 58 19 = sS 11 ∧ Fin.ofNat 58 44 = rS 11 := by decide +kernel
theorem e12 : ∀ c, (⟨k0_dev15 c, k0_dev15_lt c⟩ : Dev nD) = pr 12 c ∧ Fin.ofNat 58 20 = sS 12 ∧ Fin.ofNat 58 45 = rS 12 := by decide +kernel
theorem e13 : ∀ c, (⟨k0_dev16 c, k0_dev16_lt c⟩ : Dev nD) = pr 13 c ∧ Fin.ofNat 58 21 = sS 13 ∧ Fin.ofNat 58 46 = rS 13 := by decide +kernel
theorem e16 : ∀ c, (⟨k0_dev17 c, k0_dev17_lt c⟩ : Dev nD) = pr 16 c ∧ Fin.ofNat 58 24 = sS 16 ∧ Fin.ofNat 58 49 = rS 16 := by decide +kernel
theorem e17 : ∀ c, (⟨k0_dev18 c, k0_dev18_lt c⟩ : Dev nD) = pr 17 c ∧ Fin.ofNat 58 25 = sS 17 ∧ Fin.ofNat 58 50 = rS 17 := by decide +kernel
theorem e14 : ∀ c, (⟨k0_dev19 c, k0_dev19_lt c⟩ : Dev nD) = pr 14 c ∧ Fin.ofNat 58 22 = sS 14 ∧ Fin.ofNat 58 47 = rS 14 := by decide +kernel
theorem e15 : ∀ c, (⟨k0_dev20 c, k0_dev20_lt c⟩ : Dev nD) = pr 15 c ∧ Fin.ofNat 58 23 = sS 15 ∧ Fin.ofNat 58 48 = rS 15 := by decide +kernel
theorem e18 : ∀ c, (⟨k0_dev21 c, k0_dev21_lt c⟩ : Dev nD) = pr 18 c ∧ Fin.ofNat 58 26 = sS 18 ∧ Fin.ofNat 58 51 = rS 18 := by decide +kernel
theorem e19 : ∀ c, (⟨k0_dev22 c, k0_dev22_lt c⟩ : Dev nD) = pr 19 c ∧ Fin.ofNat 58 27 = sS 19 ∧ Fin.ofNat 58 52 = rS 19 := by decide +kernel
theorem e20 : ∀ c, (⟨k0_dev23 c, k0_dev23_lt c⟩ : Dev nD) = pr 20 c ∧ Fin.ofNat 58 28 = sS 20 ∧ Fin.ofNat 58 53 = rS 20 := by decide +kernel
theorem e21 : ∀ c, (⟨k0_dev24 c, k0_dev24_lt c⟩ : Dev nD) = pr 21 c ∧ Fin.ofNat 58 29 = sS 21 ∧ Fin.ofNat 58 54 = rS 21 := by decide +kernel
theorem e22 : ∀ c, (⟨k0_dev25 c, k0_dev25_lt c⟩ : Dev nD) = pr 22 c ∧ Fin.ofNat 58 30 = sS 22 ∧ Fin.ofNat 58 55 = rS 22 := by decide +kernel
theorem e23 : ∀ c, (⟨k0_dev26 c, k0_dev26_lt c⟩ : Dev nD) = pr 23 c ∧ Fin.ofNat 58 31 = sS 23 ∧ Fin.ofNat 58 56 = rS 23 := by decide +kernel
theorem e24 : ∀ c, (⟨k0_dev27 c, k0_dev27_lt c⟩ : Dev nD) = pr 24 c ∧ Fin.ofNat 58 32 = sS 24 ∧ Fin.ofNat 58 57 = rS 24 := by decide +kernel

section Send
variable (𝒮 : Spec F) (m : (ℓ : Loc nD τ sig) → Buf (Elt F) ℓ) (K : Dev nD × CellIx → ℕ)
variable (c : Dev nD) {α : Type} {Q : α → sProp (MT nD τ sig Unit (Elt F) ℕ UU ℕ)}

/-- The wait for a local copy, its two parts apart. -/
theorem waitL (w : ℕ) {n : ℕ} {dn : List (DmaSem sig)} {sp sp' : Space} {s s' : Shape} {e e' : EltTy} {sem : DmaSem sig}
    {src : Memref sig .tc sp' s' e'} {κ' : Kind} {dst : Memref sig κ' sp s e} {hsrc : src.view.WordExact} {hdst : dst.view.WordExact}
    {kk : PUnit → Prog (TpuEff nD τ sig (Elt F) Λ₀ .tc) α} {P P' : sProp (MT nD τ sig Unit (Elt F) ℕ UU ℕ)} (hp : localPay 𝒮 m w c = iprop(P ∗ P'))
    (hw : w < 8) (hs : sem = wS w) (ha : dst.view.dmaCredit = amtL w) (hl : ∀ k ∈ order.drop n, k < 25) :
    records 𝒮 m K ⊢ iprop(St c n dn -∗ XC c (wS w) -∗ (St c n (wS w :: dn) -∗ P -∗ P' -∗ runs c (kk ⟨⟩) Q)
      -∗ runs c (.op (.waitDma2 sem src dst hsrc hdst) kk) Q) := by
  iintro #HR HSt HW Hk
  iapply (wp_waitL 𝒮 m K c w hw hs ha hl) $$ HR HSt HW
  rw [hp]
  iintro HSt ⟨H, H'⟩
  iapply Hk $$ HSt H H'

/-- A send with nothing handed over. -/
theorem sendP (k : ℕ) (T : Tile → Bool) (G : Vec F S256x512 .bf16) (hTG : srcT k c = T ∧ cont 𝒮 k c = G) {n : ℕ} {dn : List (DmaSem sig)} {p : Dev nD} {nn w : ℕ} {off : Fin 2 → ℕ} {off3 : Fin 3 → ℕ} {inb inb3} {s₁ s₂ : DmaSem sig}
    {hr : ∀ a, (Rect.unit (s := S256x512) off ![nn, w] inb).stride a = 1} {hr3 : ∀ a, (Rect.unit (s := S4x256x512) off3 ![1, nn, w] inb3).stride a = 1}
    {hq : (Rect.unit (s := S4x256x512) off3 ![1, nn, w] inb3).shape.Squeezes ⟨2, ![nn, w]⟩}
    {hsc : ((M3.slice (Rect.unit (s := S4x256x512) off3 ![1, nn, w] inb3) hr3).squeeze ⟨2, ![nn, w]⟩ hq).view.ref.isScScratch = false}
    {hsrc : (M2.slice (Rect.unit (s := S256x512) off ![nn, w] inb) hr).view.WordExact}
    {hdst : ((M3.slice (Rect.unit (s := S4x256x512) off3 ![1, nn, w] inb3) hr3).squeeze ⟨2, ![nn, w]⟩ hq).view.WordExact}
    {hsem : DmaTarget.Typed .vmem (.dma s₂) (.remote (Dev.tc p) ((M3.slice (Rect.unit (s := S4x256x512) off3 ![1, nn, w] inb3) hr3).squeeze ⟨2, ![nn, w]⟩ hq) (.dma s₁) hsc)}
    {kk : PUnit → Prog (TpuEff nD τ sig (Elt F) Λ₀ .tc) α} (hk : (¬ k < 4 ∧ k < 25) ∧ k < 20 ∧ k ≠ 12 ∧ k ≠ 16) (ho : order.drop n = k :: order.drop (n + 1))
    (hh : p = pr k c ∧ s₁ = sS k ∧ s₂ = rS k)
    (ha : ((M3.slice (Rect.unit (s := S4x256x512) off3 ![1, nn, w] inb3) hr3).squeeze ⟨2, ![nn, w]⟩ hq).view.dmaCredit = amtX k)
    (hg : At off off3 ![nn, w] (slab k) (rows k c) (half k)) :
    records 𝒮 m K ⊢ iprop(St c n dn -∗ zz 𝒮 c T G
        -∗ (St c (n + 1) dn -∗ XC c (sS k) -∗ XC c (rS k) -∗ runs c (kk ⟨⟩) Q)
      -∗ runs c (.op (.enqueueDma (M2.slice (Rect.unit (s := S256x512) off ![nn, w] inb) hr)
          (.remote (Dev.tc p) ((M3.slice (Rect.unit (s := S4x256x512) off3 ![1, nn, w] inb3) hr3).squeeze ⟨2, ![nn, w]⟩ hq) (.dma s₁) hsc) (.dma s₂) hsrc hdst hsem) kk) Q) := by
  obtain ⟨rfl, rfl⟩ := hTG
  iintro #HR HSt HZ Hk
  iapply (wp_sendZ 𝒮 m K c k hk.1 ho hh ha hg) $$ HR HSt HZ [] Hk
  iapply (hands_none hk.2)
  iempintro
end Send

end Cert.KernelIdeal.Pf
end
-- ==== Proof.KernelIdeal.Parts0.lean ====
/-
The kernel's parts, each run from what it needs to what it leaves: the first layer's input.
-/
module

public import proofs.«01_k».proof.Proof.KernelIdeal.Offs

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the buffers it is launched with. -/
abbrev at0 {β : Type 1} (f : ∀ (arg0 : Memref sig .tc .hbm S64x512 .f32) (harg0 : arg0.IsWhole) (arg1 : Memref sig .tc .hbm S512x1024 .f32) (harg1 : arg1.IsWhole) (arg2 : Memref sig .tc .hbm S1024x512 .f32) (harg2 : arg2.IsWhole) (arg3 : Memref sig .tc .hbm S512x1024 .f32) (harg3 : arg3.IsWhole) (arg4 : Memref sig .tc .hbm S1024x512 .f32) (harg4 : arg4.IsWhole) (arg5 : Memref sig .tc .hbm S512x1024 .f32) (harg5 : arg5.IsWhole) (arg6 : Memref sig .tc .hbm S1024x512 .f32) (harg6 : arg6.IsWhole) (arg7 : Memref sig .tc .hbm S64x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S4x256x512 .bf16) (harg11 : arg11.IsWhole) (arg12 : Memref sig .tc .vmem S64x512 .f32) (harg12 : arg12.IsWhole) (arg13 : Memref sig .tc .vmem S64x512 .bf16) (harg13 : arg13.IsWhole) (arg14 : Memref sig .tc .vmem S3x512x1024 .f32) (harg14 : arg14.IsWhole) (arg15 : Memref sig .tc .vmem S3x1024x512 .f32) (harg15 : arg15.IsWhole) (arg16 : DmaSems sig S8) (arg17 : DmaSems sig S25) (arg18 : DmaSems sig S25), β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10

theorem runs_ret {α : Type} (c : Dev nD) (a : α) {Q : α → sProp (MT nD τ sig Unit (Elt F) ℕ UU ℕ)} : Q a ⊢ runs c (Prog.ret a) Q := by
  show _ ⊢ wp _ _ _ _ _
  rw [wp_ret]
  iintro H
  imodintro
  iexact H

theorem runs_bind {α β : Type} (c : Dev nD) (p : Prog (TpuEff nD τ sig (Elt F) Λ₀ .tc) α) (k : α → Prog (TpuEff nD τ sig (Elt F) Λ₀ .tc) β)
    {Q : β → sProp (MT nD τ sig Unit (Elt F) ℕ UU ℕ)} : runs c p (fun a => runs c (k a) Q) ⊢ runs c (p >>= k) Q := by
  show _ ⊢ wp _ _ _ _ _
  rw [wp_bind]

/-- A layer's weights, as a load of its slab reads them. -/
abbrev wv1 (m : (ℓ : Loc nD τ sig) → Buf (Elt F) ℓ) (c : Dev nD) (l : Fin 3) : Vec F S1x512x1024 .f32 :=
  at_ (Rect.unit (s := S3x512x1024) ![l.val, 0, 0] ![1, 512, 1024] (by revert l; decide)) (w1 m c)
abbrev wv2 (m : (ℓ : Loc nD τ sig) → Buf (Elt F) ℓ) (c : Dev nD) (l : Fin 3) : Vec F S1x1024x512 .f32 :=
  at_ (Rect.unit (s := S3x1024x512) ![l.val, 0, 0] ![1, 1024, 512] (by revert l; decide)) (w2 m c)

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part4 {Q : PUnit → sProp (MT nD τ sig Unit (Elt F) ℕ UU ℕ)} (v3 v4 v46 : BitVec 32) :
    records 𝒮 m K ⊢ iprop(St c 1 dn -∗ XC c (sS 0) -∗ XC c (rS 0) -∗ source 𝒮 1 c
      -∗ (St c 2 (rS 1 :: sS 1 :: rS 0 :: sS 0 :: dn) -∗ source 𝒮 0 c -∗ landed 𝒮 0 c -∗ source 𝒮 1 c -∗ landed 𝒮 1 c -∗ Q ⟨⟩)
      -∗ runs c (at0 k0_part4 c v3 v4 v46) Q) := by
  rw [k0_part4_eq_skeleton]
  simp only [k0_part4_skel, Prog.lift, Prog.bind_op, Prog.bind_ret, Prog.pure_eq_ret]
  iintro #HR HSt HS0 HR0 Hs1 Hk
  iapply (wp_send0 𝒮 m K c 1 (by decide) rfl (e1 c) (a0 (by decide)) (set2 (Rw := 256) le_rfl (by decide) (f0 c)) rfl) $$ HR HSt Hs1
  iintro HSt HS1 HR1
  iapply (wp_waitS 𝒮 m K c 0 (by decide) (by decide) (a0 (by decide)) (by decide)) $$ HR HSt HS0
  iintro HSt Hs0
  iapply (wp_waitR 𝒮 m K c 0 (by decide) (by decide) (a0 (by decide)) (by decide)) $$ HR HSt HR0
  iintro HSt Hl0 -
  iapply (wp_waitS 𝒮 m K c 1 (by decide) (by decide) (a0 (by decide)) (by decide)) $$ HR HSt HS1
  iintro HSt Hs1
  iapply (wp_waitR 𝒮 m K c 1 (by decide) (by decide) (a0 (by decide)) (by decide)) $$ HR HSt HR1
  iintro HSt Hl1 -
  iapply runs_ret
  iapply Hk $$ HSt Hs0 Hl0 Hs1 Hl1

theorem part5 {Q : FVec F S512x1024 .bf16 → sProp (MT nD τ sig Unit (Elt F) ℕ UU ℕ)} (v3 v4 v7 v27 : BitVec 32) :
    records 𝒮 m K ⊢ iprop(St c 2 dn -∗ source 𝒮 2 c -∗ source 𝒮 3 c -∗ XC c (wS 0) -∗ reg 𝒮.ok c cc0_scratch0 (bR (Rn c)) fullShare.right (𝒮.X 0)
        -∗ oh c (bR (Rg c))
      -∗ (∀ r, ⌜𝒮.ok → r = k0_pay3 (wv1 m c 0)⌝ -∗ St c 4 (wS 0 :: dn) -∗ XC c (sS 2) -∗ XC c (rS 2) -∗ XC c (sS 3) -∗ XC c (rS 3)
        -∗ own c cc0_scratch6 (slT 0) -∗ argPts m main_arg1 c -∗ reg 𝒮.ok c cc0_scratch0 (bR (Rn c)) fullShare.right (𝒮.X 0) -∗ hh 𝒮 c (bR (Rg c)) (𝒮.H 0 c) -∗ Q r)
      -∗ runs c (at0 k0_part5 c v3 v4 v7 v27) Q) := by
  rw [k0_part5_eq_skeleton]
  simp only [k0_part5_skel, Prog.lift, Prog.bind_op, Prog.bind_ret, Prog.pure_eq_ret]
  iintro #HR HSt Hs2 Hs3 HW HX HH Hk
  iapply (wp_send0 𝒮 m K c 2 (by decide) rfl (e2 c) (a0' (.inl rfl)) (set2 (Rw := 256) le_rfl (by decide) (f2 c)) rfl) $$ HR HSt Hs2
  iintro HSt HS2 HR2
  iapply (wp_send0 𝒮 m K c 3 (by decide) rfl (e3 c) (a0' (.inr rfl)) (set2 (Rw := 256) le_rfl (by decide) (f3 c)) rfl) $$ HR HSt Hs3
  iintro HSt HS3 HR3
  iapply (waitL 𝒮 m K c 0 rfl (by decide) (by decide) rfl (by decide)) $$ HR HSt HW
  iintro HSt HL HA
  iapply (wp_loadR True c M6 (setM6 0 rfl (by decide)) (fun _ h => h)) $$ HL
  iintro %v %ev HL
  iapply (wp_loadR 𝒮.ok c M0 (setM0 (f5 c)) (cut_l (cut_n c))) $$ HX
  iintro %u %eu HX
  iapply (wp_loadO c M1 (setM1 (f6 c).1 (f6 c).2 rfl) (fun _ h => h)) $$ HH
  iintro %_ HH
  iapply (wp_storeO 𝒮.ok c M1 (G := 𝒮.H 0 c) (setM1 (f6 c).1 (f6 c).2 rfl) (fun hok => by rw [ev trivial, eu hok]; exact (hF hok).h0g c _ _ _)) $$ HH
  iintro HH
  iapply runs_ret
  iapply Hk $$ [] HSt HS2 HR2 HS3 HR3 [HL] HA HX HH
  · ipureintro; intro _; rw [ev trivial]; rfl
  · iapply (reg_own True c _) $$ HL

theorem part6 {Q : PUnit → sProp (MT nD τ sig Unit (Elt F) ℕ UU ℕ)} (v3 v4 v7 v9 : BitVec 32) (v144 : FVec F S512x1024 .bf16)
    (hv : 𝒮.ok → v144 = k0_pay3 (wv1 m c 0)) :
    records 𝒮 m K ⊢ iprop(St c 4 dn -∗ XC c (sS 2) -∗ XC c (rS 2) -∗ XC c (sS 3) -∗ XC c (rS 3)
        -∗ reg 𝒮.ok c cc0_scratch0 (bR (Rn c)) fullShare.right (𝒮.X 0) -∗ oh c (bR (rw1 (bD c)))
      -∗ (St c 4 (rS 3 :: sS 3 :: rS 2 :: sS 2 :: dn) -∗ source 𝒮 2 c -∗ landed 𝒮 2 c -∗ source 𝒮 3 c -∗ landed 𝒮 3 c
        -∗ reg 𝒮.ok c cc0_scratch0 (bR (Rn c)) fullShare.right (𝒮.X 0) -∗ hh 𝒮 c (bR (rw1 (bD c))) (𝒮.H 0 c) -∗ Q ⟨⟩)
      -∗ runs c (at0 k0_part6 c v3 v4 v7 v9 v144) Q) := by
  rw [k0_part6_eq_skeleton]
  simp only [k0_part6_skel, Prog.lift, Prog.bind_op, Prog.bind_ret, Prog.pure_eq_ret]
  iintro #HR HSt HS2 HR2 HS3 HR3 HX HH Hk
  iapply (wp_loadR 𝒮.ok c M0 (setM0 (f7 c)) (cut_r (cut_n c))) $$ HX
  iintro %u %eu HX
  iapply (wp_loadO c M1 (setM1 (f8 c).1 (f8 c).2 rfl) (fun _ h => h)) $$ HH
  iintro %_ HH
  iapply (wp_storeO 𝒮.ok c M1 (G := 𝒮.H 0 c) (setM1 (f8 c).1 (f8 c).2 rfl) (fun hok => by rw [hv hok, eu hok]; exact (hF hok).h0b c _ _ _)) $$ HH
  iintro HH
  iapply (wp_waitS 𝒮 m K c 2 (by decide) (by decide) (a0' (.inl rfl)) (by decide)) $$ HR HSt HS2
  iintro HSt Hs2
  iapply (wp_waitR 𝒮 m K c 2 (by decide) (by decide) (a0' (.inl rfl)) (by decide)) $$ HR HSt HR2
  iintro HSt Hl2 -
  iapply (wp_waitS 𝒮 m K c 3 (by decide) (by decide) (a0' (.inr rfl)) (by decide)) $$ HR HSt HS3
  iintro HSt Hs3
  iapply (wp_waitR 𝒮 m K c 3 (by decide) (by decide) (a0' (.inr rfl)) (by decide)) $$ HR HSt HR3
  iintro HSt Hl3 -
  iapply runs_ret
  iapply Hk $$ HSt Hs2 Hl2 Hs3 Hl3 HX HH

theorem part7 {Q : FVec F S1024x512 .bf16 → sProp (MT nD τ sig Unit (Elt F) ℕ UU ℕ)} (v4 v9 : BitVec 32) (v144 : FVec F S512x1024 .bf16)
    (hv : 𝒮.ok → v144 = k0_pay3 (wv1 m c 0)) :
    records 𝒮 m K ⊢ iprop(St c 4 dn -∗ XC c (wS 1) -∗ xx 𝒮 c all0 (𝒮.X 0) -∗ hh 𝒮 c (bR (Rg c)) (𝒮.H 0 c) -∗ hh 𝒮 c (bR (rw1 (bD c))) (𝒮.H 0 c)
        -∗ oh c (bR (rw1 (dD c))) -∗ oz c (bR R0)
      -∗ (∀ r, ⌜𝒮.ok → r = k0_pay7 (wv2 m c 0)⌝ -∗ St c 5 (wS 1 :: dn) -∗ XC c (sS 4) -∗ XC c (rS 4)
        -∗ own c cc0_scratch7 (slT 0) -∗ argPts m main_arg2 c -∗ xx 𝒮 c all0 (𝒮.X 0) -∗ hh 𝒮 c all0 (𝒮.H 0 c) -∗ zz 𝒮 c (qB 0) (𝒮.Z 0 c) -∗ Q r)
      -∗ runs c (at0 k0_part7 c v4 v9 v144) Q) := by
  rw [k0_part7_eq_skeleton]
  simp only [k0_part7_skel, Prog.lift, Prog.bind_op, Prog.bind_ret, Prog.pure_eq_ret]
  iintro #HR HSt HW HX HHg HHb HH HZ Hk
  iapply (wp_loadR 𝒮.ok c M0 (setM0 (f9 c)) (cut_r (cut_all c))) $$ HX
  iintro %u %eu HX
  iapply (wp_loadO c M1 (setM1 (f10 c).1 (f10 c).2 rfl) (fun _ h => h)) $$ HH
  iintro %_ HH
  iapply (wp_storeO 𝒮.ok c M1 (G := 𝒮.H 0 c) (setM1 (f10 c).1 (f10 c).2 rfl) (fun hok => by rw [hv hok, eu hok]; exact (hF hok).h0d c _ _ _)) $$ HH
  iintro HH
  ihave HHg := (reg_cat 𝒮.ok c cc0_scratch1 (cut_n c)) $$ HHg HHb
  ihave HH := (reg_cat 𝒮.ok c cc0_scratch1 (cut_all c)) $$ HHg HH
  iapply (waitL 𝒮 m K c 1 rfl (by decide) (by decide) rfl (by decide)) $$ HR HSt HW
  iintro HSt HL HA
  iapply (wp_loadR True c M7 (setM7 0 rfl (by decide)) (fun _ h => h)) $$ HL
  iintro %v %ev HL
  iapply (wp_loadR 𝒮.ok c M1 (setM1 ft rfl rfl) (cut_l (cut_row 0))) $$ HH
  iintro %w %ew HH
  iapply (wp_loadO c M2 (setM2 ft') (fun _ h => h)) $$ HZ
  iintro %_ HZ
  iapply (wp_storeO 𝒮.ok c M2 (G := 𝒮.Z 0 c) (setM2 ft') (fun hok => by rw [ev trivial, ew hok]; exact (hF hok).z0t c _ _ _)) $$ HZ
  iintro HZ
  ihave HZ := (reg_cut 𝒮.ok c cc0_scratch2 (cut_top 0)) $$ HZ
  icases HZ with ⟨HA', HB⟩
  iapply (sendP 𝒮 m K c 4 (qA 0) (𝒮.Z 0 c) ⟨rfl, rfl⟩ (by decide) rfl (e4 c) (aR (by decide)) (gA 0)) $$ HR HSt HA'
  iintro HSt HS4 HR4
  iapply runs_ret
  iapply Hk $$ [] HSt HS4 HR4 [HL] HA HX HH HB
  · ipureintro; intro _; rw [ev trivial]; rfl
  · iapply (reg_own True c _) $$ HL

end Parts

end Cert.KernelIdeal.Pf
end
-- ==== Proof.KernelIdeal.Parts1.lean ====
/-
The kernel's parts: the first layer's exchanges of partial sums.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part8 {Q : PUnit → sProp (MT nD τ sig Unit (Elt F) ℕ UU ℕ)} (v3 v4 : BitVec 32) (v201 : FVec F S1024x512 .bf16)
    (hv : 𝒮.ok → v201 = k0_pay7 (wv2 m c 0)) :
    records 𝒮 m K ⊢ iprop(St c 5 dn -∗ zz 𝒮 c (qB 0) (𝒮.Z 0 c) -∗ hh 𝒮 c all0 (𝒮.H 0 c) -∗ oz c (bR R1)
      -∗ (St c 7 dn -∗ XC c (sS 5) -∗ XC c (rS 5) -∗ XC c (sS 8) -∗ XC c (rS 8) -∗ hh 𝒮 c all0 (𝒮.H 0 c) -∗ zz 𝒮 c (qD 0) (𝒮.Z 0 c) -∗ Q ⟨⟩)
      -∗ runs c (at0 k0_part8 c v3 v4 v201) Q) := by
  rw [k0_part8_eq_skeleton]
  simp only [k0_part8_skel, Prog.lift, Prog.bind_op, Prog.bind_ret, Prog.pure_eq_ret]
  iintro #HR HSt HB HH HZ Hk
  iapply (sendP 𝒮 m K c 5 (qB 0) (𝒮.Z 0 c) ⟨rfl, rfl⟩ (by decide) rfl (e5 c) (aR (by decide)) (gB 0)) $$ HR HSt HB
  iintro HSt HS5 HR5
  iapply (wp_loadR 𝒮.ok c M1 (setM1 fb rfl rfl) (cut_r (cut_row 0))) $$ HH
  iintro %w %ew HH
  iapply (wp_loadO c M2 (setM2 fb') (fun _ h => h)) $$ HZ
  iintro %_ HZ
  iapply (wp_storeO 𝒮.ok c M2 (G := 𝒮.Z 0 c) (setM2 fb') (fun hok => by rw [hv hok, ew hok]; exact (hF hok).z0b c _ _ _)) $$ HZ
  iintro HZ
  ihave HZ := (reg_cut 𝒮.ok c cc0_scratch2 (cut_bot 0)) $$ HZ
  icases HZ with ⟨HC, HD⟩
  iapply (sendP 𝒮 m K c 8 (qC 0) (𝒮.Z 0 c) ⟨rfl, rfl⟩ (by decide) rfl (e8 c) (aR (by decide)) (gC 0)) $$ HR HSt HC
  iintro HSt HS8 HR8
  iapply runs_ret
  iapply Hk $$ HSt HS5 HR5 HS8 HR8 HH HD

theorem part9 {Q : BitVec 32 → sProp (MT nD τ sig Unit (Elt F) ℕ UU ℕ)} (v3 v4 : BitVec 32) :
    records 𝒮 m K ⊢ iprop(St c 7 dn -∗ zz 𝒮 c (qD 0) (𝒮.Z 0 c) -∗ XC c (sS 4) -∗ XC c (rS 4)
      -∗ (∀ r, St c 8 (rS 4 :: sS 4 :: dn) -∗ XC c (sS 9) -∗ XC c (rS 9) -∗ zz 𝒮 c (qA 0) (𝒮.Y 0 c) -∗ ov c (qA 0) -∗ Q r)
      -∗ runs c (at0 k0_part9 c v3 v4) Q) := by
  rw [k0_part9_eq_skeleton]
  simp only [k0_part9_skel, Prog.lift, Prog.bind_op, Prog.bind_ret, Prog.pure_eq_ret]
  iintro #HR HSt HD HS4 HR4 Hk
  iapply (sendP 𝒮 m K c 9 (qD 0) (𝒮.Z 0 c) ⟨rfl, rfl⟩ (by decide) rfl (e9 c) (aR (by decide)) (gD 0)) $$ HR HSt HD
  iintro HSt HS9 HR9
  iapply (waitZ 𝒮 m K c 4 (qA 0) (𝒮.Z 0 c) ⟨rfl, rfl⟩ (by decide) (by decide) (aS (by decide)) (by decide)) $$ HR HSt HS4
  iintro HSt HA
  iapply (waitV 𝒮 m K c 4 (qA 0) (𝒮.Z 0 (pr 4 c)) ⟨rfl, rfl⟩ (by decide) (by decide) (aR (by decide)) (by decide)) $$ HR HSt HR4
  iintro HSt HV -
  iapply (sumZ 𝒮 c 0 k0_pay10 (fun h => (hF h).y0a c) (gA 0)) $$ HA HV
  iintro HA HV
  iapply runs_ret
  iapply Hk $$ HSt HS9 HR9 HA HV

theorem part10 {Q : PUnit → sProp (MT nD τ sig Unit (Elt F) ℕ UU ℕ)} (v4 v269 : BitVec 32) :
    records 𝒮 m K ⊢ iprop(St c 8 dn -∗ zz 𝒮 c (qA 0) (𝒮.Y 0 c) -∗ XC c (sS 5) -∗ XC c (rS 5)
      -∗ (St c 9 (rS 5 :: sS 5 :: dn) -∗ XC c (sS 6) -∗ XC c (rS 6) -∗ zz 𝒮 c (qB 0) (𝒮.Y 0 c) -∗ ov c (qB 0) -∗ Q ⟨⟩)
      -∗ runs c (at0 k0_part10 c v4 v269) Q) := by
  rw [k0_part10_eq_skeleton]
  simp only [k0_part10_skel, Prog.lift, Prog.bind_op, Prog.bind_ret, Prog.pure_eq_ret]
  iintro #HR HSt HA HS5 HR5 Hk
  iapply (sendP 𝒮 m K c 6 (qA 0) (𝒮.Y 0 c) ⟨rfl, rfl⟩ (by decide) rfl (e6 c) (aR (by decide)) (gA 2)) $$ HR HSt HA
  iintro HSt HS6 HR6
  iapply (waitZ 𝒮 m K c 5 (qB 0) (𝒮.Z 0 c) ⟨rfl, rfl⟩ (by decide) (by decide) (aS (by decide)) (by decide)) $$ HR HSt HS5
  iintro HSt HB
  iapply (waitV 𝒮 m K c 5 (qB 0) (𝒮.Z 0 (pr 5 c)) ⟨rfl, rfl⟩ (by decide) (by decide) (aR (by decide)) (by decide)) $$ HR HSt HR5
  iintro HSt HV -
  iapply (sumZ 𝒮 c 0 k0_pay11 (fun h => (hF h).y0b c) (gB 0)) $$ HB HV
  iintro HB HV
  iapply runs_ret
  iapply Hk $$ HSt HS6 HR6 HB HV

theorem part11 {Q : FVec F S128x256 .bf16 → sProp (MT nD τ sig Unit (Elt F) ℕ UU ℕ)} (v3 : BitVec 32) :
    records 𝒮 m K ⊢ iprop(St c 9 dn -∗ zz 𝒮 c (qB 0) (𝒮.Y 0 c) -∗ XC c (sS 8) -∗ XC c (rS 8)
      -∗ (∀ r, ⌜𝒮.ok → ∀ inb, k0_pay13 r = at_ (Rect.unit (s := S256x512) ![128, 0] ![128, 256] inb) (𝒮.Y 0 c)⌝
        -∗ St c 10 (rS 8 :: sS 8 :: dn) -∗ XC c (sS 7) -∗ XC c (rS 7) -∗ oz c (qC 0) -∗ ov c (qC 0) -∗ Q r)
      -∗ runs c (at0 k0_part11 c v3) Q) := by
  rw [k0_part11_eq_skeleton]
  simp only [k0_part11_skel, Prog.lift, Prog.bind_op, Prog.bind_ret, Prog.pure_eq_ret]
  iintro #HR HSt HB HS8 HR8 Hk
  iapply (sendP 𝒮 m K c 7 (qB 0) (𝒮.Y 0 c) ⟨rfl, rfl⟩ (by decide) rfl (e7 c) (aR (by decide)) (gB 2)) $$ HR HSt HB
  iintro HSt HS7 HR7
  iapply (waitZ 𝒮 m K c 8 (qC 0) (𝒮.Z 0 c) ⟨rfl, rfl⟩ (by decide) (by decide) (aS (by decide)) (by decide)) $$ HR HSt HS8
  iintro HSt HC
  iapply (waitV 𝒮 m K c 8 (qC 0) (𝒮.Z 0 (pr 8 c)) ⟨rfl, rfl⟩ (by decide) (by decide) (aR (by decide)) (by decide)) $$ HR HSt HR8
  iintro HSt HV -
  iapply (wp_loadR 𝒮.ok c M2 (setM2 fC) (fun _ h => h)) $$ HC
  iintro %v %ev HC
  iapply (ldV 𝒮 c 0 fC rfl rfl rfl (fun _ h => h)) $$ HV
  iintro %u %eu HV
  iapply runs_ret
  iapply Hk $$ [] HSt HS7 HR7 [HC] [HV]
  · ipureintro; intro hok inb; rw [ev hok, eu hok]; exact (hF hok).y0c c _ _
  · iapply (reg_own 𝒮.ok c cc0_scratch2) $$ HC
  · iapply (reg_own 𝒮.ok c cc0_scratch3) $$ HV

theorem part12 {Q : Vec F S128x256 .bf16 → sProp (MT nD τ sig Unit (Elt F) ℕ UU ℕ)} (v3 v4 : BitVec 32) (v321 : FVec F S128x256 .bf16)
    (hv : 𝒮.ok → ∀ inb, k0_pay13 v321 = at_ (Rect.unit (s := S256x512) ![128, 0] ![128, 256] inb) (𝒮.Y 0 c)) :
    records 𝒮 m K ⊢ iprop(St c 10 dn -∗ oz c (qC 0) -∗ XC c (sS 9) -∗ XC c (rS 9)
      -∗ (∀ r, ⌜𝒮.ok → ∀ inb, r = at_ (Rect.unit (s := S256x512) ![128, 256] ![128, 256] inb) (𝒮.Z 0 c)⌝
        -∗ St c 11 (rS 9 :: sS 9 :: dn) -∗ XC c (sS 10) -∗ XC c (rS 10) -∗ oz c (qD 0) -∗ vv 𝒮 c (qD 0) (𝒮.Z 0 (pr 9 c)) -∗ Q r)
      -∗ runs c (at0 k0_part12 c v3 v4 v321) Q) := by
  rw [k0_part12_eq_skeleton]
  simp only [k0_part12_skel, Prog.lift, Prog.bind_op, Prog.bind_ret, Prog.pure_eq_ret]
  iintro #HR HSt HC HS9 HR9 Hk
  iapply (wp_loadO c M2 (setM2 fC) (fun _ h => h)) $$ HC
  iintro %_ HC
  iapply (wp_storeO 𝒮.ok c M2 (G := 𝒮.Y 0 c) (setM2 fC) (fun hok => hv hok _)) $$ HC
  iintro HC
  iapply (sendP 𝒮 m K c 10 (qC 0) (𝒮.Y 0 c) ⟨rfl, rfl⟩ (by decide) rfl (e10 c) (aR (by decide)) (gC 2)) $$ HR HSt HC
  iintro HSt HS10 HR10
  iapply (waitZ 𝒮 m K c 9 (qD 0) (𝒮.Z 0 c) ⟨rfl, rfl⟩ (by decide) (by decide) (aS (by decide)) (by decide)) $$ HR HSt HS9
  iintro HSt HD
  iapply (waitV 𝒮 m K c 9 (qD 0) (𝒮.Z 0 (pr 9 c)) ⟨rfl, rfl⟩ (by decide) (by decide) (aR (by decide)) (by decide)) $$ HR HSt HR9
  iintro HSt HV -
  iapply (wp_loadR 𝒮.ok c M2 (setM2 fD) (fun _ h => h)) $$ HD
  iintro %v %ev HD
  iapply runs_ret
  iapply Hk $$ [] HSt HS10 HR10 [HD] HV
  · ipureintro; intro hok inb; rw [ev hok]; rfl
  · iapply (reg_own 𝒮.ok c cc0_scratch2) $$ HD

theorem part13 {Q : FVec F S512x1024 .bf16 → sProp (MT nD τ sig Unit (Elt F) ℕ UU ℕ)} (v4 : BitVec 32) (v346 : Vec F S128x256 .bf16)
    (hv : 𝒮.ok → ∀ inb, v346 = at_ (Rect.unit (s := S256x512) ![128, 256] ![128, 256] inb) (𝒮.Z 0 c)) :
    records 𝒮 m K ⊢ iprop(St c 11 dn -∗ oz c (qD 0) -∗ vv 𝒮 c (qD 0) (𝒮.Z 0 (pr 9 c)) -∗ XC c (wS 2) -∗ XC c (sS 6)
      -∗ (∀ r, ⌜𝒮.ok → r = k0_pay15 (wv1 m c 1)⌝
        -∗ St c 12 (sS 6 :: wS 2 :: dn) -∗ XC c (sS 11) -∗ XC c (rS 11) -∗ zz 𝒮 c (qA 0) (𝒮.Y 0 c) -∗ ov c (qD 0)
        -∗ own c cc0_scratch6 (slT 1) -∗ argPts m main_arg3 c -∗ Q r)
      -∗ runs c (at0 k0_part13 c v4 v346) Q) := by
  rw [k0_part13_eq_skeleton]
  simp only [k0_part13_skel, Prog.lift, Prog.bind_op, Prog.bind_ret, Prog.pure_eq_ret]
  iintro #HR HSt HD HV HW HS6 Hk
  iapply (ldV 𝒮 c 0 fD rfl rfl rfl (fun _ h => h)) $$ HV
  iintro %u %eu HV
  iapply (wp_loadO c M2 (setM2 fD) (fun _ h => h)) $$ HD
  iintro %_ HD
  iapply (wp_storeO 𝒮.ok c M2 (G := 𝒮.Y 0 c) (setM2 fD) (fun hok => by rw [hv hok inb_S256x512_S128x256_128_256, eu hok]; exact (hF hok).y0d c _ _)) $$ HD
  iintro HD
  iapply (sendP 𝒮 m K c 11 (qD 0) (𝒮.Y 0 c) ⟨rfl, rfl⟩ (by decide) rfl (e11 c) (aR (by decide)) (gD 2)) $$ HR HSt HD
  iintro HSt HS11 HR11
  iapply (waitL 𝒮 m K c 2 rfl (by decide) (by decide) rfl (by decide)) $$ HR HSt HW
  iintro HSt HL HA
  iapply (wp_loadR True c M6 (setM6 1 rfl (by decide)) (fun _ h => h)) $$ HL
  iintro %v %ev HL
  iapply (waitZ 𝒮 m K c 6 (qA 0) (𝒮.Y 0 c) ⟨rfl, rfl⟩ (by decide) (by decide) (aS (by decide)) (by decide)) $$ HR HSt HS6
  iintro HSt HZ
  iapply runs_ret
  iapply Hk $$ [] HSt HS11 HR11 HZ [HV] [HL] HA
  · ipureintro; intro _; rw [ev trivial]; rfl
  · iapply (reg_own 𝒮.ok c cc0_scratch3) $$ HV
  · iapply (reg_own True c _) $$ HL

end Parts

end Cert.KernelIdeal.Pf
end
-- ==== Proof.KernelIdeal.Parts2.lean ====
/-
The kernel's parts: the second layer's input and hidden layer.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part14 {Q : FVec F S128x1024 .f32 → sProp (MT nD τ sig Unit (Elt F) ℕ UU ℕ)} (v3 : BitVec 32) (v368 : FVec F S512x1024 .bf16)
    (hv : 𝒮.ok → v368 = k0_pay15 (wv1 m c 1)) :
    records 𝒮 m K ⊢ iprop(St c 12 dn -∗ zz 𝒮 c (qA 0) (𝒮.Y 0 c) -∗ XC c (rS 6) -∗ XC c (sS 7) -∗ ox c (qA 0)
      -∗ (∀ r, ⌜𝒮.ok → ∀ inb, r = k0_pay17 (k0_pay15 (wv1 m c 1)) (at_ (Rect.unit (s := S256x512) ![0, 0] ![128, 256] inb) (𝒮.X 1))⌝
        -∗ St c 12 (sS 7 :: rS 6 :: dn) -∗ oz c (qA 0) -∗ ov c (qA 2) -∗ xx 𝒮 c (qA 0) (𝒮.X 1) -∗ zz 𝒮 c (qB 0) (𝒮.Y 0 c) -∗ Q r)
      -∗ runs c (at0 k0_part14 v3 v368) Q) := by
  rw [k0_part14_eq_skeleton]
  simp only [k0_part14_skel, Prog.lift, Prog.bind_op, Prog.bind_ret, Prog.pure_eq_ret]
  iintro #HR HSt HA HR6 HS7 HX Hk
  iapply (waitV 𝒮 m K c 6 (qA 2) (𝒮.Y 0 (pr 6 c)) ⟨rfl, rfl⟩ (by decide) (by decide) (aR (by decide)) (by decide)) $$ HR HSt HR6
  iintro HSt HV -
  iapply (sumX 𝒮 c 2 k0_pay16 (fun h => (hF h).x1a c) (gA 2)) $$ HA HV HX
  iintro HA HV HX
  iapply (wp_loadR 𝒮.ok c M0 (setM0 fA) (fun _ h => h)) $$ HX
  iintro %u %eu HX
  iapply (waitZ 𝒮 m K c 7 (qB 0) (𝒮.Y 0 c) ⟨rfl, rfl⟩ (by decide) (by decide) (aS (by decide)) (by decide)) $$ HR HSt HS7
  iintro HSt HB
  iapply runs_ret
  iapply Hk $$ [] HSt HA HV HX HB
  ipureintro; intro hok inb; rw [hv hok, eu hok]; rfl

theorem part15 {Q : PUnit → sProp (MT nD τ sig Unit (Elt F) ℕ UU ℕ)} (v4 : BitVec 32) (v368 : FVec F S512x1024 .bf16) (v390 : FVec F S128x1024 .f32)
    (hv : 𝒮.ok → v368 = k0_pay15 (wv1 m c 1))
    (hv' : 𝒮.ok → ∀ inb, v390 = k0_pay17 (k0_pay15 (wv1 m c 1)) (at_ (Rect.unit (s := S256x512) ![0, 0] ![128, 256] inb) (𝒮.X 1))) :
    records 𝒮 m K ⊢ iprop(St c 12 dn -∗ zz 𝒮 c (qB 0) (𝒮.Y 0 c) -∗ XC c (rS 7) -∗ XC c (sS 10) -∗ ox c (qB 0) -∗ oh c (bR R0)
      -∗ (St c 12 (sS 10 :: rS 7 :: dn) -∗ oz c (qB 0) -∗ ov c (qB 2) -∗ xx 𝒮 c (qB 0) (𝒮.X 1) -∗ hh 𝒮 c (bR R0) (𝒮.H 1 c)
        -∗ zz 𝒮 c (qC 0) (𝒮.Y 0 c) -∗ Q ⟨⟩)
      -∗ runs c (at0 k0_part15 v4 v368 v390) Q) := by
  rw [k0_part15_eq_skeleton]
  simp only [k0_part15_skel, Prog.lift, Prog.bind_op, Prog.bind_ret, Prog.pure_eq_ret]
  iintro #HR HSt HB HR7 HS10 HX HH Hk
  iapply (waitV 𝒮 m K c 7 (qB 2) (𝒮.Y 0 (pr 7 c)) ⟨rfl, rfl⟩ (by decide) (by decide) (aR (by decide)) (by decide)) $$ HR HSt HR7
  iintro HSt HV -
  iapply (sumX 𝒮 c 2 k0_pay18 (fun h => (hF h).x1b c) (gB 2)) $$ HB HV HX
  iintro HB HV HX
  iapply (wp_loadR 𝒮.ok c M0 (setM0 fB) (fun _ h => h)) $$ HX
  iintro %u %eu HX
  iapply (wp_loadO c M1 (setM1 ft rfl rfl) (fun _ h => h)) $$ HH
  iintro %_ HH
  iapply (wp_storeO 𝒮.ok c M1 (G := 𝒮.H 1 c) (setM1 ft rfl rfl)
    (fun hok => by rw [hv hok, hv' hok inb_S256x512_S128x256_0_0, eu hok]; exact (hF hok).h1t c _ _ _ _)) $$ HH
  iintro HH
  iapply (waitZ 𝒮 m K c 10 (qC 0) (𝒮.Y 0 c) ⟨rfl, rfl⟩ (by decide) (by decide) (aS (by decide)) (by decide)) $$ HR HSt HS10
  iintro HSt HC
  iapply runs_ret
  iapply Hk $$ HSt HB HV HX HH HC

theorem part16 {Q : FVec F S128x1024 .f32 → sProp (MT nD τ sig Unit (Elt F) ℕ UU ℕ)} (v4 : BitVec 32) (v368 : FVec F S512x1024 .bf16)
    (hv : 𝒮.ok → v368 = k0_pay15 (wv1 m c 1)) :
    records 𝒮 m K ⊢ iprop(St c 12 dn -∗ zz 𝒮 c (qC 0) (𝒮.Y 0 c) -∗ XC c (rS 10) -∗ XC c (sS 11) -∗ ox c (qC 0)
      -∗ (∀ r, ⌜𝒮.ok → ∀ inb, r = k0_pay21 (k0_pay15 (wv1 m c 1)) (at_ (Rect.unit (s := S256x512) ![128, 0] ![128, 256] inb) (𝒮.X 1))⌝
        -∗ St c 12 (sS 11 :: rS 10 :: dn) -∗ oz c (qC 0) -∗ ov c (qC 2) -∗ xx 𝒮 c (qC 0) (𝒮.X 1) -∗ zz 𝒮 c (qD 0) (𝒮.Y 0 c) -∗ Q r)
      -∗ runs c (at0 k0_part16 v4 v368) Q) := by
  rw [k0_part16_eq_skeleton]
  simp only [k0_part16_skel, Prog.lift, Prog.bind_op, Prog.bind_ret, Prog.pure_eq_ret]
  iintro #HR HSt HC HR10 HS11 HX Hk
  iapply (waitV 𝒮 m K c 10 (qC 2) (𝒮.Y 0 (pr 10 c)) ⟨rfl, rfl⟩ (by decide) (by decide) (aR (by decide)) (by decide)) $$ HR HSt HR10
  iintro HSt HV -
  iapply (sumX 𝒮 c 2 k0_pay20 (fun h => (hF h).x1c c) (gC 2)) $$ HC HV HX
  iintro HC HV HX
  iapply (wp_loadR 𝒮.ok c M0 (setM0 fC) (fun _ h => h)) $$ HX
  iintro %u %eu HX
  iapply (waitZ 𝒮 m K c 11 (qD 0) (𝒮.Y 0 c) ⟨rfl, rfl⟩ (by decide) (by decide) (aS (by decide)) (by decide)) $$ HR HSt HS11
  iintro HSt HD
  iapply runs_ret
  iapply Hk $$ [] HSt HC HV HX HD
  ipureintro; intro hok inb; rw [hv hok, eu hok]; rfl

theorem part17 {Q : (Σ' (_ : FVec F S1024x512 .bf16), FVec F S128x512 .bf16) → sProp (MT nD τ sig Unit (Elt F) ℕ UU ℕ)}
    (v368 : FVec F S512x1024 .bf16) (v441 : FVec F S128x1024 .f32) (hv : 𝒮.ok → v368 = k0_pay15 (wv1 m c 1))
    (hv' : 𝒮.ok → ∀ inb, v441 = k0_pay21 (k0_pay15 (wv1 m c 1)) (at_ (Rect.unit (s := S256x512) ![128, 0] ![128, 256] inb) (𝒮.X 1))) :
    records 𝒮 m K ⊢ iprop(St c 12 dn -∗ zz 𝒮 c (qD 0) (𝒮.Y 0 c) -∗ XC c (rS 11) -∗ XC c (wS 3) -∗ ox c (qD 0) -∗ oh c (bR R1)
        -∗ hh 𝒮 c (bR R0) (𝒮.H 1 c) -∗ oz c (qA 0) -∗ oz c (qB 0)
      -∗ (∀ r, ⌜𝒮.ok → r.1 = k0_pay24 (wv2 m c 1) ∧ ∀ inb, r.2 = at_ (Rect.unit (s := S256x512) ![0, 0] ![128, 512] inb) (𝒮.Z 1 c)⌝
        -∗ St c 12 (wS 3 :: rS 11 :: dn) -∗ oz c (qD 0) -∗ ov c (qD 2) -∗ xx 𝒮 c (qD 0) (𝒮.X 1) -∗ hh 𝒮 c (bR R1) (𝒮.H 1 c)
        -∗ hh 𝒮 c (bR R0) (𝒮.H 1 c) -∗ oz c (bR R0) -∗ own c cc0_scratch7 (slT 1) -∗ argPts m main_arg4 c -∗ Q r)
      -∗ runs c (at0 k0_part17 v368 v441) Q) := by
  rw [k0_part17_eq_skeleton]
  simp only [k0_part17_skel, Prog.lift, Prog.bind_op, Prog.bind_ret, Prog.pure_eq_ret]
  iintro #HR HSt HD HR11 HW HX HH HH0 HA HB Hk
  ihave HAB := (own_cat c cc0_scratch2 (cut_top 0)) $$ HA HB
  iapply (waitV 𝒮 m K c 11 (qD 2) (𝒮.Y 0 (pr 11 c)) ⟨rfl, rfl⟩ (by decide) (by decide) (aR (by decide)) (by decide)) $$ HR HSt HR11
  iintro HSt HV -
  iapply (sumX 𝒮 c 2 k0_pay22 (fun h => (hF h).x1d c) (gD 2)) $$ HD HV HX
  iintro HD HV HX
  iapply (wp_loadR 𝒮.ok c M0 (setM0 fD) (fun _ h => h)) $$ HX
  iintro %u %eu HX
  iapply (wp_loadO c M1 (setM1 fb rfl rfl) (fun _ h => h)) $$ HH
  iintro %_ HH
  iapply (wp_storeO 𝒮.ok c M1 (G := 𝒮.H 1 c) (setM1 fb rfl rfl)
    (fun hok => by rw [hv hok, hv' hok inb_S256x512_S128x256_128_0, eu hok]; exact (hF hok).h1b c _ _ _ _)) $$ HH
  iintro HH
  iapply (waitL 𝒮 m K c 3 rfl (by decide) (by decide) rfl (by decide)) $$ HR HSt HW
  iintro HSt HL Ha
  iapply (wp_loadR True c M7 (setM7 1 rfl (by decide)) (fun _ h => h)) $$ HL
  iintro %v %ev HL
  iapply (wp_loadR 𝒮.ok c M1 (setM1 ft rfl rfl) (fun _ h => h)) $$ HH0
  iintro %w %ew HH0
  iapply (wp_loadO c M2 (setM2 ft') (fun _ h => h)) $$ HAB
  iintro %_ HAB
  iapply runs_ret
  iapply Hk $$ [] HSt HD HV HX HH HH0 HAB [HL] Ha
  · ipureintro
    exact fun hok => ⟨by rw [ev trivial]; rfl, fun inb => by rw [ev trivial, ew hok]; exact (hF hok).z1t c _ _ _⟩
  · iapply (reg_own True c _) $$ HL

end Parts

end Cert.KernelIdeal.Pf
end
-- ==== Proof.KernelIdeal.Parts3.lean ====
/-
The kernel's parts: the second layer's exchanges.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part18 {Q : PUnit → sProp (MT nD τ sig Unit (Elt F) ℕ UU ℕ)} (v3 v4 : BitVec 32) (v477 : FVec F S1024x512 .bf16) (v483 : FVec F S128x512 .bf16)
    (hv : 𝒮.ok → v477 = k0_pay24 (wv2 m c 1))
    (hv' : 𝒮.ok → ∀ inb, v483 = at_ (Rect.unit (s := S256x512) ![0, 0] ![128, 512] inb) (𝒮.Z 1 c)) :
    records 𝒮 m K ⊢ iprop(St c 12 dn -∗ oz c (bR R0) -∗ hands 12 c -∗ hh 𝒮 c (bR R1) (𝒮.H 1 c) -∗ oz c (qC 0) -∗ oz c (qD 0)
      -∗ (St c 14 dn -∗ XC c (sS 12) -∗ XC c (rS 12) -∗ XC c (sS 13) -∗ XC c (rS 13) -∗ hh 𝒮 c (bR R1) (𝒮.H 1 c)
        -∗ zz 𝒮 c (qC 0) (𝒮.Z 1 c) -∗ zz 𝒮 c (qD 0) (𝒮.Z 1 c) -∗ Q ⟨⟩)
      -∗ runs c (at0 k0_part18 c v3 v4 v477 v483) Q) := by
  rw [k0_part18_eq_skeleton]
  simp only [k0_part18_skel, Prog.lift, Prog.bind_op, Prog.bind_ret, Prog.pure_eq_ret]
  iintro #HR HSt HAB Hh HH HC HD Hk
  ihave HCD := (own_cat c cc0_scratch2 (cut_bot 0)) $$ HC HD
  iapply (wp_storeO 𝒮.ok c M2 (G := 𝒮.Z 1 c) (setM2 ft') (fun hok => hv' hok _)) $$ HAB
  iintro HAB
  ihave HAB := (reg_cut 𝒮.ok c cc0_scratch2 (cut_top 0)) $$ HAB
  icases HAB with ⟨HA, HB⟩
  iapply (wp_sendZ 𝒮 m K c 12 (by decide) rfl (e12 c) (aR (by decide)) (gA 1)) $$ HR HSt [HA] Hh
  · iexact HA
  iintro HSt HS12 HR12
  iapply (sendP 𝒮 m K c 13 (qB 0) (𝒮.Z 1 c) ⟨rfl, rfl⟩ (by decide) rfl (e13 c) (aR (by decide)) (gB 1)) $$ HR HSt HB
  iintro HSt HS13 HR13
  iapply (wp_loadR 𝒮.ok c M1 (setM1 fb rfl rfl) (fun _ h => h)) $$ HH
  iintro %w %ew HH
  iapply (wp_loadO c M2 (setM2 fb') (fun _ h => h)) $$ HCD
  iintro %_ HCD
  iapply (wp_storeO 𝒮.ok c M2 (G := 𝒮.Z 1 c) (setM2 fb') (fun hok => by rw [hv hok, ew hok]; exact (hF hok).z1b c _ _ _)) $$ HCD
  iintro HCD
  ihave HCD := (reg_cut 𝒮.ok c cc0_scratch2 (cut_bot 0)) $$ HCD
  icases HCD with ⟨HC, HD⟩
  iapply runs_ret
  iapply Hk $$ HSt HS12 HR12 HS13 HR13 HH HC HD

theorem part19 {Q : PUnit → sProp (MT nD τ sig Unit (Elt F) ℕ UU ℕ)} (v3 v4 : BitVec 32) :
    records 𝒮 m K ⊢ iprop(St c 14 dn -∗ zz 𝒮 c (qC 0) (𝒮.Z 1 c) -∗ hands 16 c -∗ zz 𝒮 c (qD 0) (𝒮.Z 1 c) -∗ XC c (sS 12) -∗ XC c (rS 12)
      -∗ (St c 16 (rS 12 :: sS 12 :: dn) -∗ XC c (sS 16) -∗ XC c (rS 16) -∗ XC c (sS 17) -∗ XC c (rS 17)
        -∗ zz 𝒮 c (qA 0) (𝒮.Z 1 c) -∗ vv 𝒮 c (qA 1) (𝒮.Z 1 (pr 12 c)) -∗ extra 12 c -∗ Q ⟨⟩)
      -∗ runs c (at0 k0_part19 c v3 v4) Q) := by
  rw [k0_part19_eq_skeleton]
  simp only [k0_part19_skel, Prog.lift, Prog.bind_op, Prog.bind_ret, Prog.pure_eq_ret]
  iintro #HR HSt HC Hh HD HS12 HR12 Hk
  iapply (wp_sendZ 𝒮 m K c 16 (by decide) rfl (e16 c) (aR (by decide)) (gC 1)) $$ HR HSt [HC] Hh
  · iexact HC
  iintro HSt HS16 HR16
  iapply (sendP 𝒮 m K c 17 (qD 0) (𝒮.Z 1 c) ⟨rfl, rfl⟩ (by decide) rfl (e17 c) (aR (by decide)) (gD 1)) $$ HR HSt HD
  iintro HSt HS17 HR17
  iapply (waitZ 𝒮 m K c 12 (qA 0) (𝒮.Z 1 c) ⟨rfl, rfl⟩ (by decide) (by decide) (aS (by decide)) (by decide)) $$ HR HSt HS12
  iintro HSt HA
  iapply (waitV 𝒮 m K c 12 (qA 1) (𝒮.Z 1 (pr 12 c)) ⟨rfl, rfl⟩ (by decide) (by decide) (aR (by decide)) (by decide)) $$ HR HSt HR12
  iintro HSt HV Hx
  iapply runs_ret
  iapply Hk $$ HSt HS16 HR16 HS17 HR17 HA HV Hx

theorem part20 {Q : PUnit → sProp (MT nD τ sig Unit (Elt F) ℕ UU ℕ)} (v3 v4 : BitVec 32) :
    records 𝒮 m K ⊢ iprop(St c 16 dn -∗ zz 𝒮 c (qA 0) (𝒮.Z 1 c) -∗ vv 𝒮 c (qA 1) (𝒮.Z 1 (pr 12 c)) -∗ XC c (sS 13)
      -∗ (St c 17 (sS 13 :: dn) -∗ XC c (sS 14) -∗ XC c (rS 14) -∗ ov c (qA 1) -∗ zz 𝒮 c (qB 0) (𝒮.Z 1 c) -∗ Q ⟨⟩)
      -∗ runs c (at0 k0_part20 c v3 v4) Q) := by
  rw [k0_part20_eq_skeleton]
  simp only [k0_part20_skel, Prog.lift, Prog.bind_op, Prog.bind_ret, Prog.pure_eq_ret]
  iintro #HR HSt HA HV HS13 Hk
  iapply (sumZ 𝒮 c 1 k0_pay27 (fun h => (hF h).y1a c) (gA 1)) $$ HA HV
  iintro HA HV
  iapply (sendP 𝒮 m K c 14 (qA 0) (𝒮.Y 1 c) ⟨rfl, rfl⟩ (by decide) rfl (e14 c) (aR (by decide)) (gA 3)) $$ HR HSt HA
  iintro HSt HS14 HR14
  iapply (waitZ 𝒮 m K c 13 (qB 0) (𝒮.Z 1 c) ⟨rfl, rfl⟩ (by decide) (by decide) (aS (by decide)) (by decide)) $$ HR HSt HS13
  iintro HSt HB
  iapply runs_ret
  iapply Hk $$ HSt HS14 HR14 HV HB

theorem part21 {Q : PUnit → sProp (MT nD τ sig Unit (Elt F) ℕ UU ℕ)} (v3 : BitVec 32) :
    records 𝒮 m K ⊢ iprop(St c 17 dn -∗ zz 𝒮 c (qB 0) (𝒮.Z 1 c) -∗ XC c (rS 13) -∗ XC c (sS 16)
      -∗ (St c 18 (sS 16 :: rS 13 :: dn) -∗ XC c (sS 15) -∗ XC c (rS 15) -∗ ov c (qB 1) -∗ zz 𝒮 c (qC 0) (𝒮.Z 1 c) -∗ Q ⟨⟩)
      -∗ runs c (at0 k0_part21 c v3) Q) := by
  rw [k0_part21_eq_skeleton]
  simp only [k0_part21_skel, Prog.lift, Prog.bind_op, Prog.bind_ret, Prog.pure_eq_ret]
  iintro #HR HSt HB HR13 HS16 Hk
  iapply (waitV 𝒮 m K c 13 (qB 1) (𝒮.Z 1 (pr 13 c)) ⟨rfl, rfl⟩ (by decide) (by decide) (aR (by decide)) (by decide)) $$ HR HSt HR13
  iintro HSt HV -
  iapply (sumZ 𝒮 c 1 k0_pay28 (fun h => (hF h).y1b c) (gB 1)) $$ HB HV
  iintro HB HV
  iapply (sendP 𝒮 m K c 15 (qB 0) (𝒮.Y 1 c) ⟨rfl, rfl⟩ (by decide) rfl (e15 c) (aR (by decide)) (gB 3)) $$ HR HSt HB
  iintro HSt HS15 HR15
  iapply (waitZ 𝒮 m K c 16 (qC 0) (𝒮.Z 1 c) ⟨rfl, rfl⟩ (by decide) (by decide) (aS (by decide)) (by decide)) $$ HR HSt HS16
  iintro HSt HC
  iapply runs_ret
  iapply Hk $$ HSt HS15 HR15 HV HC

theorem part22 {Q : PUnit → sProp (MT nD τ sig Unit (Elt F) ℕ UU ℕ)} (v4 : BitVec 32) :
    records 𝒮 m K ⊢ iprop(St c 18 dn -∗ zz 𝒮 c (qC 0) (𝒮.Z 1 c) -∗ XC c (rS 16) -∗ XC c (sS 17)
      -∗ (St c 19 (sS 17 :: rS 16 :: dn) -∗ XC c (sS 18) -∗ XC c (rS 18) -∗ ov c (qC 1) -∗ extra 16 c -∗ zz 𝒮 c (qD 0) (𝒮.Z 1 c) -∗ Q ⟨⟩)
      -∗ runs c (at0 k0_part22 c v4) Q) := by
  rw [k0_part22_eq_skeleton]
  simp only [k0_part22_skel, Prog.lift, Prog.bind_op, Prog.bind_ret, Prog.pure_eq_ret]
  iintro #HR HSt HC HR16 HS17 Hk
  iapply (waitV 𝒮 m K c 16 (qC 1) (𝒮.Z 1 (pr 16 c)) ⟨rfl, rfl⟩ (by decide) (by decide) (aR (by decide)) (by decide)) $$ HR HSt HR16
  iintro HSt HV Hx
  iapply (sumZ 𝒮 c 1 k0_pay29 (fun h => (hF h).y1c c) (gC 1)) $$ HC HV
  iintro HC HV
  iapply (sendP 𝒮 m K c 18 (qC 0) (𝒮.Y 1 c) ⟨rfl, rfl⟩ (by decide) rfl (e18 c) (aR (by decide)) (gC 3)) $$ HR HSt HC
  iintro HSt HS18 HR18
  iapply (waitZ 𝒮 m K c 17 (qD 0) (𝒮.Z 1 c) ⟨rfl, rfl⟩ (by decide) (by decide) (aS (by decide)) (by decide)) $$ HR HSt HS17
  iintro HSt HD
  iapply runs_ret
  iapply Hk $$ HSt HS18 HR18 HV Hx HD

theorem part23 {Q : PUnit → sProp (MT nD τ sig Unit (Elt F) ℕ UU ℕ)} (v3 v4 : BitVec 32) :
    records 𝒮 m K ⊢ iprop(St c 19 dn -∗ zz 𝒮 c (qD 0) (𝒮.Z 1 c) -∗ XC c (rS 17) -∗ XC c (wS 4)
      -∗ (St c 20 (wS 4 :: rS 17 :: dn) -∗ XC c (sS 19) -∗ XC c (rS 19) -∗ ov c (qD 1)
        -∗ reg True c cc0_scratch6 (slT 2) fullShare (w1 m c) -∗ argPts m main_arg5 c -∗ Q ⟨⟩)
      -∗ runs c (at0 k0_part23 c v3 v4) Q) := by
  rw [k0_part23_eq_skeleton]
  simp only [k0_part23_skel, Prog.lift, Prog.bind_op, Prog.bind_ret, Prog.pure_eq_ret]
  iintro #HR HSt HD HR17 HW Hk
  iapply (waitV 𝒮 m K c 17 (qD 1) (𝒮.Z 1 (pr 17 c)) ⟨rfl, rfl⟩ (by decide) (by decide) (aR (by decide)) (by decide)) $$ HR HSt HR17
  iintro HSt HV -
  iapply (sumZ 𝒮 c 1 k0_pay30 (fun h => (hF h).y1d c) (gD 1)) $$ HD HV
  iintro HD HV
  iapply (sendP 𝒮 m K c 19 (qD 0) (𝒮.Y 1 c) ⟨rfl, rfl⟩ (by decide) rfl (e19 c) (aR (by decide)) (gD 3)) $$ HR HSt HD
  iintro HSt HS19 HR19
  iapply (waitL 𝒮 m K c 4 rfl (by decide) (by decide) rfl (by decide)) $$ HR HSt HW
  iintro HSt HL HA
  iapply runs_ret
  iapply Hk $$ HSt HS19 HR19 HV HL HA

end Parts

end Cert.KernelIdeal.Pf
end
-- ==== Proof.KernelIdeal.Parts4.lean ====
/-
The kernel's parts: the last layer's input and hidden layer.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part24 {Q : (Σ' (_ : FVec F S512x1024 .bf16), FVec F S128x1024 .f32) → sProp (MT nD τ sig Unit (Elt F) ℕ UU ℕ)} (v3 : BitVec 32) :
    records 𝒮 m K ⊢ iprop(St c 20 dn -∗ reg True c cc0_scratch6 (slT 2) fullShare (w1 m c) -∗ XC c (sS 14) -∗ XC c (rS 14) -∗ ox c (qA 0)
      -∗ (∀ r, ⌜𝒮.ok → r.1 = k0_pay31 (wv1 m c 2) ∧ ∀ inb, r.2 = k0_pay33 (wv1 m c 2) (at_ (Rect.unit (s := S256x512) ![0, 0] ![128, 256] inb) (𝒮.X 2))⌝
        -∗ St c 20 (rS 14 :: sS 14 :: dn) -∗ own c cc0_scratch6 (slT 2) -∗ oz c (qA 0) -∗ ov c (qA 3) -∗ xx 𝒮 c (qA 0) (𝒮.X 2) -∗ Q r)
      -∗ runs c (at0 k0_part24 v3) Q) := by
  rw [k0_part24_eq_skeleton]
  simp only [k0_part24_skel, Prog.lift, Prog.bind_op, Prog.bind_ret, Prog.pure_eq_ret]
  iintro #HR HSt HL HS14 HR14 HX Hk
  iapply (wp_loadR True c M6 (setM6 2 rfl (by decide)) (fun _ h => h)) $$ HL
  iintro %v %ev HL
  iapply (waitZ 𝒮 m K c 14 (qA 0) (𝒮.Y 1 c) ⟨rfl, rfl⟩ (by decide) (by decide) (aS (by decide)) (by decide)) $$ HR HSt HS14
  iintro HSt HA
  iapply (waitV 𝒮 m K c 14 (qA 3) (𝒮.Y 1 (pr 14 c)) ⟨rfl, rfl⟩ (by decide) (by decide) (aR (by decide)) (by decide)) $$ HR HSt HR14
  iintro HSt HV -
  iapply (sumX 𝒮 c 3 k0_pay32 (fun h => (hF h).x2a c) (gA 3)) $$ HA HV HX
  iintro HA HV HX
  iapply (wp_loadR 𝒮.ok c M0 (setM0 fA) (fun _ h => h)) $$ HX
  iintro %u %eu HX
  iapply runs_ret
  iapply Hk $$ [] HSt [HL] HA HV HX
  · ipureintro
    exact fun hok => ⟨by rw [ev trivial]; rfl, fun inb => by rw [ev trivial, eu hok]; rfl⟩
  · iapply (reg_own True c _) $$ HL

theorem part25 {Q : PUnit → sProp (MT nD τ sig Unit (Elt F) ℕ UU ℕ)} (v3 : BitVec 32) (v644 : FVec F S512x1024 .bf16) (v666 : FVec F S128x1024 .f32)
    (hv : 𝒮.ok → v644 = k0_pay31 (wv1 m c 2))
    (hv' : 𝒮.ok → ∀ inb, v666 = k0_pay33 (wv1 m c 2) (at_ (Rect.unit (s := S256x512) ![0, 0] ![128, 256] inb) (𝒮.X 2))) :
    records 𝒮 m K ⊢ iprop(St c 20 dn -∗ XC c (sS 15) -∗ XC c (rS 15) -∗ ox c (qB 0) -∗ oh c (bR R0)
      -∗ (St c 20 (rS 15 :: sS 15 :: dn) -∗ oz c (qB 0) -∗ ov c (qB 3) -∗ xx 𝒮 c (qB 0) (𝒮.X 2) -∗ hh 𝒮 c (bR R0) (𝒮.H 2 c) -∗ Q ⟨⟩)
      -∗ runs c (at0 k0_part25 v3 v644 v666) Q) := by
  rw [k0_part25_eq_skeleton]
  simp only [k0_part25_skel, Prog.lift, Prog.bind_op, Prog.bind_ret, Prog.pure_eq_ret]
  iintro #HR HSt HS15 HR15 HX HH Hk
  iapply (waitZ 𝒮 m K c 15 (qB 0) (𝒮.Y 1 c) ⟨rfl, rfl⟩ (by decide) (by decide) (aS (by decide)) (by decide)) $$ HR HSt HS15
  iintro HSt HB
  iapply (waitV 𝒮 m K c 15 (qB 3) (𝒮.Y 1 (pr 15 c)) ⟨rfl, rfl⟩ (by decide) (by decide) (aR (by decide)) (by decide)) $$ HR HSt HR15
  iintro HSt HV -
  iapply (sumX 𝒮 c 3 k0_pay34 (fun h => (hF h).x2b c) (gB 3)) $$ HB HV HX
  iintro HB HV HX
  iapply (wp_loadR 𝒮.ok c M0 (setM0 fB) (fun _ h => h)) $$ HX
  iintro %u %eu HX
  iapply (wp_loadO c M1 (setM1 ft rfl rfl) (fun _ h => h)) $$ HH
  iintro %_ HH
  iapply (wp_storeO 𝒮.ok c M1 (G := 𝒮.H 2 c) (setM1 ft rfl rfl)
    (fun hok => by rw [hv hok, hv' hok inb_S256x512_S128x256_0_0, eu hok]; exact (hF hok).h2t c _ _ _ _)) $$ HH
  iintro HH
  iapply runs_ret
  iapply Hk $$ HSt HB HV HX HH

theorem part26 {Q : FVec F S128x1024 .f32 → sProp (MT nD τ sig Unit (Elt F) ℕ UU ℕ)} (v4 : BitVec 32) (v644 : FVec F S512x1024 .bf16)
    (hv : 𝒮.ok → v644 = k0_pay31 (wv1 m c 2)) :
    records 𝒮 m K ⊢ iprop(St c 20 dn -∗ XC c (sS 18) -∗ XC c (rS 18) -∗ ox c (qC 0)
      -∗ (∀ r, ⌜𝒮.ok → ∀ inb, r = k0_pay37 (k0_pay31 (wv1 m c 2)) (at_ (Rect.unit (s := S256x512) ![128, 0] ![128, 256] inb) (𝒮.X 2))⌝
        -∗ St c 20 (rS 18 :: sS 18 :: dn) -∗ oz c (qC 0) -∗ ov c (qC 3) -∗ xx 𝒮 c (qC 0) (𝒮.X 2) -∗ Q r)
      -∗ runs c (at0 k0_part26 v4 v644) Q) := by
  rw [k0_part26_eq_skeleton]
  simp only [k0_part26_skel, Prog.lift, Prog.bind_op, Prog.bind_ret, Prog.pure_eq_ret]
  iintro #HR HSt HS18 HR18 HX Hk
  iapply (waitZ 𝒮 m K c 18 (qC 0) (𝒮.Y 1 c) ⟨rfl, rfl⟩ (by decide) (by decide) (aS (by decide)) (by decide)) $$ HR HSt HS18
  iintro HSt HC
  iapply (waitV 𝒮 m K c 18 (qC 3) (𝒮.Y 1 (pr 18 c)) ⟨rfl, rfl⟩ (by decide) (by decide) (aR (by decide)) (by decide)) $$ HR HSt HR18
  iintro HSt HV -
  iapply (sumX 𝒮 c 3 k0_pay36 (fun h => (hF h).x2c c) (gC 3)) $$ HC HV HX
  iintro HC HV HX
  iapply (wp_loadR 𝒮.ok c M0 (setM0 fC) (fun _ h => h)) $$ HX
  iintro %u %eu HX
  iapply runs_ret
  iapply Hk $$ [] HSt HC HV HX
  ipureintro; intro hok inb; rw [hv hok, eu hok]; rfl

theorem part27 {Q : PUnit → sProp (MT nD τ sig Unit (Elt F) ℕ UU ℕ)} (v4 : BitVec 32) (v644 : FVec F S512x1024 .bf16) (v717 : FVec F S128x1024 .f32)
    (hv : 𝒮.ok → v644 = k0_pay31 (wv1 m c 2))
    (hv' : 𝒮.ok → ∀ inb, v717 = k0_pay37 (k0_pay31 (wv1 m c 2)) (at_ (Rect.unit (s := S256x512) ![128, 0] ![128, 256] inb) (𝒮.X 2))) :
    records 𝒮 m K ⊢ iprop(St c 20 dn -∗ XC c (sS 19) -∗ XC c (rS 19) -∗ ox c (qD 0) -∗ oh c (bR R1)
      -∗ (St c 20 (rS 19 :: sS 19 :: dn) -∗ oz c (qD 0) -∗ ov c (qD 3) -∗ xx 𝒮 c (qD 0) (𝒮.X 2) -∗ hh 𝒮 c (bR R1) (𝒮.H 2 c) -∗ Q ⟨⟩)
      -∗ runs c (at0 k0_part27 v4 v644 v717) Q) := by
  rw [k0_part27_eq_skeleton]
  simp only [k0_part27_skel, Prog.lift, Prog.bind_op, Prog.bind_ret, Prog.pure_eq_ret]
  iintro #HR HSt HS19 HR19 HX HH Hk
  iapply (waitZ 𝒮 m K c 19 (qD 0) (𝒮.Y 1 c) ⟨rfl, rfl⟩ (by decide) (by decide) (aS (by decide)) (by decide)) $$ HR HSt HS19
  iintro HSt HD
  iapply (waitV 𝒮 m K c 19 (qD 3) (𝒮.Y 1 (pr 19 c)) ⟨rfl, rfl⟩ (by decide) (by decide) (aR (by decide)) (by decide)) $$ HR HSt HR19
  iintro HSt HV -
  iapply (sumX 𝒮 c 3 k0_pay38 (fun h => (hF h).x2d c) (gD 3)) $$ HD HV HX
  iintro HD HV HX
  iapply (wp_loadR 𝒮.ok c M0 (setM0 fD) (fun _ h => h)) $$ HX
  iintro %u %eu HX
  iapply (wp_loadO c M1 (setM1 fb rfl rfl) (fun _ h => h)) $$ HH
  iintro %_ HH
  iapply (wp_storeO 𝒮.ok c M1 (G := 𝒮.H 2 c) (setM1 fb rfl rfl)
    (fun hok => by rw [hv hok, hv' hok inb_S256x512_S128x256_128_0, eu hok]; exact (hF hok).h2b c _ _ _ _)) $$ HH
  iintro HH
  iapply runs_ret
  iapply Hk $$ HSt HD HV HX HH

end Parts

end Cert.KernelIdeal.Pf
end
-- ==== Proof.KernelIdeal.Parts5.lean ====
/-
The kernel's parts: the last layer's partial sums and the rows each device keeps.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

theorem part28 {Q : FVec F S1024x512 .bf16 → sProp (MT nD τ sig Unit (Elt F) ℕ UU ℕ)} (v3 v4 v46 : BitVec 32) :
    records 𝒮 m K ⊢ iprop(St c 20 dn -∗ XC c (wS 5) -∗ hh 𝒮 c all0 (𝒮.H 2 c) -∗ oz c (bR (Rb c)) -∗ hands 20 c
      -∗ (∀ r, ⌜𝒮.ok → r = k0_pay40 (wv2 m c 2)⌝ -∗ St c 21 (wS 5 :: dn) -∗ XC c (sS 20) -∗ XC c (rS 20)
        -∗ hh 𝒮 c all0 (𝒮.H 2 c) -∗ zz 𝒮 c (bx (· == 0) (Rb c) hR) (𝒮.Z 2 c) -∗ own c cc0_scratch7 (slT 2) -∗ argPts m main_arg6 c -∗ Q r)
      -∗ runs c (at0 k0_part28 c v3 v4 v46) Q) := by
  rw [k0_part28_eq_skeleton]
  simp only [k0_part28_skel, Prog.lift, Prog.bind_op, Prog.bind_ret, Prog.pure_eq_ret]
  iintro #HR HSt HW HH HZ Hh Hk
  ihave HZ := (own_cut c cc0_scratch2 (cut_bc c)) $$ HZ
  icases HZ with ⟨HA, HB⟩
  iapply (waitL 𝒮 m K c 5 rfl (by decide) (by decide) rfl (by decide)) $$ HR HSt HW
  iintro HSt HL Ha
  iapply (wp_loadR True c M7 (setM7 2 rfl (by decide)) (fun _ h => h)) $$ HL
  iintro %v %ev HL
  iapply (wp_loadR 𝒮.ok c M1 (setM1 (f11 c).1 (f11 c).2 rfl) (cut_l (cut_gb c))) $$ HH
  iintro %w %ew HH
  iapply (wp_loadO c M2 (setM2 (f12 c)) (fun _ h => h)) $$ HA
  iintro %_ HA
  iapply (wp_storeO 𝒮.ok c M2 (G := 𝒮.Z 2 c) (setM2 (f12 c)) (fun hok => by rw [ev trivial, ew hok]; exact (hF hok).z2l c _ _ _)) $$ HA
  iintro HA
  iapply (wp_sendZ 𝒮 m K c 20 (by decide) rfl (e20 c) (aR (by decide)) (g20 c)) $$ HR HSt [HA] Hh
  · iexact HA
  iintro HSt HS20 HR20
  iapply (wp_loadO c M2 (setM2 (f15 c)) (fun _ h => h)) $$ HB
  iintro %_ HB
  iapply (wp_storeO 𝒮.ok c M2 (G := 𝒮.Z 2 c) (setM2 (f15 c)) (fun hok => by rw [ev trivial, ew hok]; exact (hF hok).z2r c _ _ _)) $$ HB
  iintro HB
  iapply runs_ret
  iapply Hk $$ [] HSt HS20 HR20 HH HB [HL] Ha
  · ipureintro; intro _; rw [ev trivial]; rfl
  · iapply (reg_own True c _) $$ HL

theorem part29 {Q : PUnit → sProp (MT nD τ sig Unit (Elt F) ℕ UU ℕ)} (v3 v4 v27 : BitVec 32) (v753 : FVec F S1024x512 .bf16)
    (hv : 𝒮.ok → v753 = k0_pay40 (wv2 m c 2)) :
    records 𝒮 m K ⊢ iprop(St c 21 dn -∗ zz 𝒮 c (bx (· == 0) (Rb c) hR) (𝒮.Z 2 c) -∗ hands 21 c -∗ hh 𝒮 c all0 (𝒮.H 2 c) -∗ oz c (bR (Rg c))
        -∗ hands 22 c -∗ XC c (sS 20)
      -∗ (St c 23 (sS 20 :: dn) -∗ XC c (sS 21) -∗ XC c (rS 21) -∗ XC c (sS 22) -∗ XC c (rS 22)
        -∗ zz 𝒮 c (bx (· == 0) (rw1 (bD c)) hR) (𝒮.Z 2 c) -∗ hh 𝒮 c all0 (𝒮.H 2 c) -∗ zz 𝒮 c (bx (· == 0) (Rg c) hL) (𝒮.Z 2 c)
        -∗ zz 𝒮 c (bx (· == 0) (rw1 c) hR) (𝒮.Z 2 c) -∗ zz 𝒮 c (bx (· == 0) (Rb c) hL) (𝒮.Z 2 c) -∗ Q ⟨⟩)
      -∗ runs c (at0 k0_part29 c v3 v4 v27 v753) Q) := by
  rw [k0_part29_eq_skeleton]
  simp only [k0_part29_skel, Prog.lift, Prog.bind_op, Prog.bind_ret, Prog.pure_eq_ret]
  iintro #HR HSt HB Hh1 HH HG Hh2 HS20 Hk
  ihave HB := (reg_cut 𝒮.ok c cc0_scratch2 (cut_bR c)) $$ HB
  icases HB with ⟨Hd, Hb⟩
  iapply (wp_sendZ 𝒮 m K c 21 (by decide) rfl (e21 c) (aR' (by decide)) (g21 c)) $$ HR HSt [Hd] Hh1
  · iexact Hd
  iintro HSt HS21 HR21
  iapply (wp_loadR 𝒮.ok c M1 (setM1 (f6 c).1 (f6 c).2 rfl) (cut_r (cut_gb c))) $$ HH
  iintro %w %ew HH
  iapply (wp_loadO c M2 (setM2 (f5 c)) (fun _ h => h)) $$ HG
  iintro %_ HG
  iapply (wp_storeO 𝒮.ok c M2 (G := 𝒮.Z 2 c) (setM2 (f5 c)) (fun hok => by rw [hv hok, ew hok]; exact (hF hok).z2g c _ _ _)) $$ HG
  iintro HG
  ihave HG := (reg_cut 𝒮.ok c cc0_scratch2 (cut_gc c)) $$ HG
  icases HG with ⟨HgL, HgR⟩
  ihave HgR := (reg_cut 𝒮.ok c cc0_scratch2 (cut_gR c)) $$ HgR
  icases HgR with ⟨Ha, Hp⟩
  iapply (wp_sendZ 𝒮 m K c 22 (by decide) rfl (e22 c) (aR' (by decide)) (g22 c)) $$ HR HSt [Ha] Hh2
  · iexact Ha
  iintro HSt HS22 HR22
  iapply (waitZ 𝒮 m K c 20 (bx (· == 0) (Rb c) hL) (𝒮.Z 2 c) ⟨rfl, rfl⟩ (by decide) (by decide) (aS (by decide)) (by decide)) $$ HR HSt HS20
  iintro HSt HbL
  iapply runs_ret
  iapply Hk $$ HSt HS21 HR21 HS22 HR22 Hb HH HgL Hp HbL

theorem part30 {Q : PUnit → sProp (MT nD τ sig Unit (Elt F) ℕ UU ℕ)} (v3 v27 : BitVec 32) :
    records 𝒮 m K ⊢ iprop(St c 23 dn -∗ XC c (rS 20) -∗ zz 𝒮 c (bx (· == 0) (Rg c) hL) (𝒮.Z 2 c) -∗ hands 23 c -∗ XC c (sS 21)
      -∗ (St c 24 (sS 21 :: rS 20 :: dn) -∗ XC c (sS 23) -∗ XC c (rS 23) -∗ ov c (bx (· == 0) (Rg c) hL)
        -∗ zz 𝒮 c (bx (· == 0) (rw1 c) hL) (𝒮.Y 2 c) -∗ zz 𝒮 c (bx (· == 0) (rw1 (dD c)) hR) (𝒮.Z 2 c) -∗ Q ⟨⟩)
      -∗ runs c (at0 k0_part30 c v3 v27) Q) := by
  rw [k0_part30_eq_skeleton]
  simp only [k0_part30_skel, Prog.lift, Prog.bind_op, Prog.bind_ret, Prog.pure_eq_ret]
  iintro #HR HSt HR20 HG Hh HS21 Hk
  iapply (waitV 𝒮 m K c 20 (bx (· == 0) (Rg c) hL) (𝒮.Z 2 (pr 20 c)) ⟨d20 c, rfl⟩ (by decide) (by decide) (aR (by decide)) (by decide)) $$ HR HSt HR20
  iintro HSt HV -
  iapply (sumZ 𝒮 c 0 k0_pay44 (fun h => (hF h).y2g c) (s20 c)) $$ HG HV
  iintro HG HV
  ihave HG := (reg_cut 𝒮.ok c cc0_scratch2 (cut_gL c)) $$ HG
  icases HG with ⟨Ha, Hp⟩
  iapply (wp_sendZ 𝒮 m K c 23 (by decide) rfl (e23 c) (aR' (by decide)) (g23 c)) $$ HR HSt [Ha] Hh
  · iexact Ha
  iintro HSt HS23 HR23
  iapply (waitZ 𝒮 m K c 21 (bx (· == 0) (rw1 (dD c)) hR) (𝒮.Z 2 c) ⟨rfl, rfl⟩ (by decide) (by decide) (aS' (by decide)) (by decide)) $$ HR HSt HS21
  iintro HSt Hd
  iapply runs_ret
  iapply Hk $$ HSt HS23 HR23 HV Hp Hd

theorem part31 {Q : PUnit → sProp (MT nD τ sig Unit (Elt F) ℕ UU ℕ)} (v3 v5 v7 : BitVec 32) :
    records 𝒮 m K ⊢ iprop(St c 24 dn -∗ XC c (rS 21) -∗ XC c (sS 22) -∗ XC c (rS 22) -∗ zz 𝒮 c (bx (· == 0) (rw1 c) hR) (𝒮.Z 2 c)
        -∗ zz 𝒮 c (bx (· == 0) (rw1 (bD c)) hR) (𝒮.Z 2 c)
      -∗ (St c 24 (rS 22 :: sS 22 :: rS 21 :: dn) -∗ zz 𝒮 c (bx (· == 0) (rw1 (aD c)) hR) (𝒮.Z 2 c) -∗ zz 𝒮 c (bx (· == 0) (rw1 c) hR) (𝒮.Y 2 c)
        -∗ zz 𝒮 c (bx (· == 0) (rw1 (bD c)) hR) (𝒮.Y 2 c) -∗ ov c (bx (· == 0) (rw1 c) hR) -∗ ov c (bx (· == 0) (rw1 (bD c)) hR) -∗ Q ⟨⟩)
      -∗ runs c (at0 k0_part31 c v3 v5 v7) Q) := by
  rw [k0_part31_eq_skeleton]
  simp only [k0_part31_skel, Prog.lift, Prog.bind_op, Prog.bind_ret, Prog.pure_eq_ret]
  iintro #HR HSt HR21 HS22 HR22 Hp Hb Hk
  iapply (waitV 𝒮 m K c 21 (bx (· == 0) (rw1 (bD c)) hR) (𝒮.Z 2 (pr 21 c)) ⟨d21 c, rfl⟩ (by decide) (by decide) (aR' (by decide)) (by decide)) $$ HR HSt HR21
  iintro HSt HV1 -
  iapply (waitZ 𝒮 m K c 22 (bx (· == 0) (rw1 (aD c)) hR) (𝒮.Z 2 c) ⟨rfl, rfl⟩ (by decide) (by decide) (aS' (by decide)) (by decide)) $$ HR HSt HS22
  iintro HSt Ha
  iapply (waitV 𝒮 m K c 22 (bx (· == 0) (rw1 c) hR) (𝒮.Z 2 (pr 22 c)) ⟨d22 c, rfl⟩ (by decide) (by decide) (aR' (by decide)) (by decide)) $$ HR HSt HR22
  iintro HSt HV2 -
  iapply (sumZ 𝒮 c 0 k0_pay45 (fun h => (hF h).y2p c) (s22 c)) $$ Hp HV2
  iintro Hp HV2
  iapply (sumZ 𝒮 c 0 k0_pay46 (fun h => (hF h).y2b c) (s21 c)) $$ Hb HV1
  iintro Hb HV1
  iapply runs_ret
  iapply Hk $$ HSt Ha Hp Hb HV2 HV1

theorem part32 {Q : PUnit → sProp (MT nD τ sig Unit (Elt F) ℕ UU ℕ)} (v3 v4 v5 : BitVec 32) :
    records 𝒮 m K ⊢ iprop(St c 24 dn -∗ zz 𝒮 c (bx (· == 0) (rw1 (bD c)) hR) (𝒮.Y 2 c) -∗ hands 24 c -∗ XC c (sS 23) -∗ XC c (rS 23)
        -∗ zz 𝒮 c (bx (· == 0) (rw1 c) hL) (𝒮.Y 2 c) -∗ own c cc0_scratch5 (bx (· == 0) (· == 0) hL)
      -∗ (St c 25 (rS 23 :: sS 23 :: dn) -∗ XC c (sS 24) -∗ XC c (rS 24) -∗ zz 𝒮 c (bx (· == 0) (rw1 (aD c)) hL) (𝒮.Y 2 c)
        -∗ ov c (bx (· == 2) (rw1 c) hL) -∗ zz 𝒮 c (bx (· == 0) (rw1 c) hL) (𝒮.Y 2 c)
        -∗ reg 𝒮.ok c cc0_scratch5 (bx (· == 0) (· == 0) hL) fullShare (𝒮.O c) -∗ Q ⟨⟩)
      -∗ runs c (at0 k0_part32 c v3 v4 v5) Q) := by
  rw [k0_part32_eq_skeleton]
  simp only [k0_part32_skel, Prog.lift, Prog.bind_op, Prog.bind_ret, Prog.pure_eq_ret]
  iintro #HR HSt Hb Hh HS23 HR23 Hp HO Hk
  iapply (wp_sendZ 𝒮 m K c 24 (by decide) rfl (e24 c) (aR' (by decide)) (g24 c)) $$ HR HSt [Hb] Hh
  · iexact Hb
  iintro HSt HS24 HR24
  iapply (waitZ 𝒮 m K c 23 (bx (· == 0) (rw1 (aD c)) hL) (𝒮.Y 2 c) ⟨rfl, rfl⟩ (by decide) (by decide) (aS' (by decide)) (by decide)) $$ HR HSt HS23
  iintro HSt Ha
  iapply (waitV 𝒮 m K c 23 (bx (· == 2) (rw1 c) hL) (𝒮.Y 2 (pr 23 c)) ⟨d23 c, rfl⟩ (by decide) (by decide) (aR' (by decide)) (by decide)) $$ HR HSt HR23
  iintro HSt HV -
  iapply (wp_loadR 𝒮.ok c M2 (setM2 (f27 c)) (fun _ h => h)) $$ Hp
  iintro %v %ev Hp
  iapply (ldV 𝒮 c 2 (s23 c).1 (s23 c).2.1 (s23 c).2.2.1 (s23 c).2.2.2 (fun _ h => h)) $$ HV
  iintro %u %eu HV
  iapply (wp_loadO c M5 (T' := bx (· == 0) (· == 0) hL) (setM5 (by decide)) (fun _ h => h)) $$ HO
  iintro %_ HO
  iapply (wp_storeO 𝒮.ok c M5 (T := bx (· == 0) (· == 0) hL) (G := 𝒮.O c) (setM5 (by decide)) (fun hok => by rw [ev hok, eu hok]; exact (hF hok).o_l c _ _ _)) $$ HO
  iintro HO
  iapply runs_ret
  iapply Hk $$ HSt HS24 HR24 Ha [HV] Hp HO
  iapply (reg_own 𝒮.ok c cc0_scratch3) $$ HV

end Parts

end Cert.KernelIdeal.Pf
end
-- ==== Proof.KernelIdeal.PartsA.lean ====
/-
The kernel's first parts: the weights start in, the barrier, the first send.
-/
module

public import proofs.«01_k».proof.Proof.KernelIdeal.Parts0

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

omit hF in
theorem eta2 {a b : ℕ} (j : (⟨2, ![a, b]⟩ : Shape).Idx) : ix2 (j 0) (j 1) = j := by
  funext x; revert x; exact Fin.forall_fin_two.mpr ⟨rfl, rfl⟩

omit hF in
/-- Each weight is its slab of the stack. -/
theorem ld1 (m : (ℓ : Loc nD τ sig) → Buf (Elt F) ℓ) (j : S512x1024.Idx) : (Memref.whole (κ := .tc) main_arg1).view.read (Elt F) (arg m main_arg1 c) j = w1 m c (ix3 (0 : Fin 3) (j 0) (j 1)) :=
  congrArg (arg m main_arg1 c) (@eta2 512 1024 j).symm
omit hF in
theorem ld2 (m : (ℓ : Loc nD τ sig) → Buf (Elt F) ℓ) (j : S1024x512.Idx) : (Memref.whole (κ := .tc) main_arg2).view.read (Elt F) (arg m main_arg2 c) j = w2 m c (ix3 (0 : Fin 3) (j 0) (j 1)) :=
  congrArg (arg m main_arg2 c) (@eta2 1024 512 j).symm
omit hF in
theorem ld3 (m : (ℓ : Loc nD τ sig) → Buf (Elt F) ℓ) (j : S512x1024.Idx) : (Memref.whole (κ := .tc) main_arg3).view.read (Elt F) (arg m main_arg3 c) j = w1 m c (ix3 (1 : Fin 3) (j 0) (j 1)) :=
  congrArg (arg m main_arg3 c) (@eta2 512 1024 j).symm
omit hF in
theorem ld4 (m : (ℓ : Loc nD τ sig) → Buf (Elt F) ℓ) (j : S1024x512.Idx) : (Memref.whole (κ := .tc) main_arg4).view.read (Elt F) (arg m main_arg4 c) j = w2 m c (ix3 (1 : Fin 3) (j 0) (j 1)) :=
  congrArg (arg m main_arg4 c) (@eta2 1024 512 j).symm
omit hF in
theorem ld5 (m : (ℓ : Loc nD τ sig) → Buf (Elt F) ℓ) (j : S512x1024.Idx) : (Memref.whole (κ := .tc) main_arg5).view.read (Elt F) (arg m main_arg5 c) j = w1 m c (ix3 (2 : Fin 3) (j 0) (j 1)) :=
  congrArg (arg m main_arg5 c) (@eta2 512 1024 j).symm
omit hF in
theorem ld6 (m : (ℓ : Loc nD τ sig) → Buf (Elt F) ℓ) (j : S1024x512.Idx) : (Memref.whole (κ := .tc) main_arg6).view.read (Elt F) (arg m main_arg6 c) j = w2 m c (ix3 (2 : Fin 3) (j 0) (j 1)) :=
  congrArg (arg m main_arg6 c) (@eta2 1024 512 j).symm

theorem part1 {Q : _ → sProp (MT nD τ sig Unit (Elt F) ℕ UU ℕ)} :
    iprop(∀ v2 v3 v4 v5 v7 v9 v27 k v28 v33 v35 v36, Q ⟨c, v2, v3, v4, v5, v7, v9, v27, k, v28, v33, v35, v36⟩) ⊢ runs c (at0 (k0_part1 (F := F))) Q := by
  rw [k0_part1_eq_skeleton]
  simp only [k0_part1_skel, Prog.lift, Prog.bind_op, Prog.bind_ret, Prog.pure_eq_ret]
  show _ ⊢ wp _ _ _ _ _
  rw [wp_deviceId]
  iintro H
  iapply (runs_ret c _)
  iapply H

theorem part2 {Q : BitVec 32 → sProp (MT nD τ sig Unit (Elt F) ℕ UU ℕ)} (v2 k v28 v33 v35 : BitVec 32) (v36 : BitVec 1) :
    records 𝒮 m K ⊢ iprop(ltok 6 c -∗ ltok 0 c -∗ ltok 1 c -∗ ltok 2 c -∗ ltok 3 c
        -∗ argPts m main_arg0 c -∗ argPts m main_arg1 c -∗ argPts m main_arg2 c -∗ argPts m main_arg3 c -∗ argPts m main_arg4 c
        -∗ own c cc0_scratch4 allT -∗ own c cc0_scratch6 (slT 0) -∗ own c cc0_scratch7 (slT 0) -∗ own c cc0_scratch6 (slT 1) -∗ own c cc0_scratch7 (slT 1)
      -∗ (∀ r, XC c (wS 6) -∗ XC c (wS 0) -∗ XC c (wS 1) -∗ XC c (wS 2) -∗ XC c (wS 3) -∗ Q r)
      -∗ runs c (at0 k0_part2 v2 k v28 v33 v35 v36) Q) := by
  rw [k0_part2_eq_skeleton]
  simp only [k0_part2_skel, Prog.lift, Prog.bind_op, Prog.bind_ret, Prog.pure_eq_ret]
  iintro #HR H6 H0 H1 H2 H3 A0 A1 A2 A3 A4 B4 B60 B70 B61 B71 Hk
  ihave A0 := (show argPts m main_arg0 c ⊢ reg True c main_arg0 allT fullShare (arg m main_arg0 c) from by
    unfold reg; rw [tset_all]; iintro H; iexists _; isplitr; · ipureintro; exact fun _ _ _ => rfl
    iexact H) $$ A0
  iapply (wp_copyAll 𝒮 m K c 6 (ok := True) (fs := arg m main_arg0 c) (G := arg m main_arg0 c) (src := Memref.whole main_arg0) (dst := Memref.whole cc0_scratch4) (by decide) (by decide) rfl
    (View.set_whole _) (View.set_whole _) rfl (by
      refine sep_mono_right ?_
      unfold reg; rw [tset_all]; iintro ⟨%f, %hf, H⟩
      rw [show f = arg m main_arg0 c from funext fun i => hf trivial i rfl]
      iexact H)) $$ HR H6 A0 B4
  iintro X6
  iapply (wp_copy1 𝒮 m K c 0 0 (off := ![0, 0, 0]) (src := Memref.whole main_arg1) (fs := arg m main_arg1 c) (by decide) (by decide) rfl rfl rfl rfl (View.set_whole _) (ld1 c m) rfl) $$ HR H0 A1 [B60]
  · iexact B60
  iintro X0
  iapply (wp_copy2 𝒮 m K c 1 0 (off := ![0, 0, 0]) (src := Memref.whole main_arg2) (fs := arg m main_arg2 c) (by decide) (by decide) rfl rfl rfl rfl (View.set_whole _) (ld2 c m) rfl) $$ HR H1 A2 [B70]
  · iexact B70
  iintro X1
  iapply (wp_copy1 𝒮 m K c 2 1 (off := ![1, 0, 0]) (src := Memref.whole main_arg3) (fs := arg m main_arg3 c) (by decide) (by decide) rfl rfl rfl rfl (View.set_whole _) (ld3 c m) rfl) $$ HR H2 A3 [B61]
  · iexact B61
  iintro X2
  iapply (wp_copy2 𝒮 m K c 3 1 (off := ![1, 0, 0]) (src := Memref.whole main_arg4) (fs := arg m main_arg4 c) (by decide) (by decide) rfl rfl rfl rfl (View.set_whole _) (ld4 c m) rfl) $$ HR H3 A4 [B71]
  · iexact B71
  iintro X3
  iapply runs_ret
  iapply Hk $$ X6 X0 X1 X2 X3

/-- The tokens of exchanges, without the landing places. -/
def Tok0 (c : Dev nD) : List ℕ → sProp (MT nD τ sig Unit (Elt F) ℕ UU ℕ)
  | [] => iprop(emp)
  | k :: l => iprop(tok (F := F) k c ∗ Tok0 c l)

omit hF in
theorem rooms_append (l l' : List ℕ) : iprop(rooms (F := F) c l ∗ rooms c l') ⊢ rooms c (l ++ l') := by
  induction l with
  | nil => iintro ⟨-, H⟩; iexact H
  | cons k l ih =>
    show iprop((room k c ∗ rooms c l) ∗ rooms c l') ⊢ iprop(room k c ∗ rooms c (l ++ l'))
    iintro ⟨⟨H, Hl⟩, Hl'⟩
    isplitl [H]; · iexact H
    iapply ih
    isplitl [Hl] <;> iassumption

omit hF in
theorem rooms_perm {l l' : List ℕ} (h : l.Perm l') : rooms (F := F) c l ⊢ rooms c l' := by
  induction h with
  | nil => exact .rfl
  | cons k _ ih => exact sep_mono_right ih
  | swap a b l =>
    show iprop(room b c ∗ room a c ∗ rooms c l) ⊢ iprop(room a c ∗ room b c ∗ rooms c l)
    iintro ⟨Hb, Ha, H⟩
    isplitl [Ha]; · iexact Ha
    isplitl [Hb] <;> iassumption
  | trans _ _ h1 h2 => exact h1.trans h2

omit hF in
theorem toks_all (l : List ℕ) : iprop(Tok0 (F := F) c l ∗ rooms c (l.filter (· < 20))) ⊢ Toks c l := by
  induction l with
  | nil => iintro -; unfold Toks; iempintro
  | cons k l ih =>
    rw [Toks_cons]
    by_cases hk : k < 20
    · rw [List.filter_cons_of_pos (by simpa using hk)]
      unfold roomIf; rw [if_pos hk]
      show iprop((tok k c ∗ Tok0 c l) ∗ (room k c ∗ rooms c (l.filter (· < 20)))) ⊢ _
      iintro ⟨⟨H, Hl⟩, Hr, Hl'⟩
      isplitl [H Hr]; · isplitl [H] <;> iassumption
      iapply ih
      isplitl [Hl] <;> iassumption
    · rw [List.filter_cons_of_neg (by simpa using hk)]
      unfold roomIf; rw [if_neg hk]
      show iprop((tok k c ∗ Tok0 c l) ∗ rooms c (l.filter (· < 20))) ⊢ _
      iintro ⟨⟨H, Hl⟩, Hl'⟩
      isplitl [H]; · isplitl [H]; · iexact H
                     iempintro
      iapply ih
      isplitl [Hl] <;> iassumption

omit hF in
theorem toks_bar : iprop(Tok0 (F := F) c order ∗ barPay true c ∗ barPay false c) ⊢ Toks c order := by
  iintro ⟨HT, HA⟩
  iapply (toks_all c order)
  isplitl [HT]; · iexact HT
  iapply (rooms_perm c (show (roomsA ++ roomsB).Perm (order.filter (· < 20)) by decide))
  iapply (rooms_append c roomsA roomsB)
  iexact HA

omit hF in
theorem source_halves (𝒮 : Spec F) : reg 𝒮.ok c cc0_scratch0 (bR (rw1 c)) fullShare (𝒮.X 0) ⊢ iprop(source 𝒮 0 c ∗ source 𝒮 1 c) := by
  rw [source_lt (by decide), source_lt (by decide)]
  exact reg_halve 𝒮.ok c cc0_scratch0

theorem part3 {Q : BitVec 32 → sProp (MT nD τ sig Unit (Elt F) ℕ UU ℕ)} (v3 v4 v5 : BitVec 32) :
    records 𝒮 m K ⊢ iprop(ltok 4 c -∗ ltok 5 c -∗ argPts m main_arg5 c -∗ argPts m main_arg6 c -∗ own c cc0_scratch6 (slT 2) -∗ own c cc0_scratch7 (slT 2)
        -∗ dutyTok ER (bcell (aD c)) 0 true -∗ barPay true (aD c) -∗ dutyTok ER (bcell (bD c)) 0 false -∗ barPay false (bD c)
        -∗ atPos ER (bcell c) 0 ∅ 0 -∗ cred (tallyAt (bcell c) () 2) -∗ (∃ W, owes (c : Thread nD τ) (O₀ c) W)
        -∗ Tok0 c order -∗ XC c (wS 6) -∗ own c cc0_scratch0 (bR (rw1 c))
      -∗ (∀ r, St c 1 [wS 6] -∗ XC c (sS 0) -∗ XC c (rS 0) -∗ source 𝒮 1 c -∗ XC c (wS 4) -∗ XC c (wS 5) -∗ semVal (bcell c) 0
        -∗ own c cc0_scratch4 allT -∗ argPts m main_arg0 c -∗ Q r)
      -∗ runs c (at0 k0_part3 c v3 v4 v5) Q) := by
  rw [k0_part3_eq_skeleton]
  simp only [k0_part3_skel, semSignalWord, semWaitWord, Prog.lift, Prog.bind_op, Prog.bind_ret, Prog.pure_eq_ret]
  iintro #HR H4 H5 A5 A6 B6 B7 HtA HpA HtB HpB Hat Hcr ⟨%W, HO⟩ HT H6 HX Hk
  iapply (wp_copy1 𝒮 m K c 4 2 (off := ![2, 0, 0]) (src := Memref.whole main_arg5) (fs := arg m main_arg5 c) (by decide) (by decide) rfl rfl rfl rfl (View.set_whole _) (ld5 c m) rfl) $$ HR H4 A5 [B6]
  · iexact B6
  iintro X4
  iapply (wp_copy2 𝒮 m K c 5 2 (off := ![2, 0, 0]) (src := Memref.whole main_arg6) (fs := arg m main_arg6 c) (by decide) (by decide) rfl rfl rfl rfl (View.set_whole _) (ld6 c m) rfl) $$ HR H5 A6 [B7]
  · iexact B7
  iintro X5
  rw [p1 c, p2 c]
  unfold O₀
  iapply (Rounds.wp_signal 𝒱₀ ER (rd 𝒮 m) (c : Thread nD τ) none (dst := (aD c : Thread nD τ)) (κ := K (aD c, none))
      (d := true) (by rw [duties_bar]; exact Finset.mem_univ _) ((amount_bar 𝒮 m (aD c) true).trans (by decide)) () (O₁ c) rfl)
    $$ [HO HtA HpA]
  · isplitr; · iapply (inv_at 𝒮 m K (aD c, none)); iexact HR
    isplitl [HO]; · iexact HO
    isplitl [HtA]; · iexact HtA
    isplitl [HpA]; · rw [payload_bar]; iexact HpA
    iapply (reached_at 𝒮 m K (aD c, none)); iexact HR
  iintro HO
  unfold O₁
  iapply (Rounds.wp_signal 𝒱₀ ER (rd 𝒮 m) (c : Thread nD τ) none (dst := (bD c : Thread nD τ)) (κ := K (bD c, none))
      (d := false) (by rw [duties_bar]; exact Finset.mem_univ _) ((amount_bar 𝒮 m (bD c) false).trans (by decide)) () (Orem c order) rfl)
    $$ [HO HtB HpB]
  · isplitr; · iapply (inv_at 𝒮 m K (bD c, none)); iexact HR
    isplitl [HO]; · iexact HO
    isplitl [HtB]; · iexact HtB
    isplitl [HpB]; · rw [payload_bar]; iexact HpB
    iapply (reached_at 𝒮 m K (bD c, none)); iexact HR
  iintro HO
  iapply (wp_waitO 𝒮 m K c (wS 6) (l := order) (by decide) rfl (fun k hk => ⟨by rw [lv_dma, if_pos (by decide)]; omega, (show ∀ k ∈ order, k < 25 by decide) k hk⟩)) $$ HR [HO] H6
  · unfold Ow; iexists _; iexact HO
  iintro HO Hz6 Hpay
  ihave Hpay := (show pay 𝒮 m (wS 6).val c ⊢ iprop(reg True c cc0_scratch4 allT fullShare (arg m main_arg0 c) ∗ argPts m main_arg0 c) from .rfl) $$ Hpay
  icases Hpay with ⟨B4, A0⟩
  iapply (wp_loadR True c M4 (T := allT) (T' := bx (· == 0) (· == 0) both) (setM4 (by decide)) (fun _ _ => rfl)) $$ B4
  iintro %v %ev B4
  iapply (wp_loadO c M0 (setM0 (f1 c)) (fun _ h => h)) $$ HX
  iintro %_ HX
  iapply (wp_storeO 𝒮.ok c M0 (G := 𝒮.X 0) (setM0 (f1 c)) (fun hok => by rw [ev trivial]; exact (hF hok).x0 c _ _)) $$ HX
  iintro HX
  unfold Ow
  icases HO with ⟨%W', HO⟩
  iapply (Rounds.wp_wait_rest_token 𝒱₀ ER (rd 𝒮 m) (c : Thread nD τ) none (κ := K (c, none))
      (wpE_semWait_eq 𝒱₀ (c : Thread nD τ) none Set.univ) (Set.mem_univ _) () (O := Orem c order) (W := W') (R := 0) (m := 0) (T := ∅)
      (by rw [expect_bar]; decide)) $$ [Hcr HO Hat]
  · isplitr; · iapply (inv_at 𝒮 m K (c, none)); iexact HR
    isplitl [Hcr]; · iexact Hcr
    isplitl [HO]; · iexact HO
    isplitr
    · iapply (mayWait c (.reg barS) order (fun k hk => ⟨by show 1 < _; omega, (show ∀ k ∈ order, k < 25 by decide) k hk⟩)); iapply (levs_at 𝒮 m K); iexact HR
    iexact Hat
  iintro ⟨HO, Hat, -, Hpay⟩
  ihave Hpay := (Entails.of_eq (rest_bar 𝒮 m c)) $$ Hpay
  imod (Rounds.cell_close ER (rd 𝒮 m) (Set.mem_univ (K (c, none))) (fun h => h) (R := 0 + 1) (duties_later 𝒮 m (bcell c))) $$ [Hat] with Hz
  · isplitr; · iapply (inv_at 𝒮 m K (c, none)); iexact HR
    iexact Hat
  ihave HT := (toks_bar (F := F) c) $$ [HT Hpay]
  · isplitl [HT] <;> iassumption
  ihave HX := (source_halves c 𝒮) $$ HX
  icases HX with ⟨Hs0, Hs1⟩
  iapply (wp_send0 𝒮 m K c 0 (n := 0) (dn := [wS 6]) (by decide) rfl (e0 c) (a0 (by decide)) (set2 (Rw := 256) le_rfl (by decide) (f0 c)) rfl) $$ HR [HO HT Hz6] Hs0
  · unfold St
    isplitl [HO]; · unfold Ow; iexists _; iexact HO
    isplitl [HT]; · iexact HT
    rw [Done_cons]
    isplitl [Hz6]; · iexact Hz6
    unfold Done; iempintro
  iintro HSt HS0 HR0
  iapply runs_ret
  iapply Hk $$ HSt HS0 HR0 Hs1 X4 X5 Hz [B4] A0
  iapply (reg_own True c cc0_scratch4) $$ B4

end Parts

end Cert.KernelIdeal.Pf
end
-- ==== Proof.KernelIdeal.Regroup.lean ====
/-
How the tiles regroup between the parts.
-/
module

public import proofs.«01_k».proof.Proof.KernelIdeal.PartsA

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

/-! ## Cuts -/

theorem cut_g : ∀ c, Cut (bR (Rg c)) (bR (rw1 (aD c))) (bR (rw1 c)) := by decide
theorem cut_row1 : ∀ c : Dev nD, Cut (bR (rw1 c)) (bx (· == 0) (rw1 c) hL) (bx (· == 0) (rw1 c) hR) := by decide
theorem cut_slabs : Cut allT (bx (fun s => decide (s.val < 2)) (fun _ => true) both) (bx (fun s => decide (2 ≤ s.val)) (fun _ => true) both) := by decide
theorem cut_01 : Cut (bx (fun s => decide (s.val < 2)) (fun _ => true) both) (sl 0) (sl 1) := by decide
theorem cut_23 : Cut (bx (fun s => decide (2 ≤ s.val)) (fun _ => true) both) (sl 2) (sl 3) := by decide
theorem cut_s2 : ∀ c : Dev nD, Cut (sl 2) (bx (· == 2) (rw1 c) both) (bx (· == 2) (fun r => !(r == c)) both) := by decide
theorem cut_row2 : ∀ c : Dev nD, Cut (bx (· == 2) (rw1 c) both) (bx (· == 2) (rw1 c) hL) (bx (· == 2) (rw1 c) hR) := by decide
theorem cut_out : Cut (bx (· == 0) (· == 0) both) (bx (· == 0) (· == 0) hL) (bx (· == 0) (· == 0) hR) := by decide

section Slabs
variable (b : Ref sig .tc)
theorem slabs : own (F := F) c b allT ⊢ iprop(own c b (sl 0) ∗ own c b (sl 1) ∗ own c b (sl 2) ∗ own c b (sl 3)) := by
  iintro H
  ihave H := (own_cut c b cut_slabs) $$ H
  icases H with ⟨H0, H1⟩
  ihave H0 := (own_cut c b cut_01) $$ H0
  ihave H1 := (own_cut c b cut_23) $$ H1
  icases H0 with ⟨H0, H0'⟩
  icases H1 with ⟨H1, H1'⟩
  isplitl [H0]; · iexact H0
  isplitl [H0']; · iexact H0'
  isplitl [H1]; · iexact H1
  iexact H1'
theorem slabs_own : own (F := F) c b (sl 0) ⊢ iprop(own c b (sl 1) -∗ own c b (sl 2) -∗ own c b (sl 3) -∗ own c b allT) := by
  iintro H0 H1 H2 H3
  iapply (own_cat c b cut_slabs) $$ [H0 H1] [H2 H3]
  · iapply (own_cat c b cut_01) $$ H0 H1
  · iapply (own_cat c b cut_23) $$ H2 H3
/-- A buffer of two dimensions, all of it. -/
theorem own_in (h : b.ty.shape.rank ≠ 3) : own (F := F) c b allT ⊢ own c b all0 :=
  own_flat c b h fun S R H => (em (S = 0)).imp (fun e => by subst e; rfl) id
theorem own_out (h : b.ty.shape.rank ≠ 3) : own (F := F) c b all0 ⊢ own c b allT :=
  own_flat c b h fun S R H => (em (S = 0)).imp (fun e => by subst e; rfl) id
end Slabs

/-- A buffer of 64 rows, all of it. -/
theorem tl_64 (i : S64x512.Idx) : bx (· == 0) (· == 0) both (tl i) = true := by
  have h : (i 0).val < 64 := (i 0).isLt
  have e : (tl i).2.1 = 0 := by
    show Fin.ofNat 4 (co i 0 / 64) = 0
    rw [show co i 0 = (i 0).val from dif_pos (by decide), Nat.div_eq_of_lt h]; rfl
  have e' : (tl i).1 = 0 := rfl
  unfold bx
  rw [e, e']
  rfl
theorem tset_64 : tset S64x512 allT = tset S64x512 (bx (· == 0) (· == 0) both) := by
  ext i
  rw [mem_tset, mem_tset]
  exact ⟨fun _ => tl_64 i, fun _ => rfl⟩
theorem own_64 : own (F := F) c cc0_scratch5 allT ⊢ own c cc0_scratch5 (bx (· == 0) (· == 0) both) := by
  show iprop(∃ f : Buf (Elt F) ((c : Thread nD τ).loc cc0_scratch5), (((c : Thread nD τ).loc cc0_scratch5) ↦[tset S64x512 allT]{fullShare} f)) ⊢ _
  rw [tset_64]
  exact .rfl
theorem reg_64 {ok : Prop} {G : Vec F S64x512 .bf16} : reg (F := F) ok c cc0_scratch5 (bx (· == 0) (· == 0) both) fullShare G ⊢ reg ok c cc0_scratch5 allT fullShare G := by
  show iprop(∃ f : Vec F S64x512 .bf16, ⌜ok → ∀ i, bx (· == 0) (· == 0) both (tl i) = true → f i = G i⌝
    ∗ (((c : Thread nD τ).loc cc0_scratch5) ↦[tset S64x512 (bx (· == 0) (· == 0) both)]{fullShare} f)) ⊢ _
  rw [← tset_64]
  iintro ⟨%f, %hf, H⟩
  unfold reg
  iexists f
  isplitr
  · ipureintro; exact fun h i _ => hf h i (tl_64 i)
  iexact H

/-! ## The rooms -/

theorem room_own0 {k : ℕ} (h : k < 4) : room (F := F) k (pr k c) = own c cc0_scratch0 (srcT k (pr k c)) := by rw [room_lt h, pr_pr]
theorem room_own3 {k : ℕ} (h : ¬ k < 4) : room (F := F) k (pr k c) = own c cc0_scratch3 (dstT k (pr k c)) := by rw [room_ge h, pr_pr]

theorem d2 (c : Dev nD) : srcT 2 (pr 2 c) = bx (· == 0) (rw1 (dD c)) hL := funext (by revert c; decide)
theorem d3 (c : Dev nD) : srcT 3 (pr 3 c) = bx (· == 0) (rw1 (dD c)) hR := funext (by revert c; decide)

/-- What a device gives at the barrier: every row of its input buffer but its own, and its landing buffer. -/
theorem give_bar : iprop(own (F := F) c cc0_scratch0 all0 ∗ own c cc0_scratch3 allT)
    ⊢ iprop(own c cc0_scratch0 (bR (rw1 c)) ∗ barPay true (aD c) ∗ barPay false (bD c)) := by
  have hA : barPay (F := F) true (aD c) = iprop(own c cc0_scratch0 (bR (rw1 (aD c))) ∗ own c cc0_scratch0 (bx (· == 0) (rw1 (dD c)) hL)
      ∗ own c cc0_scratch3 (qC 0) ∗ own c cc0_scratch3 (qD 0) ∗ own c cc0_scratch3 (qA 2) ∗ own c cc0_scratch3 (qB 2)
      ∗ own c cc0_scratch3 (qC 1) ∗ own c cc0_scratch3 (qD 1) ∗ own c cc0_scratch3 (qA 3) ∗ own c cc0_scratch3 (qB 3) ∗ emp) := by
    show iprop(room 0 (pr 0 c) ∗ room 2 (pr 2 c) ∗ room 8 (pr 8 c) ∗ room 9 (pr 9 c) ∗ room 6 (pr 6 c) ∗ room 7 (pr 7 c) ∗ room 16 (pr 16 c)
      ∗ room 17 (pr 17 c) ∗ room 14 (pr 14 c) ∗ room 15 (pr 15 c) ∗ emp) = _
    rw [room_own0 c (k := 0) (by decide), room_own0 c (k := 2) (by decide), d2]
    repeat rw [room_own3 c (by decide)]
    rfl
  have hB : barPay (F := F) false (bD c) = iprop(own c cc0_scratch0 (bR (rw1 (bD c))) ∗ own c cc0_scratch0 (bx (· == 0) (rw1 (dD c)) hR)
      ∗ own c cc0_scratch3 (qA 0) ∗ own c cc0_scratch3 (qB 0) ∗ own c cc0_scratch3 (qC 2) ∗ own c cc0_scratch3 (qD 2)
      ∗ own c cc0_scratch3 (qA 1) ∗ own c cc0_scratch3 (qB 1) ∗ own c cc0_scratch3 (qC 3) ∗ own c cc0_scratch3 (qD 3) ∗ emp) := by
    show iprop(room 1 (pr 1 c) ∗ room 3 (pr 3 c) ∗ room 4 (pr 4 c) ∗ room 5 (pr 5 c) ∗ room 10 (pr 10 c) ∗ room 11 (pr 11 c) ∗ room 12 (pr 12 c)
      ∗ room 13 (pr 13 c) ∗ room 18 (pr 18 c) ∗ room 19 (pr 19 c) ∗ emp) = _
    rw [room_own0 c (k := 1) (by decide), room_own0 c (k := 3) (by decide), d3]
    repeat rw [room_own3 c (by decide)]
    rfl
  rw [hA, hB]
  iintro ⟨HX, HV⟩
  ihave HX := (own_cut c cc0_scratch0 (cut_all c)) $$ HX
  icases HX with ⟨HX, Hd⟩
  ihave HX := (own_cut c cc0_scratch0 (cut_n c)) $$ HX
  icases HX with ⟨HX, Hb⟩
  ihave HX := (own_cut c cc0_scratch0 (cut_g c)) $$ HX
  icases HX with ⟨Ha, Hp⟩
  ihave Hd := (own_cut c cc0_scratch0 (cut_row1 (dD c))) $$ Hd
  icases Hd with ⟨HdL, HdR⟩
  ihave HV := (slabs c cc0_scratch3) $$ HV
  icases HV with ⟨V0, V1, V2, V3⟩
  ihave V0 := (own_quads c cc0_scratch3 0) $$ V0
  icases V0 with ⟨A0, B0, C0, D0⟩
  ihave V1 := (own_quads c cc0_scratch3 1) $$ V1
  icases V1 with ⟨A1, B1, C1, D1⟩
  ihave V2 := (own_quads c cc0_scratch3 2) $$ V2
  icases V2 with ⟨A2, B2, C2, D2⟩
  ihave V3 := (own_quads c cc0_scratch3 3) $$ V3
  icases V3 with ⟨A3, B3, C3, D3⟩
  isplitl [Hp]; · iexact Hp
  isplitl [Ha HdL C0 D0 A2 B2 C1 D1 A3 B3]
  · isplitl [Ha]; · iexact Ha
    isplitl [HdL]; · iexact HdL
    isplitl [C0]; · iexact C0
    isplitl [D0]; · iexact D0
    isplitl [A2]; · iexact A2
    isplitl [B2]; · iexact B2
    isplitl [C1]; · iexact C1
    isplitl [D1]; · iexact D1
    isplitl [A3]; · iexact A3
    isplitl [B3]; · iexact B3
    iempintro
  · isplitl [Hb]; · iexact Hb
    isplitl [HdR]; · iexact HdR
    isplitl [A0]; · iexact A0
    isplitl [B0]; · iexact B0
    isplitl [C2]; · iexact C2
    isplitl [D2]; · iexact D2
    isplitl [A1]; · iexact A1
    isplitl [B1]; · iexact B1
    isplitl [C3]; · iexact C3
    isplitl [D3]; · iexact D3
    iempintro

/-- What it gives with exchange 12: two landing places of the last five exchanges; -/
theorem hands12 : own (F := F) c cc0_scratch3 (bx (· == 0) (Rg c) hL) ⊢ iprop(own c cc0_scratch3 (bx (· == 2) (rw1 c) hR) -∗ hands 12 c) := by
  have e : hands (F := F) 12 c = iprop(emp ∗ own c cc0_scratch3 (bx (· == 0) (Rg c) hL) ∗ own c cc0_scratch3 (bx (· == 2) (rw1 c) hR)) := by
    show iprop(emp ∗ room 20 (pr 20 c) ∗ room 24 (pr 24 c)) = _
    rw [room_own3 c (k := 20) (by decide), room_own3 c (k := 24) (by decide), d20, d24]
  rw [e]
  iintro H1 H2
  isplitr; · iempintro
  isplitl [H1] <;> iassumption
/-- with exchange 16: the other three. -/
theorem hands16 : own (F := F) c cc0_scratch3 (bx (· == 0) (rw1 (bD c)) hR)
    ⊢ iprop(own c cc0_scratch3 (bx (· == 0) (rw1 c) hR) -∗ own c cc0_scratch3 (bx (· == 2) (rw1 c) hL) -∗ hands 16 c) := by
  have e : hands (F := F) 16 c = iprop(emp ∗ own c cc0_scratch3 (bx (· == 0) (rw1 (bD c)) hR) ∗ own c cc0_scratch3 (bx (· == 0) (rw1 c) hR)
      ∗ own c cc0_scratch3 (bx (· == 2) (rw1 c) hL)) := by
    show iprop(emp ∗ room 21 (pr 21 c) ∗ room 22 (pr 22 c) ∗ room 23 (pr 23 c)) = _
    rw [room_own3 c (k := 21) (by decide), room_own3 c (k := 22) (by decide), room_own3 c (k := 23) (by decide), d21, d22, d23]
  rw [e]
  iintro H1 H2 H3
  isplitr; · iempintro
  isplitl [H1]; · iexact H1
  isplitl [H2] <;> iassumption

theorem extra12 : extra (F := F) 12 c ⊢ iprop(hands 20 c ∗ hands 24 c) := by
  show iprop(room 20 c ∗ room 24 c) ⊢ iprop((room 20 c ∗ emp) ∗ (room 24 c ∗ emp))
  iintro ⟨H1, H2⟩
  isplitl [H1]
  · isplitl [H1]; · iexact H1
    iempintro
  · isplitl [H2]; · iexact H2
    iempintro
theorem extra16 : extra (F := F) 16 c ⊢ iprop(hands 21 c ∗ hands 22 c ∗ hands 23 c) := by
  show iprop(room 21 c ∗ room 22 c ∗ room 23 c) ⊢ iprop((room 21 c ∗ emp) ∗ (room 22 c ∗ emp) ∗ (room 23 c ∗ emp))
  iintro ⟨H1, H2, H3⟩
  isplitl [H1]
  · isplitl [H1]; · iexact H1
    iempintro
  isplitl [H2]
  · isplitl [H2]; · iexact H2
    iempintro
  · isplitl [H3]; · iexact H3
    iempintro

/-- Its slabs 0 and 2 cut for those. -/
def rest3 (c : Dev nD) : sProp (MT nD τ sig Unit (Elt F) ℕ UU ℕ) :=
  iprop((ov (F := F) c (bx (· == 0) (Rb c) hL) ∗ ov c (bx (· == 0) (rw1 (aD c)) hR) ∗ ov c (bx (· == 0) (rw1 (dD c)) hR)) ∗ ov c (bx (· == 2) (fun r => !(r == c)) both))

theorem cut_hands : iprop(ov (F := F) c (sl 0) ∗ ov c (sl 2)) ⊢ iprop(hands 12 c ∗ hands 16 c ∗ rest3 c) := by
  iintro ⟨H0, H2⟩
  ihave H0 := (own_cut c cc0_scratch3 (cut_gb c)) $$ H0
  icases H0 with ⟨Hb, Hg⟩
  ihave Hb := (own_cut c cc0_scratch3 (cut_bc c)) $$ Hb
  icases Hb with ⟨HbL, HbR⟩
  ihave HbR := (own_cut c cc0_scratch3 (cut_bR c)) $$ HbR
  icases HbR with ⟨Hd, Hb⟩
  ihave Hg := (own_cut c cc0_scratch3 (cut_gc c)) $$ Hg
  icases Hg with ⟨HgL, HgR⟩
  ihave HgR := (own_cut c cc0_scratch3 (cut_gR c)) $$ HgR
  icases HgR with ⟨Ha, Hp⟩
  ihave H2 := (own_cut c cc0_scratch3 (cut_s2 c)) $$ H2
  icases H2 with ⟨Hq, Hr⟩
  ihave Hq := (own_cut c cc0_scratch3 (cut_row2 c)) $$ Hq
  icases Hq with ⟨HqL, HqR⟩
  isplitl [HgL HqR]; · iapply (hands12 c) $$ HgL HqR
  isplitl [Hb Hp HqL]; · iapply (hands16 c) $$ Hb Hp HqL
  unfold rest3
  isplitr [Hr]
  · isplitl [HbL]; · iexact HbL
    isplitl [Ha] <;> iassumption
  iexact Hr

/-- Its landing buffer whole again. -/
theorem join3 : ov (F := F) c (bx (· == 0) (Rg c) hL) ⊢ iprop(ov c (bx (· == 0) (rw1 (bD c)) hR) -∗ ov c (bx (· == 0) (rw1 c) hR)
    -∗ ov c (bx (· == 2) (rw1 c) hL) -∗ ov c (bx (· == 2) (rw1 c) hR) -∗ rest3 c -∗ ov c (sl 1) -∗ ov c (sl 3) -∗ ov c allT) := by
  unfold rest3
  iintro HgL Hb Hp HqL HqR ⟨⟨HbL, Ha, Hd⟩, Hr⟩ H1 H3
  iapply (slabs_own c cc0_scratch3) $$ [HgL Hb Hp HbL Ha Hd] H1 [HqL HqR Hr] H3
  · iapply (own_cat c cc0_scratch3 (cut_gb c)) $$ [HbL Hd Hb] [HgL Ha Hp]
    · iapply (own_cat c cc0_scratch3 (cut_bc c)) $$ HbL [Hd Hb]
      iapply (own_cat c cc0_scratch3 (cut_bR c)) $$ Hd Hb
    · iapply (own_cat c cc0_scratch3 (cut_gc c)) $$ HgL [Ha Hp]
      iapply (own_cat c cc0_scratch3 (cut_gR c)) $$ Ha Hp
  · iapply (own_cat c cc0_scratch3 (cut_s2 c)) $$ [HqL HqR] Hr
    iapply (own_cat c cc0_scratch3 (cut_row2 c)) $$ HqL HqR

/-- The partial sums' buffer whole again. -/
theorem join2 : oz (F := F) c (bx (· == 0) (Rb c) hL) ⊢ iprop(oz c (bx (· == 0) (rw1 (dD c)) hR) -∗ oz c (bx (· == 0) (rw1 (bD c)) hR)
    -∗ oz c (bx (· == 0) (rw1 (aD c)) hL) -∗ oz c (bx (· == 0) (rw1 c) hL) -∗ oz c (bx (· == 0) (rw1 (aD c)) hR) -∗ oz c (bx (· == 0) (rw1 c) hR) -∗ oz c allT) := by
  iintro HbL Hd Hb HaL HpL HaR HpR
  iapply (own_out c cc0_scratch2 (by decide))
  iapply (own_cat c cc0_scratch2 (cut_gb c)) $$ [HbL Hd Hb] [HaL HpL HaR HpR]
  · iapply (own_cat c cc0_scratch2 (cut_bc c)) $$ HbL [Hd Hb]
    iapply (own_cat c cc0_scratch2 (cut_bR c)) $$ Hd Hb
  · iapply (own_cat c cc0_scratch2 (cut_gc c)) $$ [HaL HpL] [HaR HpR]
    · iapply (own_cat c cc0_scratch2 (cut_gL c)) $$ HaL HpL
    · iapply (own_cat c cc0_scratch2 (cut_gR c)) $$ HaR HpR

/-! ## The first layer's input -/

section In
variable (𝒮 : Spec F)
abbrev xl (T : Tile → Bool) : sProp (MT nD τ sig Unit (Elt F) ℕ UU ℕ) := reg 𝒮.ok c cc0_scratch0 T fullShare.left (𝒮.X 0)
abbrev xr (T : Tile → Bool) : sProp (MT nD τ sig Unit (Elt F) ℕ UU ℕ) := reg 𝒮.ok c cc0_scratch0 T fullShare.right (𝒮.X 0)
/-- The half shares not sent on. -/
def rest0 (c : Dev nD) : sProp (MT nD τ sig Unit (Elt F) ℕ UU ℕ) :=
  iprop(xl c 𝒮 (bR (rw1 c)) ∗ xl c 𝒮 (bx (· == 0) (rw1 (aD c)) hL) ∗ xl c 𝒮 (bx (· == 0) (rw1 (bD c)) hR))

theorem in1 : iprop(source 𝒮 0 c ∗ landed 𝒮 0 c ∗ source 𝒮 1 c ∗ landed 𝒮 1 c) ⊢ iprop(source 𝒮 2 c ∗ source 𝒮 3 c ∗ xr c 𝒮 (bR (Rn c)) ∗ rest0 𝒮 c) := by
  rw [source_lt (k := 0) (by decide), source_lt (k := 1) (by decide), source_lt (k := 2) (by decide), source_lt (k := 3) (by decide),
    landed_lt (k := 0) (by decide), landed_lt (k := 1) (by decide)]
  show iprop(xl c 𝒮 (bR (rw1 c)) ∗ xx 𝒮 c (bR (rw1 (aD c))) (𝒮.X 0) ∗ xr c 𝒮 (bR (rw1 c)) ∗ xx 𝒮 c (bR (rw1 (bD c))) (𝒮.X 0))
    ⊢ iprop(xl c 𝒮 (bx (· == 0) (rw1 (bD c)) hL) ∗ xl c 𝒮 (bx (· == 0) (rw1 (aD c)) hR) ∗ xr c 𝒮 (bR (Rn c)) ∗ rest0 𝒮 c)
  unfold rest0
  iintro ⟨Hp, Ha, Hp', Hb⟩
  ihave Ha := (reg_halve 𝒮.ok c cc0_scratch0) $$ Ha
  icases Ha with ⟨Ha, Ha'⟩
  ihave Hb := (reg_halve 𝒮.ok c cc0_scratch0) $$ Hb
  icases Hb with ⟨Hb, Hb'⟩
  ihave Ha := (reg_cut 𝒮.ok c cc0_scratch0 (cut_row1 (aD c))) $$ Ha
  icases Ha with ⟨HaL, HaR⟩
  ihave Hb := (reg_cut 𝒮.ok c cc0_scratch0 (cut_row1 (bD c))) $$ Hb
  icases Hb with ⟨HbL, HbR⟩
  isplitl [HbL]; · iexact HbL
  isplitl [HaR]; · iexact HaR
  isplitl [Ha' Hp' Hb']
  · iapply (reg_cat 𝒮.ok c cc0_scratch0 (cut_n c)) $$ [Ha' Hp'] Hb'
    iapply (reg_cat 𝒮.ok c cc0_scratch0 (cut_g c)) $$ Ha' Hp'
  isplitl [Hp]; · iexact Hp
  isplitl [HaL] <;> iassumption

theorem in2 : iprop(source 𝒮 2 c ∗ landed 𝒮 2 c ∗ source 𝒮 3 c ∗ landed 𝒮 3 c ∗ xr c 𝒮 (bR (Rn c)) ∗ rest0 𝒮 c) ⊢ xx 𝒮 c all0 (𝒮.X 0) := by
  rw [source_lt (k := 2) (by decide), source_lt (k := 3) (by decide), landed_lt (k := 2) (by decide), landed_lt (k := 3) (by decide), d2, d3]
  show iprop(xl c 𝒮 (bx (· == 0) (rw1 (bD c)) hL) ∗ xx 𝒮 c (bx (· == 0) (rw1 (dD c)) hL) (𝒮.X 0) ∗ xl c 𝒮 (bx (· == 0) (rw1 (aD c)) hR)
    ∗ xx 𝒮 c (bx (· == 0) (rw1 (dD c)) hR) (𝒮.X 0) ∗ xr c 𝒮 (bR (Rn c)) ∗ rest0 𝒮 c) ⊢ _
  unfold rest0
  iintro ⟨HbL, HdL, HaR, HdR, Hn, Hp, HaL, HbR⟩
  iapply (reg_cat 𝒮.ok c cc0_scratch0 (cut_all c)) $$ [HbL HaR Hn Hp HaL HbR] [HdL HdR]
  · iapply (reg_unhalve 𝒮.ok c cc0_scratch0)
    isplitr [Hn]
    · iapply (reg_cat 𝒮.ok c cc0_scratch0 (cut_n c)) $$ [HaL HaR Hp] [HbL HbR]
      · iapply (reg_cat 𝒮.ok c cc0_scratch0 (cut_g c)) $$ [HaL HaR] Hp
        iapply (reg_cat 𝒮.ok c cc0_scratch0 (cut_row1 (aD c))) $$ HaL HaR
      · iapply (reg_cat 𝒮.ok c cc0_scratch0 (cut_row1 (bD c))) $$ HbL HbR
    iexact Hn
  · iapply (reg_cat 𝒮.ok c cc0_scratch0 (cut_row1 (dD c))) $$ HdL HdR

theorem quads_x (l : Fin 3) : xx 𝒮 c all0 (𝒮.X l) ⊢ iprop(ox c (qA 0) ∗ ox c (qB 0) ∗ ox c (qC 0) ∗ ox c (qD 0)) :=
  (reg_own 𝒮.ok c cc0_scratch0).trans (own_quads c cc0_scratch0 0)
end In

end Parts

end Cert.KernelIdeal.Pf
end
-- ==== Proof.KernelIdeal.Walk.lean ====
/-
The kernel's body, part after part: from what a device holds at the launch to what it holds at the end.
-/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.KernelIdeal.Parts5
public import proofs.«01_k».proof.Proof.KernelIdeal.Regroup

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {𝒮 : Spec F} {m : (ℓ : Loc nD τ sig) → Buf (Elt F) ℓ} {K : Dev nD × CellIx → ℕ} (hF : 𝒮.ok → Facts 𝒮 m) (c : Dev nD) {dn : List (DmaSem sig)}

include hF

/-- The semaphores waited for, the last first. -/
abbrev dn33 : List (DmaSem sig) := [rS 24, sS 24, rS 23, sS 23, rS 22, sS 22, rS 21, sS 21, rS 20, sS 20, wS 5, rS 19, sS 19, rS 18, sS 18, rS 15, sS 15,
  rS 14, sS 14, wS 4, rS 17, sS 17, rS 16, sS 16, rS 13, sS 13, rS 12, sS 12, wS 3, rS 11, sS 11, rS 10, sS 10, rS 7, sS 7, rS 6, sS 6, wS 2, rS 9, sS 9,
  rS 8, sS 8, rS 5, sS 5, rS 4, sS 4, wS 1, rS 3, sS 3, rS 2, sS 2, wS 0, rS 1, sS 1, rS 0, sS 0, wS 6]

/-- The tokens of the local copies. -/
def Ltoks (c : Dev nD) : List ℕ → sProp (MT nD τ sig Unit (Elt F) ℕ UU ℕ)
  | [] => iprop(emp)
  | w :: l => iprop(ltok (F := F) w c ∗ Ltoks c l)
omit hF in
theorem Ltoks8 (c : Dev nD) : Ltoks (F := F) c [0, 1, 2, 3, 4, 5, 6, 7]
    = iprop(ltok 0 c ∗ ltok 1 c ∗ ltok 2 c ∗ ltok 3 c ∗ ltok 4 c ∗ ltok 5 c ∗ ltok 6 c ∗ ltok 7 c ∗ emp) := rfl
/-- The tokens and obligations at the launch. -/
def Start (c : Dev nD) : sProp (MT nD τ sig Unit (Elt F) ℕ UU ℕ) :=
  iprop(Ltoks (F := F) c [0, 1, 2, 3, 4, 5, 6, 7] ∗ dutyTok ER (bcell (aD c)) 0 true ∗ dutyTok ER (bcell (bD c)) 0 false
    ∗ atPos ER (bcell c) 0 ∅ 0 ∗ cred (tallyAt (bcell c) () 2) ∗ Tok0 c order)
/-- The arguments; -/
def Args (m : (ℓ : Loc nD τ sig) → Buf (Elt F) ℓ) (c : Dev nD) : sProp (MT nD τ sig Unit (Elt F) ℕ UU ℕ) :=
  iprop(argPts m main_arg0 c ∗ argPts m main_arg1 c ∗ argPts m main_arg2 c ∗ argPts m main_arg3 c ∗ argPts m main_arg4 c ∗ argPts m main_arg5 c ∗ argPts m main_arg6 c)
/-- the scratch buffers; -/
def Bufs (c : Dev nD) : sProp (MT nD τ sig Unit (Elt F) ℕ UU ℕ) :=
  iprop(own (F := F) c cc0_scratch0 allT ∗ own c cc0_scratch1 allT ∗ own c cc0_scratch2 allT ∗ own c cc0_scratch3 allT
    ∗ own c cc0_scratch4 allT ∗ own c cc0_scratch5 allT ∗ own c cc0_scratch6 allT ∗ own c cc0_scratch7 allT)
/-- and, before the last rows are written, all else. -/
def Mid (𝒮 : Spec F) (m : (ℓ : Loc nD τ sig) → Buf (Elt F) ℓ) (c : Dev nD) : sProp (MT nD τ sig Unit (Elt F) ℕ UU ℕ) :=
  iprop(St c 25 dn33 ∗ semVal (bcell c) 0 ∗ ltok 7 c ∗ Args m c
    ∗ own c cc0_scratch0 allT ∗ own c cc0_scratch1 allT ∗ own c cc0_scratch2 allT ∗ own c cc0_scratch4 allT ∗ own c cc0_scratch6 allT ∗ own c cc0_scratch7 allT
    ∗ vv 𝒮 c (bx (· == 2) (rw1 c) hR) (𝒮.Y 2 (pr 24 c)) ∗ (ov c (bx (· == 2) (rw1 c) hR) -∗ ov c allT)
    ∗ reg 𝒮.ok c cc0_scratch5 (bx (· == 0) (· == 0) hL) fullShare (𝒮.O c) ∗ own c cc0_scratch5 (bx (· == 0) (· == 0) hR))

omit hF in
theorem slabsT (b : Ref sig .tc) : own (F := F) c b allT ⊢ iprop(own c b (slT 0) ∗ own c b (slT 1) ∗ own c b (slT 2) ∗ own c b (slT 3)) := slabs c b
omit hF in
theorem slabsT_own (b : Ref sig .tc) : own (F := F) c b (slT 0) ⊢ iprop(own c b (slT 1) -∗ own c b (slT 2) -∗ own c b (slT 3) -∗ own c b allT) := slabs_own c b

omit hF in
theorem in_all (c : Dev nD) (b : Ref sig .tc) (h : b.ty.shape.rank ≠ 3) (ok : Prop) {G} : reg (F := F) ok c b all0 fullShare G ⊢ own c b allT :=
  (reg_own ok c b).trans (own_out c b h)

set_option maxHeartbeats 4000000 in
theorem part33 {Q : _ → sProp (MT nD τ sig Unit (Elt F) ℕ UU ℕ)} :
    records 𝒮 m K ⊢ iprop(Start c -∗ (∃ W, owes (c : Thread nD τ) (O₀ c) W) -∗ Args m c -∗ Bufs c
      -∗ (∀ v5 v923, ⌜𝒮.ok → ∀ inb, v923 = at_ (Rect.unit (s := S256x512) (k0_off21 c) ![64, 256] inb) (𝒮.Y 2 c)⌝ -∗ Mid 𝒮 m c -∗ Q ⟨c, v5, v923⟩)
      -∗ runs c (at0 (k0_part33 (F := F))) Q) := by
  rw [k0_part33_eq_skeleton]
  simp only [k0_part33_skel, Prog.lift, Prog.bind_op, Prog.bind_ret, Prog.pure_eq_ret]
  unfold Start Args Bufs
  rw [Ltoks8]
  iintro #HR ⟨⟨L0, L1, L2, L3, L4, L5, L6, L7, -⟩, HtA, HtB, Hat, Hcr, HT⟩ HO ⟨A0, A1, A2, A3, A4, A5, A6⟩ ⟨HX, HH, HZ, HV, B4, B5, B6, B7⟩ Hk
  -- the buffers cut
  ihave HX := (own_in c cc0_scratch0 (by decide)) $$ HX
  ihave HH := (own_in c cc0_scratch1 (by decide)) $$ HH
  ihave HZ := (own_in c cc0_scratch2 (by decide)) $$ HZ
  ihave B5 := (own_64 c) $$ B5
  ihave HG := (give_bar c) $$ [HX HV]
  · isplitl [HX] <;> iassumption
  icases HG with ⟨HX, HpA, HpB⟩
  ihave B6 := (slabsT c cc0_scratch6) $$ B6
  icases B6 with ⟨B60, B61, B62, B63⟩
  ihave B7 := (slabsT c cc0_scratch7) $$ B7
  icases B7 with ⟨B70, B71, B72, B73⟩
  iapply (runs_bind c _ _)
  iapply (part1 hF c)
  iintro %v2 %v3 %v4 %v5 %v7 %v9 %v27 %kk %v28 %v33 %v35 %v36
  dsimp only
  iapply (runs_bind c _ _)
  iapply (part2 hF c v2 kk v28 v33 v35 v36) $$ HR L6 L0 L1 L2 L3 A0 A1 A2 A3 A4 B4 B60 B70 B61 B71
  iintro %v46 X6 X0 X1 X2 X3
  iapply (runs_bind c _ _)
  iapply (part3 hF c v3 v4 v5) $$ HR L4 L5 A5 A6 B62 B72 HtA HpA HtB HpB Hat Hcr HO HT X6 HX
  iintro %r3 HSt HS0 HR0 Hs1 X4 X5 Hz B4 A0
  iapply (runs_bind c _ _)
  iapply (part4 hF c v3 v4 r3) $$ HR HSt HS0 HR0 Hs1
  iintro HSt Hs0 Hl0 Hs1 Hl1
  ihave HI := (in1 c 𝒮) $$ [Hs0 Hl0 Hs1 Hl1]
  · isplitl [Hs0]; · iexact Hs0
    isplitl [Hl0]; · iexact Hl0
    isplitl [Hs1] <;> iassumption
  icases HI with ⟨Hs2, Hs3, HX, Hx0⟩
  ihave HH := (own_cut c cc0_scratch1 (cut_all c)) $$ HH
  icases HH with ⟨HH, Hd⟩
  ihave HH := (own_cut c cc0_scratch1 (cut_n c)) $$ HH
  icases HH with ⟨Hg, Hb⟩
  iapply (runs_bind c _ _)
  iapply (part5 hF c v3 v4 v7 v27) $$ HR HSt Hs2 Hs3 X0 HX Hg
  iintro %r5 %h5 HSt HS2 HR2 HS3 HR3 B60 A1 HX Hg
  iapply (runs_bind c _ _)
  iapply (part6 hF c v3 v4 v7 v9 r5 h5) $$ HR HSt HS2 HR2 HS3 HR3 HX Hb
  iintro HSt Hs2 Hl2 Hs3 Hl3 HX Hb
  ihave HX := (in2 c 𝒮) $$ [Hs2 Hl2 Hs3 Hl3 HX Hx0]
  · isplitl [Hs2]; · iexact Hs2
    isplitl [Hl2]; · iexact Hl2
    isplitl [Hs3]; · iexact Hs3
    isplitl [Hl3]; · iexact Hl3
    isplitl [HX] <;> iassumption
  ihave HZ := (own_cut c cc0_scratch2 (cut_row 0)) $$ HZ
  icases HZ with ⟨HZ0, HZ1⟩
  iapply (runs_bind c _ _)
  iapply (part7 hF c v4 v9 r5 h5) $$ HR HSt X1 HX Hg Hb Hd HZ0
  iintro %r7 %h7 HSt HS4 HR4 B70 A2 HX HH Hqb
  iapply (runs_bind c _ _)
  iapply (part8 hF c v3 v4 r7 h7) $$ HR HSt Hqb HH HZ1
  iintro HSt HS5 HR5 HS8 HR8 HH Hqd
  iapply (runs_bind c _ _)
  iapply (part9 hF c v3 v4) $$ HR HSt Hqd HS4 HR4
  iintro %r9 HSt HS9 HR9 Hqa Va0
  iapply (runs_bind c _ _)
  iapply (part10 hF c v4 r9) $$ HR HSt Hqa HS5 HR5
  iintro HSt HS6 HR6 Hqb Vb0
  iapply (runs_bind c _ _)
  iapply (part11 hF c v3) $$ HR HSt Hqb HS8 HR8
  iintro %r11 %h11 HSt HS7 HR7 Hqc Vc0
  iapply (runs_bind c _ _)
  iapply (part12 hF c v3 v4 r11 h11) $$ HR HSt Hqc HS9 HR9
  iintro %r12 %h12 HSt HS10 HR10 Hqd Vd0
  iapply (runs_bind c _ _)
  iapply (part13 hF c v4 r12 h12) $$ HR HSt Hqd Vd0 X2 HS6
  iintro %r13 %h13 HSt HS11 HR11 Hqa Vd0 B61 A3
  ihave HX := (quads_x c 𝒮 0) $$ HX
  icases HX with ⟨Xa, Xb, Xc, Xd⟩
  iapply (runs_bind c _ _)
  iapply (part14 hF c v3 r13 h13) $$ HR HSt Hqa HR6 HS7 Xa
  iintro %r14 %h14 HSt Hqa Va2 Xa Hqb
  ihave HH := (reg_own 𝒮.ok c cc0_scratch1) $$ HH
  ihave HH := (own_cut c cc0_scratch1 (cut_row 0)) $$ HH
  icases HH with ⟨HH0, HH1⟩
  iapply (runs_bind c _ _)
  iapply (part15 hF c v4 r13 r14 h13 h14) $$ HR HSt Hqb HR7 HS10 Xb HH0
  iintro HSt Hqb Vb2 Xb HH0 Hqc
  iapply (runs_bind c _ _)
  iapply (part16 hF c v4 r13 h13) $$ HR HSt Hqc HR10 HS11 Xc
  iintro %r16 %h16 HSt Hqc Vc2 Xc Hqd
  iapply (runs_bind c _ _)
  iapply (part17 hF c r13 r16 h13 h16) $$ HR HSt Hqd HR11 X3 Xd HH1 HH0 Hqa Hqb
  iintro %r17 %h17 HSt Hqd Vd2 Xd HH1 HH0 HZ0 B71 A4
  obtain ⟨r17, r17'⟩ := r17
  dsimp only
  dsimp only at h17
  ihave V0 := (quads_own c cc0_scratch3 0) $$ Va0 Vb0 Vc0 Vd0
  ihave V2 := (quads_own c cc0_scratch3 2) $$ Va2 Vb2 Vc2 Vd2
  ihave HV := (cut_hands c) $$ [V0 V2]
  · isplitl [V0] <;> iassumption
  icases HV with ⟨H12, H16, HV⟩
  iapply (runs_bind c _ _)
  iapply (part18 hF c v3 v4 r17 r17' (fun h => (h17 h).1) (fun h => (h17 h).2)) $$ HR HSt HZ0 H12 HH1 Hqc Hqd
  iintro HSt HS12 HR12 HS13 HR13 HH1 Hqc Hqd
  iapply (runs_bind c _ _)
  iapply (part19 hF c v3 v4) $$ HR HSt Hqc H16 Hqd HS12 HR12
  iintro HSt HS16 HR16 HS17 HR17 Hqa Va1 He12
  iapply (runs_bind c _ _)
  iapply (part20 hF c v3 v4) $$ HR HSt Hqa Va1 HS13
  iintro HSt HS14 HR14 Va1 Hqb
  iapply (runs_bind c _ _)
  iapply (part21 hF c v3) $$ HR HSt Hqb HR13 HS16
  iintro HSt HS15 HR15 Vb1 Hqc
  iapply (runs_bind c _ _)
  iapply (part22 hF c v4) $$ HR HSt Hqc HR16 HS17
  iintro HSt HS18 HR18 Vc1 He16 Hqd
  iapply (runs_bind c _ _)
  iapply (part23 hF c v3 v4) $$ HR HSt Hqd HR17 X4
  iintro HSt HS19 HR19 Vd1 B62 A5
  ihave Xa := (reg_own 𝒮.ok c cc0_scratch0) $$ Xa
  ihave Xb := (reg_own 𝒮.ok c cc0_scratch0) $$ Xb
  ihave Xc := (reg_own 𝒮.ok c cc0_scratch0) $$ Xc
  ihave Xd := (reg_own 𝒮.ok c cc0_scratch0) $$ Xd
  ihave HH0 := (reg_own 𝒮.ok c cc0_scratch1) $$ HH0
  ihave HH1 := (reg_own 𝒮.ok c cc0_scratch1) $$ HH1
  iapply (runs_bind c _ _)
  iapply (part24 hF c v3) $$ HR HSt B62 HS14 HR14 Xa
  iintro %r24 %h24 HSt B62 Hqa Va3 Xa
  obtain ⟨r24, r24'⟩ := r24
  dsimp only
  dsimp only at h24
  iapply (runs_bind c _ _)
  iapply (part25 hF c v3 r24 r24' (fun h => (h24 h).1) (fun h => (h24 h).2)) $$ HR HSt HS15 HR15 Xb HH0
  iintro HSt Hqb Vb3 Xb HH0
  iapply (runs_bind c _ _)
  iapply (part26 hF c v4 r24 (fun h => (h24 h).1)) $$ HR HSt HS18 HR18 Xc
  iintro %r26 %h26 HSt Hqc Vc3 Xc
  iapply (runs_bind c _ _)
  iapply (part27 hF c v4 r24 r26 (fun h => (h24 h).1) h26) $$ HR HSt HS19 HR19 Xd HH1
  iintro HSt Hqd Vd3 Xd HH1
  ihave Xa := (reg_own 𝒮.ok c cc0_scratch0) $$ Xa
  ihave Xb := (reg_own 𝒮.ok c cc0_scratch0) $$ Xb
  ihave Xc := (reg_own 𝒮.ok c cc0_scratch0) $$ Xc
  ihave Xd := (reg_own 𝒮.ok c cc0_scratch0) $$ Xd
  ihave HX := (quads_own c cc0_scratch0 0) $$ Xa Xb Xc Xd
  ihave HX := (own_out c cc0_scratch0 (by decide)) $$ HX
  ihave HH := (reg_cat 𝒮.ok c cc0_scratch1 (cut_row 0)) $$ HH0 HH1
  ihave HZ := (quads_own c cc0_scratch2 0) $$ Hqa Hqb Hqc Hqd
  ihave HZ := (own_cut c cc0_scratch2 (cut_gb c)) $$ HZ
  icases HZ with ⟨Hzb, Hzg⟩
  ihave V1 := (quads_own c cc0_scratch3 1) $$ Va1 Vb1 Vc1 Vd1
  ihave V3 := (quads_own c cc0_scratch3 3) $$ Va3 Vb3 Vc3 Vd3
  ihave He12 := (extra12 c) $$ He12
  icases He12 with ⟨H20, H24⟩
  ihave He16 := (extra16 c) $$ He16
  icases He16 with ⟨H21, H22, H23⟩
  iapply (runs_bind c _ _)
  iapply (part28 hF c v3 v4 v46) $$ HR HSt X5 HH Hzb H20
  iintro %r28 %h28 HSt HS20 HR20 HH HbR B72 A6
  iapply (runs_bind c _ _)
  iapply (part29 hF c v3 v4 v27 r28 h28) $$ HR HSt HbR H21 HH Hzg H22 HS20
  iintro HSt HS21 HR21 HS22 HR22 HbR HH HgL HpR HbL
  iapply (runs_bind c _ _)
  iapply (part30 hF c v3 v27) $$ HR HSt HR20 HgL H23 HS21
  iintro HSt HS23 HR23 VgL HpL HdR
  iapply (runs_bind c _ _)
  iapply (part31 hF c v3 v5 v7) $$ HR HSt HR21 HS22 HR22 HpR HbR
  iintro HSt HaR HpR HbR VpR VbR
  ihave B5 := (own_cut c cc0_scratch5 cut_out) $$ B5
  icases B5 with ⟨B5L, B5R⟩
  iapply (runs_bind c _ _)
  iapply (part32 hF c v3 v4 v5) $$ HR HSt HbR H24 HS23 HR23 HpL B5L
  iintro HSt HS24 HR24 HaL VpL HpL B5L
  iapply (waitZ 𝒮 m K c 24 (bx (· == 0) (rw1 (bD c)) hR) (𝒮.Y 2 c) ⟨rfl, rfl⟩ (by decide) (by decide) (aS' (by decide)) (by decide)) $$ HR HSt HS24
  iintro HSt HbR
  iapply (waitV 𝒮 m K c 24 (bx (· == 2) (rw1 c) hR) (𝒮.Y 2 (pr 24 c)) ⟨d24 c, rfl⟩ (by decide) (by decide) (aR' (by decide)) (by decide)) $$ HR HSt HR24
  iintro HSt HV24 -
  iapply (wp_loadR 𝒮.ok c M2 (setM2 (f21 c)) (fun _ h => h)) $$ HpR
  iintro %v %ev HpR
  iapply runs_ret
  iapply Hk $$ %v5 %v [] [-]
  · ipureintro
    intro hok inb
    exact ev hok
  unfold Mid Args
  isplitl [HSt]; · iexact HSt
  isplitl [Hz]; · iexact Hz
  isplitl [L7]; · iexact L7
  isplitl [A0 A1 A2 A3 A4 A5 A6]
  · isplitl [A0]; · iexact A0
    isplitl [A1]; · iexact A1
    isplitl [A2]; · iexact A2
    isplitl [A3]; · iexact A3
    isplitl [A4]; · iexact A4
    isplitl [A5] <;> iassumption
  isplitl [HX]; · iexact HX
  isplitl [HH]; · iapply (in_all c cc0_scratch1 (by decide) 𝒮.ok) $$ HH
  isplitl [HbL HdR HbR HaL HpL HaR HpR]
  · ihave HbL := (reg_own 𝒮.ok c cc0_scratch2) $$ HbL
    ihave HdR := (reg_own 𝒮.ok c cc0_scratch2) $$ HdR
    ihave HbR := (reg_own 𝒮.ok c cc0_scratch2) $$ HbR
    ihave HaL := (reg_own 𝒮.ok c cc0_scratch2) $$ HaL
    ihave HpL := (reg_own 𝒮.ok c cc0_scratch2) $$ HpL
    ihave HaR := (reg_own 𝒮.ok c cc0_scratch2) $$ HaR
    ihave HpR := (reg_own 𝒮.ok c cc0_scratch2) $$ HpR
    iapply (join2 c) $$ HbL HdR HbR HaL HpL HaR HpR
  isplitl [B4]; · iexact B4
  isplitl [B60 B61 B62 B63]; · iapply (slabsT_own c cc0_scratch6) $$ B60 B61 B62 B63
  isplitl [B70 B71 B72 B73]; · iapply (slabsT_own c cc0_scratch7) $$ B70 B71 B72 B73
  isplitl [HV24]; · iexact HV24
  isplitl [VgL VbR VpR VpL HV V1 V3]
  · iintro H
    iapply (join3 c) $$ VgL VbR VpR VpL H HV V1 V3
  isplitl [B5L] <;> iassumption

/-- What a device holds at the end: the arguments unchanged, its rows of the result, every semaphore at zero. -/
def Fin1 (𝒮 : Spec F) (m : (ℓ : Loc nD τ sig) → Buf (Elt F) ℓ) (c : Dev nD) : sProp (MT nD τ sig Unit (Elt F) ℕ UU ℕ) :=
  iprop(Args m c ∗ reg 𝒮.ok c main_v1 allT fullShare (𝒮.O c) ∗ Bufs c ∗ Done c (wS 7 :: dn33) ∗ semVal (bcell c) 0 ∗ Ow c [])

theorem body_walk {Q : PUnit → sProp (MT nD τ sig Unit (Elt F) ℕ UU ℕ)} :
    records 𝒮 m K ⊢ iprop(Start c -∗ (∃ W, owes (c : Thread nD τ) (O₀ c) W) -∗ Args m c -∗ own c main_v1 allT -∗ Bufs c
      -∗ (Fin1 𝒮 m c -∗ Q ⟨⟩) -∗ runs c (at0 (cc0_body (F := F))) Q) := by
  rw [cc0_body_eq_skeleton]
  simp only [cc0_body_skel, Prog.lift, Prog.bind_op, Prog.bind_ret, Prog.pure_eq_ret]
  iintro #HR HSt HO HA Ho HB Hk
  iapply (runs_bind c _ _)
  iapply (part33 hF c) $$ HR HSt HO HA HB
  iintro %v5 %v923 %hv HM
  dsimp only
  unfold Mid
  icases HM with ⟨HSt, Hz, L7, HA, HX, HH, HZ, B4, B6, B7, HV, HV', B5L, B5R⟩
  iapply (ldV 𝒮 c 2 (s24 c).1 (s24 c).2.1 (s24 c).2.2.1 (s24 c).2.2.2 (fun _ h => h)) $$ HV
  iintro %u %eu HV
  iapply (wp_loadO c M5 (T' := bx (· == 0) (· == 0) hR) (setM5 (by decide)) (fun _ h => h)) $$ B5R
  iintro %_ B5R
  iapply (wp_storeO 𝒮.ok c M5 (T := bx (· == 0) (· == 0) hR) (G := 𝒮.O c) (setM5 (by decide)) (fun hok => by rw [hv hok (k0_off21_inb c), eu hok]; exact (hF hok).o_r c _ _ _)) $$ B5R
  iintro B5R
  ihave B5 := (reg_cat 𝒮.ok c cc0_scratch5 cut_out) $$ B5L B5R
  ihave B5 := (reg_64 c) $$ B5
  iapply (wp_copyAll 𝒮 m K c 7 (ok := 𝒮.ok) (fs := 𝒮.O c) (G := 𝒮.O c) (src := Memref.whole cc0_scratch5) (dst := Memref.whole main_v1) (by decide) rfl rfl (View.set_whole _) (View.set_whole _) rfl .rfl) $$ HR L7 B5 Ho
  iintro X7
  iapply (waitL 𝒮 m K c 7 rfl (by decide) rfl rfl (by decide)) $$ HR HSt X7
  iintro HSt Ho B5
  iapply runs_ret
  iapply Hk
  unfold Fin1 Bufs St
  icases HSt with ⟨HO, -, HD⟩
  ihave HV := (reg_own 𝒮.ok c cc0_scratch3) $$ HV
  ihave HV := HV' $$ HV
  ihave B5 := (reg_own 𝒮.ok c cc0_scratch5) $$ B5
  isplitl [HA]; · iexact HA
  isplitl [Ho]; · iexact Ho
  isplitl [HX HH HZ HV B4 B5 B6 B7]
  · isplitl [HX]; · iexact HX
    isplitl [HH]; · iexact HH
    isplitl [HZ]; · iexact HZ
    isplitl [HV]; · iexact HV
    isplitl [B4]; · iexact B4
    isplitl [B5]; · iexact B5
    isplitl [B6] <;> iassumption
  isplitl [HD]; · iexact HD
  isplitl [Hz]; · iexact Hz
  iexact HO

end Parts

end Cert.KernelIdeal.Pf
end
-- ==== Proof.KernelIdeal.Deal.lean ====
/-
The launch: the cells and their tokens, dealt to the devices.
-/
module

public import proofs.«01_k».proof.Proof.KernelIdeal.Walk

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A big separating conjunction over a whole type, along a list of its members. -/
theorem univ_list {M : Type} [URA M] {I : Type} [Fintype I] [DecidableEq I] (l : List I) (hn : l.Nodup) (hl : ∀ i, i ∈ l) (Φ : I → sProp M) :
    bigSep Finset.univ Φ = bigSepM (l : Multiset I) Φ := by
  rw [show (Finset.univ : Finset I) = ⟨(l : Multiset I), Multiset.coe_nodup.mpr hn⟩ from
    Finset.ext fun i => ⟨fun _ => hl i, fun _ => Finset.mem_univ _⟩]
  rfl

theorem chain_cons {M : Type} [URA M] {I : Type} (i : I) (l : List I) (Φ : I → sProp M) :
    bigSepM ((i :: l : List I) : Multiset I) Φ = iprop(Φ i ∗ bigSepM (l : Multiset I) Φ) := bigSepM_cons i (l : Multiset I) Φ
theorem chain_app {M : Type} [URA M] {I : Type} (l l' : List I) (Φ : I → sProp M) :
    bigSepM ((l ++ l' : List I) : Multiset I) Φ = iprop(bigSepM (l : Multiset I) Φ ∗ bigSepM (l' : Multiset I) Φ) := by
  rw [← Multiset.coe_add]; exact bigSepM_add _ _ Φ

/-! ## Cells and tokens -/

theorem kcell_injective : Function.Injective (kcell : Dev nD × CellIx → GSem nD τ sig) := by
  rintro ⟨c, k⟩ ⟨c', k'⟩ h
  have h1 : c = c' := congrArg (fun g : GSem nD τ sig => g.1.1) h
  have h2 : csem k = csem k' := congrArg Prod.snd h
  subst h1
  cases k <;> cases k'
  · rfl
  · exact absurd h2 (fun h => nomatch (show SemLoc.reg barS = SemLoc.dma _ from h))
  · exact absurd h2 (fun h => nomatch (show SemLoc.dma _ = SemLoc.reg barS from h))
  · rw [show (_ : Fin 58) = _ from SemLoc.dma.inj h2]
def cells : Finset (GSem nD τ sig) := Finset.univ.map ⟨kcell, kcell_injective⟩

/-- A device's duties: the barrier's two, and each DMA semaphore's one. -/
abbrev DutyIx : Type := Bool ⊕ Fin 58
abbrev tokOf (cj : Dev nD × DutyIx) : GSem nD τ sig × ℕ × Bool := match cj.2 with
  | .inl d => (bcell cj.1, 0, d)
  | .inr i => (dcell cj.1 i, 0, false)
theorem tokOf_injective : Function.Injective tokOf := by
  rintro ⟨c, j⟩ ⟨c', j'⟩ h
  have h2 : ∀ {x y : GSem nD τ sig × ℕ × Bool}, x = y → x.1.1.1 = y.1.1.1 ∧ x.1.2 = y.1.2 ∧ x.2.2 = y.2.2 := fun e => by subst e; exact ⟨rfl, rfl, rfl⟩
  obtain ⟨h1, h3, h4⟩ := h2 h
  rcases j with d | i <;> rcases j' with d' | i'
  · have h1 : c = c' := h1
    have h4 : d = d' := h4
    rw [h1, h4]
  · exact absurd h3 (fun h => nomatch (show SemLoc.reg barS = SemLoc.dma i' from h))
  · exact absurd h3 (fun h => nomatch (show SemLoc.dma i = SemLoc.reg barS from h))
  · have h1 : c = c' := h1
    have h5 : i = i' := by injection (show (SemLoc.dma i : SemLoc sig) = SemLoc.dma i' from h3)
    rw [h1, h5]
def toks₀ : Finset (GSem nD τ sig × ℕ × Bool) := Finset.univ.map ⟨tokOf, tokOf_injective⟩

/-- Whose cell the duty is on that device `c` discharges. -/
def payee : DutyIx → Dev nD → Dev nD
  | .inl true => aD
  | .inl false => bD
  | .inr i => if 33 ≤ i.val then pr (i.val - 33) else id
theorem payee_payee (j : DutyIx) (c : Dev nD) : payee j (payee j c) = c := by
  match j with
  | .inl true => exact aD_aD c
  | .inl false => exact bD_bD c
  | .inr i =>
    show (if 33 ≤ i.val then pr (i.val - 33) else id) ((if 33 ≤ i.val then pr (i.val - 33) else id) c) = c
    split
    · exact pr_pr _ c
    · rfl
def payeeE (j : DutyIx) : Dev nD ≃ Dev nD := ⟨payee j, payee j, payee_payee j, payee_payee j⟩

/-- The token of duty `j` on the cell of device `c`. -/
def dtok (c : Dev nD) (j : DutyIx) : sProp (MT nD τ sig Unit (Elt F) ℕ UU ℕ) := dutyTok ER (tokOf (c, j)).1 (tokOf (c, j)).2.1 (tokOf (c, j)).2.2

/-- The tokens of a device's cells go to the devices that discharge them. -/
theorem deal : (bigSep Finset.univ fun c : Dev nD => bigSep Finset.univ fun j : DutyIx => (dtok (F := F) c j))
    = bigSep Finset.univ fun c : Dev nD => bigSep Finset.univ fun j : DutyIx => dtok (F := F) (payee j c) j := by
  rw [bigSep_univ_comm, bigSep_univ_comm (fun c j => dtok (F := F) (payee j c) j)]
  exact bigSep_congr fun j _ => bigSep_univ_equiv (payeeE j) (fun c => dtok (F := F) c j)

/-! ## One device's share -/

/-- The DMA semaphores, as the body takes them. -/
def listW : List (Fin 58) := [0, 1, 2, 3, 4, 5, 6, 7].map wS
def listX (l : List ℕ) : List (Fin 58) := l.flatMap fun k => [sS k, rS k]
theorem nodup58 : (listW ++ listX order).Nodup := by decide +kernel
theorem all58 : ∀ i : Fin 58, i ∈ listW ++ listX order := by decide +kernel
theorem nodupDone : (wS 7 :: dn33 : List (Fin 58)).Nodup := by decide +kernel
theorem allDone : ∀ i : Fin 58, i ∈ (wS 7 :: dn33 : List (Fin 58)) := by decide +kernel

theorem payee_lo {i : Fin 58} (h : ¬ 33 ≤ i.val) (c : Dev nD) : payee (.inr i) c = c := by
  show (if 33 ≤ i.val then pr (i.val - 33) else id) c = c
  rw [if_neg h]; rfl
theorem payee_hi {i : Fin 58} (h : 33 ≤ i.val) (c : Dev nD) : payee (.inr i) c = pr (i.val - 33) c := by
  show (if 33 ≤ i.val then pr (i.val - 33) else id) c = _
  rw [if_pos h]

def share58 (c : Dev nD) (i : Fin 58) : sProp (MT nD τ sig Unit (Elt F) ℕ UU ℕ) :=
  iprop(dtok (F := F) (payee (.inr i) c) (.inr i) ∗ atPos ER (dcell c i) 0 ∅ 0)

theorem share_W (c : Dev nD) {w : ℕ} (hw : w < 8) : share58 (F := F) c (wS w) = ltok w c := by
  unfold share58 ltok dtok
  have h : ¬ 33 ≤ (wS w).val := by
    show ¬ 33 ≤ w % 58; omega
  rw [payee_lo h]
theorem share_S (c : Dev nD) {k : ℕ} (hk : k < 25) : share58 (F := F) c (sS k) = iprop(dutyTok ER (dcell c (sS k)) 0 false ∗ atPos ER (dcell c (sS k)) 0 ∅ 0) := by
  unfold share58 dtok
  have h : ¬ 33 ≤ (sS k).val := by
    show ¬ 33 ≤ (8 + k) % 58; omega
  rw [payee_lo h]
theorem share_R (c : Dev nD) {k : ℕ} (hk : k < 25) : share58 (F := F) c (rS k) = iprop(dutyTok ER (dcell (pr k c) (rS k)) 0 false ∗ atPos ER (dcell c (rS k)) 0 ∅ 0) := by
  unfold share58 dtok
  have h : 33 ≤ (rS k).val := by rw [rS_val hk]; omega
  rw [payee_hi h, rS_val hk, Nat.add_sub_cancel_left]

theorem shares_W (c : Dev nD) (l : List ℕ) (hl : ∀ w ∈ l, w < 8) :
    bigSepM ((l.map wS : List (Fin 58)) : Multiset (Fin 58)) (share58 (F := F) c) ⊢ Ltoks c l := by
  induction l with
  | nil => exact .rfl
  | cons w l ih =>
    rw [List.map_cons, chain_cons, share_W c (hl w List.mem_cons_self)]
    exact sep_mono_right (ih fun w' h => hl w' (List.mem_cons_of_mem _ h))

theorem amt_rS {k : ℕ} (hk : k < 25) : amt (rS k).val = amtX k := by
  rw [rS_val hk]; unfold amt
  rw [if_neg (by omega), if_neg (by omega), Nat.add_sub_cancel_left]

/-- The tokens, the positions and the launch's credit are the tokens of the exchanges. -/
theorem shares_X (c : Dev nD) (l : List ℕ) (hl : ∀ k ∈ l, k < 25) :
    iprop(bigSepM (listX l : Multiset (Fin 58)) (share58 (F := F) c) ∗ Pipeline.launchCred (fun d => Orem d l) c) ⊢ Tok0 c l := by
  induction l with
  | nil => iintro -; show _ ⊢ iprop(emp); iintro -; iempintro
  | cons k l ih =>
    have hk := hl k List.mem_cons_self
    show iprop(bigSepM ((sS k :: rS k :: listX l : List (Fin 58)) : Multiset (Fin 58)) (share58 (F := F) c)
      ∗ Pipeline.launchCred (fun d => Orem d l + tallyAt (dcell (pr k d) (rS k)) () (amtX k)) c) ⊢ iprop(tok k c ∗ Tok0 c l)
    rw [chain_cons, chain_cons, share_S c hk, share_R c hk, Pipeline.launchCred_add (fun d => Orem d l)]
    unfold tok
    rw [amt_rS hk]
    iintro ⟨⟨⟨H1, H2⟩, ⟨H3, H4⟩, H⟩, Hc, Hk⟩
    ihave Hk := (Pipeline.launchCred_tallyAt (.dma (rS k)) (pr k) (pr k) (pr_pr k) (pr_pr k) () (amtX k) c) $$ Hk
    isplitl [H1 H2 H3 H4 Hk]
    · isplitl [H1]; · iexact H1
      isplitl [H3]; · iexact H3
      isplitl [H2]; · iexact H2
      isplitl [H4]; · iexact H4
      iexact Hk
    iapply (ih fun k' h => hl k' (List.mem_cons_of_mem _ h))
    isplitl [H] <;> iassumption

/-- The position of each cell. -/
abbrev pos (c : Dev nD) (k : CellIx) : sProp (MT nD τ sig Unit (Elt F) ℕ UU ℕ) := atPos ER (kcell (c, k)) 0 ∅ 0

theorem univ_option {M : Type} [URA M] (Φ : CellIx → sProp M) :
    bigSep Finset.univ Φ = iprop(Φ none ∗ bigSep Finset.univ fun i : Fin 58 => Φ (some i)) := by
  rw [show (Finset.univ : Finset CellIx) = insert none (Finset.univ.map Function.Embedding.some) from by ext k; cases k <;> simp,
    bigSep_insert (by simp), bigSep_map]
  rfl

theorem start_intro (c : Dev nD) :
    iprop((bigSep Finset.univ (pos (F := F) c)) ∗ (bigSep Finset.univ fun j : DutyIx => dtok (F := F) (payee j c) j) ∗ Pipeline.launchCred O₀ c) ⊢ Start c := by
  rw [univ_option, bigSep_univ_sum,
    show (O₀ : Dev nD → CellTallies nD τ sig Unit) = fun d => (fun d => (fun d => Orem d order) d + tallyAt (bcell (bD d)) () 1) d + tallyAt (bcell (aD d)) () 1 from rfl,
    Pipeline.launchCred_add, Pipeline.launchCred_add,
    bigSep_univ_eq_bigSepL [true, false] (by decide) (by decide) (fun a : Bool => dtok (F := F) (payee (Sum.inl a) c) (Sum.inl a)), bigSepL_cons_cons, bigSepL_singleton]
  show iprop((atPos ER (bcell c) 0 ∅ 0 ∗ _) ∗ ((dutyTok ER (bcell (aD c)) 0 true ∗ dutyTok ER (bcell (bD c)) 0 false) ∗ _) ∗ (_ ∗ _) ∗ _) ⊢ _
  iintro ⟨⟨HpB, Hp⟩, ⟨⟨HtA, HtB⟩, Ht⟩, ⟨Hc, HcB⟩, HcA⟩
  ihave HcA := (Pipeline.launchCred_tallyAt (.reg barS) aD aD aD_aD aD_aD () 1 c) $$ HcA
  ihave HcB := (Pipeline.launchCred_tallyAt (.reg barS) bD bD bD_bD bD_bD () 1 c) $$ HcB
  ihave Hsh := (show iprop((bigSep Finset.univ fun i : Fin 58 => dtok (F := F) (payee (.inr i) c) (.inr i)) ∗ bigSep Finset.univ fun i : Fin 58 => pos (F := F) c (some i))
      ⊢ iprop(bigSepM (listW : Multiset (Fin 58)) (share58 (F := F) c) ∗ bigSepM (listX order : Multiset (Fin 58)) (share58 (F := F) c)) from by
    rw [← bigSep_sep', ← chain_app, ← univ_list _ nodup58 all58]; exact .rfl) $$ [Ht Hp]
  · isplitl [Ht] <;> iassumption
  icases Hsh with ⟨HW, HX⟩
  unfold Start
  isplitl [HW]; · iapply (shares_W c [0, 1, 2, 3, 4, 5, 6, 7] (by decide)); iexact HW
  isplitl [HtA]; · iexact HtA
  isplitl [HtB]; · iexact HtB
  isplitl [HpB]; · iexact HpB
  isplitl [HcA HcB]
  · rw [show (2 : ℕ) = 1 + 1 from rfl, ← tallyAt_add]
    iapply (cred_add _ _).2
    isplitl [HcA] <;> iassumption
  iapply (shares_X c order (by decide))
  isplitl [HX] <;> iassumption

/-- The kernel's own semaphores, at zero at the end. -/
abbrev osem : Fin 58 → SemLoc sig := fun i => .dma i

theorem done_ownSems (c : Dev nD) : Done (F := F) c (wS 7 :: dn33)
    ⊢ (Pipeline.ownSems0 (Ix := Unit) (Name := ℕ) (U := UU) (Lvl := ℕ) (Val := Elt F) (τ := τ) osem c : sProp (MT nD τ sig Unit (Elt F) ℕ UU ℕ)) := by
  have h : ∀ l : List (DmaSem sig), Done (F := F) c l = bigSepM (l : Multiset (Fin 58)) (fun i => (semVal (dcell c i) 0 : sProp (MT nD τ sig Unit (Elt F) ℕ UU ℕ))) := fun l => by
    induction l with
    | nil => rfl
    | cons i l ih => rw [Done_cons, ih, chain_cons]
  rw [h, ← univ_list _ nodupDone allDone]
  exact .rfl

end Cert.KernelIdeal.Pf
end
-- ==== Proof.KernelIdeal.Run.lean ====
/-
The launch, and what every run of the kernel ends with.
-/
module

public import proofs.«01_k».proof.Proof.KernelIdeal.Deal
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

section Run

variable (𝒮 : Spec F) (m : (ℓ : Loc nD τ sig) → Buf (Elt F) ℓ) (ρ : Dev nD → PrngReg) (hF : 𝒮.ok → Facts 𝒮 m)

/-! ## The launch state, dealt -/

def u₀ : UU := (initOf (Pipeline.cells cfgs cellOf_inj) (Pipeline.launchToks cfgs cellOf_inj), initOf cells toks₀)

/-- What each device is dealt: its cells' states, its positions, the tokens of its cells' duties. -/
def G (c : Dev nD) : sProp (MT nD τ sig Unit (Elt F) ℕ UU ℕ) :=
  iprop((bigSep Finset.univ fun k : CellIx => roundState ER (rd 𝒮 m) (kcell (c, k)) 0)
    ∗ (bigSep Finset.univ fun k : CellIx => iprop(pos (F := F) c k ∗ reached ER (kcell (c, k)) 0)) ∗ bigSep Finset.univ fun j : DutyIx => dtok (F := F) c j)

/-- The cells' invariants and open rounds, known to all. -/
def known (K : Dev nD × CellIx → ℕ) : sProp (MT nD τ sig Unit (Elt F) ℕ UU ℕ) :=
  iprop((bigSep Finset.univ fun ck : Dev nD × CellIx => cellInv ER (rd 𝒮 m) (K ck) (kcell ck))
    ∗ bigSep Finset.univ fun ck : Dev nD × CellIx => reached ER (kcell ck) 0)
instance known_persistent (K : Dev nD × CellIx → ℕ) : BI.Persistent (known 𝒮 m K) := by unfold known; infer_instance

/-- What a device keeps: its positions and the tokens of the duties it discharges. -/
def kept (c : Dev nD) : sProp (MT nD τ sig Unit (Elt F) ℕ UU ℕ) :=
  iprop((bigSep Finset.univ (pos (F := F) c)) ∗ bigSep Finset.univ fun j : DutyIx => dtok (F := F) (payee j c) j)
def G' (c : Dev nD) : sProp (MT nD τ sig Unit (Elt F) ℕ UU ℕ) := iprop(∃ K, known 𝒮 m K ∗ kept c)

theorem fund : BI.own (ER (initOf cells toks₀)) ⊢ (|==> bigSep Finset.univ (G 𝒮 m) : sProp (MT nD τ sig Unit (Elt F) ℕ UU ℕ)) := by
  have hc (Φ : GSem nD τ sig → sProp (MT nD τ sig Unit (Elt F) ℕ UU ℕ)) :
      bigSep cells Φ = bigSep Finset.univ fun c : Dev nD => bigSep Finset.univ fun k : CellIx => Φ (kcell (c, k)) := by
    unfold cells; rw [bigSep_map, bigSep_univ_prod]; rfl
  have ht : bigSep toks₀ (fun x => (dutyTok ER x.1 x.2.1 x.2.2 : sProp (MT nD τ sig Unit (Elt F) ℕ UU ℕ)))
      = bigSep Finset.univ fun c : Dev nD => bigSep Finset.univ fun j : DutyIx => dtok c j := by
    unfold toks₀; rw [bigSep_map, bigSep_univ_prod]; rfl
  iintro HX
  imod (Rounds.fund ER (rd 𝒮 m) cells toks₀) $$ HX with ⟨Hs, Hr, Hp, Ht⟩
  imodintro
  ihave Hs := (Entails.of_eq (hc fun g => roundState ER (rd 𝒮 m) g 0)) $$ Hs
  ihave Hp := (Entails.of_eq (hc fun g => atPos ER g 0 ∅ 0)) $$ Hp
  ihave Hr := (Entails.of_eq (hc fun g => reached ER g 0)) $$ Hr
  ihave Ht := (Entails.of_eq ht) $$ Ht
  unfold G; simp only [bigSep_sep']
  isplitl [Hs]; · iexact Hs
  isplitl [Hp Hr]
  · isplitl [Hp] <;> iassumption
  iexact Ht

theorem ownSemFacts : Pipeline.OwnSemFacts cfg0.spec osem := by decide +kernel

theorem unscopedSems0_eq (c : Dev nD) : (unscopedSems0 c : sProp (MT nD τ sig Unit (Elt F) ℕ UU ℕ)) = semVal (bcell c) 0 := by
  unfold unscopedSems0; rw [bigSep_eq_bigSepL_of_eq [SemLoc.reg barS] (by decide) (by decide)]; rfl

/-- Opening a device's cells. -/
theorem open_cells (c : Dev nD) :
    iprop(Pipeline.ownSems0 (Ix := Unit) (Name := ℕ) (U := UU) (Lvl := ℕ) (Val := Elt F) (τ := τ) osem c ∗ unscopedSems0 c ∗ G 𝒮 m c)
      ⊢ |={Set.univ}=> iprop((bigSep Finset.univ fun k : CellIx => iprop(∃ κ : ℕ, cellInv ER (rd 𝒮 m) κ (kcell (c, k))))
          ∗ (bigSep Finset.univ fun k : CellIx => iprop(pos (F := F) c k ∗ reached ER (kcell (c, k)) 0)) ∗ bigSep Finset.univ fun j : DutyIx => dtok (F := F) c j) := by
  unfold G
  iintro ⟨Ho, Hu, Hs, Hp, Ht⟩
  imod (show iprop((Pipeline.ownSems0 (Ix := Unit) (Name := ℕ) (U := UU) (Lvl := ℕ) (Val := Elt F) (τ := τ) osem c ∗ unscopedSems0 c)
        ∗ bigSep Finset.univ fun k : CellIx => roundState ER (rd 𝒮 m) (kcell (c, k)) 0)
      ⊢ (|={Set.univ}=> bigSep Finset.univ fun k : CellIx => iprop(∃ κ : ℕ, cellInv ER (rd 𝒮 m) κ (kcell (c, k))) : sProp (MT nD τ sig Unit (Elt F) ℕ UU ℕ)) from by
    refine (sep_mono_left (show _ ⊢ bigSep Finset.univ fun k : CellIx => (semVal (kcell (c, k)) 0 : sProp (MT nD τ sig Unit (Elt F) ℕ UU ℕ)) from ?_)).trans ?_
    · rw [unscopedSems0_eq, univ_option]
      unfold Pipeline.ownSems0
      iintro ⟨Ho, Hu⟩
      isplitl [Hu]; · iexact Hu
      iexact Ho
    · rw [← bigSep_sep']
      exact (bigSep_mono fun k _ => (Rounds.body_intro ER (rd 𝒮 m) (kcell (c, k))).trans inv_alloc).trans (bigSep_fupd _ _)) $$ [Ho Hu Hs] with Hi
  · isplitl [Ho Hu]
    · isplitl [Ho] <;> iassumption
    iexact Hs
  imodintro
  isplitl [Hi]; · iexact Hi
  isplitl [Hp]; · iexact Hp
  iexact Ht

/-- A fact known to all joins every device's share. -/
theorem share_known {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun k : CellIx => iprop(∃ κ : ℕ, cellInv ER (rd 𝒮 m) κ (kcell (c, k))))
          ∗ (bigSep Finset.univ fun k : CellIx => iprop(pos (F := F) c k ∗ reached ER (kcell (c, k)) 0)) ∗ bigSep Finset.univ fun j : DutyIx => dtok (F := F) c j))
      ⊢ bigSep Finset.univ (G' 𝒮 m) := by
  rw [bigSep_sep', bigSep_sep', ← bigSep_univ_prod (fun ck : Dev nD × CellIx => iprop(∃ κ : ℕ, cellInv ER (rd 𝒮 m) κ (kcell ck))),
    bigSep_congr (s := Finset.univ) (fun (c : Dev nD) _ => bigSep_sep' Finset.univ (pos (F := F) c) (fun k => reached ER (kcell (c, k)) 0)),
    bigSep_sep', ← bigSep_univ_prod (fun ck : Dev nD × CellIx => (reached ER (kcell ck) 0 : sProp (MT nD τ sig Unit (Elt F) ℕ UU ℕ))), deal]
  iintro ⟨Hi, ⟨Hp, #Hr⟩, Ht⟩
  ihave HK := (BI.bigSep_exists_pi Finset.univ (fun (ck : Dev nD × CellIx) (κ : ℕ) => (cellInv ER (rd 𝒮 m) κ (kcell ck) : sProp (MT nD τ sig Unit (Elt F) ℕ UU ℕ)))) $$ Hi
  icases HK with ⟨%K, #Hi⟩
  iapply (share_known (R := known 𝒮 m K) (Φ := kept) fun c _ => show iprop(known 𝒮 m K ∗ kept c) ⊢ G' 𝒮 m c from by
    unfold G'; iintro ⟨HR, Hk⟩; iexists K; isplitl [HR] <;> iassumption)
  isplitr
  · unfold known; isplitl; · iexact Hi
    iexact Hr
  · unfold kept; rw [bigSep_sep']
    isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ G 𝒮 m c))
    ⊢ |={Set.univ}=> bigSep Finset.univ (G' 𝒮 m) :=
  ((bigSep_mono fun c _ => open_cells 𝒮 m c).trans (bigSep_fupd _ _)).trans (BI.fupd_mono (regroup 𝒮 m))

/-! ## Before and after the body -/

/-- What a device enters with, its scratch buffers apart; -/
def Ent (c : Dev nD) : sProp (MT nD τ sig Unit (Elt F) ℕ UU ℕ) :=
  iprop((∃ K, records 𝒮 m K) ∗ Start c ∗ Args m c ∗ own c main_v1 allT)
def Φ₀ (c : Dev nD) : sProp (MT nD τ sig Unit (Elt F) ℕ UU ℕ) := iprop(Ent 𝒮 m c ∗ Bufs c)
/-- and leaves with. -/
def Ext (c : Dev nD) : sProp (MT nD τ sig Unit (Elt F) ℕ UU ℕ) :=
  iprop(Args m c ∗ reg 𝒮.ok c main_v1 allT fullShare (𝒮.O c) ∗ semVal (bcell c) 0)
def Φ₁ (c : Dev nD) : sProp (MT nD τ sig Unit (Elt F) ℕ UU ℕ) := iprop(Ext 𝒮 m c ∗ Bufs c ∗ Done c (wS 7 :: dn33))

def dats (_ : Fin 1) (c : Dev nD) : Dat τ (Elt F) Unit ℕ UU ℕ cfg0 c where
  A w := Fin.elim0 w
  after w _ := Fin.elim0 w
  Φ t := match t with
    | ⟨0, _⟩ => Φ₀ 𝒮 m c
    | ⟨_ + 1, _⟩ => Φ₁ 𝒮 m c
  q _ := fullShare
  owed t := match t with
    | ⟨0, _⟩ => O₀ c
    | ⟨_ + 1, _⟩ => 0

theorem bigSep_none {M : Type} [URA M] (Φ : Fin 0 → sProp M) : bigSep Finset.univ Φ = (BI.emp : sProp M) :=
  bigSep_univ_eq_bigSepL [] (by decide) (by decide) Φ

include hF in
set_option maxRecDepth 8000 in
theorem body_obligation (c : Dev nD) : BodyObligation (dats 𝒮 m 0 c) (defs₀ (F := F)) 𝒱₀ () Set.univ := fun t => by
  obtain rfl := fin_N0 t
  rw [bigSep_none, bigSep_none]
  rw [show (dats 𝒮 m 0 c).Φ t0_0.castSucc = Φ₀ 𝒮 m c from rfl, show (dats 𝒮 m 0 c).Φ t0_0.succ = Φ₁ 𝒮 m c from rfl]
  unfold Dat.owesAt Pipeline.owesWithin
  rw [show (dats 𝒮 m 0 c).owed t0_0.castSucc = O₀ c from rfl, show (dats 𝒮 m 0 c).owed t0_0.succ = Orem c [] from rfl]
  unfold Φ₀ Ent
  iintro ⟨⟨⟨⟨%K, #HR⟩, HS, HA, Hv⟩, HB⟩, ⟨%W, -, HO⟩, -⟩
  iapply (body_walk (K := K) hF c) $$ HR HS [HO] HA Hv HB
  · iexists W; iexact HO
  unfold Fin1 Φ₁ Ext Ow
  iintro ⟨HA, Hv, HB, HD, Hz, %W', HO⟩
  isplitl [HA Hv HB HD Hz]
  · isplitl [HA Hv Hz]
    · isplitl [HA]; · iexact HA
      isplitl [Hv] <;> iassumption
    isplitl [HB] <;> iassumption
  isplitl [HO]
  · iexists W'; isplitr; · ipureintro; exact fun _ _ => Or.inl trivial
    iexact HO
  iempintro

theorem own_all (c : Dev nD) (b : Ref sig .tc) : own (F := F) c b allT = iprop(∃ f : Buf (Elt F) ((c : Thread nD τ).loc b), ((c : Thread nD τ).loc b) ↦{fullShare} f) := by
  unfold own; rw [tset_all]

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' 𝒮 m c)
      ⊢ |={Set.univ}=> iprop(Ent 𝒮 m c ∗ emp) := by
  rw [Pipeline.unscopedRestP_none, unscopedRest0_eq]
  unfold G' kept known Ent records Args
  iintro ⟨⟨H0, H1, H2, H3, H4, H5, H6, Hv⟩, Hl, Hc, -, ⟨%K, ⟨Hi, Hr⟩, Hp, Ht⟩⟩
  imodintro
  isplitl
  · isplitl [Hi Hr Hl]
    · iexists K
      isplitl [Hi]; · iexact Hi
      isplitl [Hr] <;> iassumption
    isplitl [Hc Hp Ht]
    · iapply (start_intro c)
      isplitl [Hp]; · iexact Hp
      isplitl [Ht] <;> iassumption
    isplitl [H0 H1 H2 H3 H4 H5 H6]
    · isplitl [H0]; · iexact H0
      isplitl [H1]; · iexact H1
      isplitl [H2]; · iexact H2
      isplitl [H3]; · iexact H3
      isplitl [H4]; · iexact H4
      isplitl [H5] <;> iassumption
    rw [own_all]; iexists _; iexact Hv
  · iempintro

theorem scoped_bufs (c : Dev nD) : (Pipeline.scopedRest cfg0.spec c : sProp (MT nD τ sig Unit (Elt F) ℕ UU ℕ)) = Bufs c := by
  rw [scopedRest0_eq]; unfold Bufs; simp only [own_all]

theorem pass_in (c : Dev nD) :
    iprop(Ent 𝒮 m c ∗ Pipeline.prefHeld Pipeline.Prefetch.none c (fun _ => fullShare.right) (fun k => k.elim0) ∗ Pipeline.scopedRest cfg0.spec c)
      ⊢ (dats 𝒮 m 0 c).Φ 0 := by
  rw [show (dats 𝒮 m 0 c).Φ 0 = Φ₀ 𝒮 m c from rfl, scoped_bufs]
  unfold Φ₀
  iintro ⟨He, -, HB⟩
  isplitl [He] <;> iassumption

theorem pass_out (c : Dev nD) :
    (dats 𝒮 m 0 c).Φ (Fin.last cfg0.N) ⊢ iprop(Ext 𝒮 m c ∗ Pipeline.ownSems0 osem c ∗ Pipeline.scopedRest cfg0.spec c) := by
  rw [show (dats 𝒮 m 0 c).Φ (Fin.last cfg0.N) = Φ₁ 𝒮 m c from rfl, scoped_bufs]
  unfold Φ₁
  iintro ⟨He, HB, HD⟩
  isplitl [He]; · iexact He
  isplitl [HD]
  · iapply (done_ownSems c); iexact HD
  iexact HB

/-- What device `c`'s memory holds at the end. -/
def Post (c : Dev nD) (s : MemSt nD τ sig (Elt F)) : Prop :=
  (∀ b ∈ [main_arg0, main_arg1, main_arg2, main_arg3, main_arg4, main_arg5, main_arg6], s.mem ((c : Thread nD τ).loc b) = m ((c : Thread nD τ).loc b))
  ∧ (𝒮.ok → s.mem ((c : Thread nD τ).loc main_v1) = 𝒮.O c)

abbrev argRefs : Finset (Ref sig .tc) := [main_arg0, main_arg1, main_arg2, main_arg3, main_arg4, main_arg5, main_arg6].toFinset

theorem read_end (c : Dev nD) (s' : Phys nD τ sig (Elt F)) :
    iprop(Ext 𝒮 m c ∗ emp ∗ SI s') ⊢ |={Set.univ}=> iprop(⌜Post 𝒮 m c s'.mem ∧ ∀ sm : SemLoc sig, sm.isScoped .tc = false → s'.mem.sem ((c.tc : Thread nD τ), sm) = 0⌝ ∗ SI s') := by
  unfold Ext Args reg
  rw [tset_all]
  iintro ⟨⟨⟨H0, H1, H2, H3, H4, H5, H6⟩, ⟨%f, %hf, Hv⟩, Hz⟩, -, HS⟩
  imod (Pipeline.unscopedSems0_read (X := semVal (bcell c) 0) (c := c) (by rw [unscopedSems0_eq]; exact fupd_intro) s') $$ [Hz HS] with ⟨%hz, HS⟩
  · isplitl [Hz] <;> iassumption
  ihave HA := (show iprop(argPts m main_arg0 c ∗ argPts m main_arg1 c ∗ argPts m main_arg2 c ∗ argPts m main_arg3 c ∗ argPts m main_arg4 c ∗ argPts m main_arg5 c ∗ argPts m main_arg6 c)
      ⊢ bigSep argRefs fun b => argPts m b c from Entails.of_eq (bigSep_eq_bigSepL_of_eq (S := argRefs) [main_arg0, main_arg1, main_arg2, main_arg3, main_arg4, main_arg5, main_arg6] rfl (by decide) (fun b => argPts m b c)).symm) $$ [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  ihave H := (pointsTo_read_all argRefs (fun b => (c : Thread nD τ).loc b) (fun b => arg m b c) s') $$ [HA HS]
  · isplitl [HA] <;> iassumption
  icases H with ⟨%ha, HS⟩
  ihave H := (pointsTo_read_all {()} (fun _ => (c : Thread nD τ).loc main_v1) (fun _ => f) s') $$ [Hv HS]
  · rw [bigSep_singleton]; isplitl [Hv] <;> iassumption
  icases H with ⟨%hv, HS⟩
  imodintro
  isplitr
  · ipureintro
    exact ⟨⟨fun b hb => ha b (List.mem_toFinset.mpr hb), fun hok => (hv _ (Finset.mem_singleton_self _)).trans (funext fun i => hf hok i rfl)⟩, hz⟩
  iexact HS

include hF in
/-- Every run ends with every argument as it was, every semaphore at zero, and each device's rows of the result
    as the stages say, where they say. -/
theorem run_main : θ_run defs (onTc (τ := τ) (main (F := F))) (s₀ m ρ) (fun r => (∀ c : Dev nD, Post 𝒮 m c r.2) ∧ r.2.sem = fun _ => 0) := by
  have hm : ∀ c : Dev nD, main (F := F) c = .op (.customCall (Pipeline.entry (0 : Fin 1)) ()) fun _ => .ret ⟨⟩ := fun _ => rfl
  exact Pipeline.θ_run_region_owing_glob_pf (fun p => (cfgs p).toPCfg) (fun p => (cfgs p).toPCfg_adm) (dats 𝒮 m) () cellOf_inj (0 : Fin 1)
    winFacts0.to₀ ownSemFacts (Pipeline.PreFacts.none _) EP defs₀ 𝒱₀ m ρ main
    (hmain := hm)
    (hbody := fun c => (body_obligation 𝒮 m hF c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats 𝒮 m) () 0 c fun w _ _ => w.elim0)
    (G := G 𝒮 m) (G' := G' 𝒮 m) (u₀ := u₀)
    (hu₀ := by
      unfold u₀
      iintro Hu
      ihave H := (ownU_pair _ _) $$ Hu
      icases H with ⟨HP, HX⟩
      imod (fund 𝒮 m) $$ HX with HG
      imodintro
      isplitl [HP] <;> iassumption)
    (hglob := glob 𝒮 m)
    (hA := fun _ w => w.elim0) (hpf := fun _ k => k.elim0)
    (X := Ent 𝒮 m) (Y := Ext 𝒮 m) (Z := fun _ => iprop(emp))
    (hX := enter 𝒮 m ρ) (hin := pass_in 𝒮 m) (hout := pass_out 𝒮 m)
    (QY := fun c s => Post 𝒮 m c s ∧ ∀ sm : SemLoc sig, sm.isScoped .tc = false → s.sem ((c.tc : Thread nD τ), sm) = 0)
    (hY := read_end 𝒮 m)
    (hQ := fun _ h hs => ⟨fun c => (h c).2.2.1, sem_eq_zero hs fun c => (h c).2.2.2⟩)

end Run

end Cert.KernelIdeal.Pf
end
-- ==== Proof.KernelIdeal.Quiet.lean ====
/-
The frame: from any memory every run ends, every argument is as it was, every semaphore is at zero.
-/
module

public import proofs.«01_k».proof.Proof.KernelIdeal.Run
public import Idealize.ShloMosaic.Lib.StableHlo.RunHlo

@[expose] public section

noncomputable section

namespace Cert.KernelIdeal.Pf

open Cert.KernelIdeal Cert.KernelIdeal.Gen
open Idealize.ShloMosaic
open Idealize.ShloMosaic.TcCoe
open Idealize.SL.Sem

variable {F : FTy → Type} [FloatOps F]

/-- A value to stand for any. -/
def zero : Elt F .bf16 := FloatOps.ofBits (F := F) .bf16 0

/-- The stages left unsaid. -/
def unsaid : Spec F where
  ok := False
  X _ _ := zero
  H _ _ _ := zero
  Z _ _ _ := zero
  Y _ _ _ := zero
  O _ _ := zero

theorem args_of_post {𝒮 : Spec F} {m : (ℓ : Loc nD τ sig) → Buf (Elt F) ℓ} {c : Dev nD} {s : MemSt nD τ sig (Elt F)} (h : Post 𝒮 m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨h.1 _ (by decide), h.1 _ (by decide), h.1 _ (by decide), h.1 _ (by decide), h.1 _ (by decide), h.1 _ (by decide), h.1 _ (by decide)⟩

theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_mono (run_main unsaid m g (fun h => h.elim)) fun _ h => ⟨fun c => args_of_post (h.1 c), h.2⟩

end Cert.KernelIdeal.Pf
end
-- ==== Proof.Frames.lean ====
/-
The frames. The kernel over bit patterns and the idealized one are one program text, proved once for any
float values; so one proof serves both.
-/
module

public import proofs.«01_k».proof.Proof.KernelIdeal.Quiet
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Proof

open Idealize.ShloMosaic

theorem frame_ideal : Cert.quiescent_KernelIdeal := fun m g _ => Cert.KernelIdeal.Pf.frame m g

theorem frame_bits : Cert.quiescent_Kernel := fun m g _ => Cert.KernelIdeal.Pf.frame (F := Bits) m g

theorem frame_ref : Cert.quiescent_ReferenceIdeal := fun m g _ =>
  θ_run_mono (Cert.ReferenceIdeal.Value.run m g) fun r h => ⟨fun c => (h c).2, sem_eq_zero_of_no_sems (by decide) r.2⟩

end Cert.Proof
end
-- ==== Proof.KernelIdeal.Value.lean ====
/-
The stages of the kernel in exact arithmetic, and what its stores compute.
-/
module

public import proofs.«01_k».proof.Proof.KernelIdeal.Offs
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.KernelIdeal.Pf

open Cert.KernelIdeal Cert.KernelIdeal.Gen
open Idealize.ShloMosaic
open Idealize.ShloMosaic.TcCoe
open Idealize.ShloMosaic.ValueIdx
open scoped BigOperators

/-- A matrix of exact numbers. -/
abbrev Mat (r c : ℕ) : Type := (⟨2, ![r, c]⟩ : Shape).Idx → EReal

/-- The hidden layer: the product with the weights, cut at zero. -/
def hid {n : ℕ} (X : Mat 256 512) (W : Mat 512 n) : Mat 256 n := fun i => max (∑ k : Fin 512, X (ix2 (i 0) k) * W (ix2 k (i 1))) 0
/-- The product with the second weights. -/
def back {n : ℕ} (H : Mat 256 n) (W : Mat n 512) : Mat 256 512 := fun i => ∑ k : Fin n, H (ix2 (i 0) k) * W (ix2 k (i 1))

section Stages
variable (m : (ℓ : Loc nD τ sig) → Buf (Elt Ideal) ℓ)

/-- A device's first and second weights of each layer. -/
def wi (l : Fin 3) (c : Dev nD) : Mat 512 1024 := (![arg m main_arg1 c, arg m main_arg3 c, arg m main_arg5 c] : Fin 3 → Mat 512 1024) l
def wo (l : Fin 3) (c : Dev nD) : Mat 1024 512 := (![arg m main_arg2 c, arg m main_arg4 c, arg m main_arg6 c] : Fin 3 → Mat 1024 512) l

/-- A device's share of a layer, and the sum of the four. -/
def zz1 (l : Fin 3) (X : Mat 256 512) (c : Dev nD) : Mat 256 512 := back (hid X (wi m l c)) (wo m l c)
def tot (l : Fin 3) (X : Mat 256 512) : Mat 256 512 := fun i => ∑ d : Dev nD, zz1 m l X d i

/-- The rows of all devices, one block under the other. -/
def x0 : Mat 256 512 := fun i => arg0 m (⟨(i 0).val / 64, by have := (i 0).isLt; change _ < 256 at this; show _ < 4; omega⟩ : Dev nD) (ix2 (⟨(i 0).val % 64, Nat.mod_lt _ (by decide)⟩ : Fin 64) (i 1))
def xs (l : Fin 3) : Mat 256 512 := (![x0 m, tot m 0 (x0 m), tot m 1 (tot m 0 (x0 m))] : Fin 3 → Mat 256 512) l
/-- The kernel's result, all rows. -/
def final : Mat 256 512 := tot m 2 (xs m 2)

/-- The first partner of an exchange, by the layer and the place. -/
def par (l : Fin 3) (i : (⟨2, ![256, 512]⟩ : Shape).Idx) (c : Dev nD) : Dev nD :=
  if l = 2 then (if (i 1).val < 256 then bD c else aD c) else (if (i 0).val < 128 then bD c else aD c)

/-- The stages in exact arithmetic. -/
def exact_ : Spec Ideal where
  ok := True
  X l := xs m l
  H l c := hid (xs m l) (wi m l c)
  Z l c := zz1 m l (xs m l) c
  Y l c := fun i => zz1 m l (xs m l) c i + zz1 m l (xs m l) (par l i c) i
  O c := fun i => final m (ix2 (⟨c.val * 64 + (i 0).val, by have := (i 0).isLt; change _ < 64 at this; have := c.isLt; change _ < 4 at this; omega⟩ : Fin 256) (i 1))

end Stages

/-! ## Reading a store's value at a place -/

theorem zero_f32 : (FloatOps.ofBits (F := Ideal) .f32 0x00000000#32 : EReal) = 0 := by
  show Ideal.ofBits .f32 0x00000000#32 = 0
  simp [Ideal.ofBits, Ideal.ieee]

/-- A product onto zeros. -/
theorem prod_at {M K N : ℕ} {φ₁ φ₂ : FTy} (X : FVec Ideal ⟨2, ![M, K]⟩ φ₁) (W : FVec Ideal ⟨2, ![K, N]⟩ φ₂) (r : Fin M) (j : Fin N) :
    matmul (DotDims.plain M K N) none X W (constant ⟨2, ![M, N]⟩ .f32 0x00000000#32) (ix2 r j) = ∑ k : Fin K, X (ix2 r k) * W (ix2 k j) := by
  show FloatOps.matmul _ none X W _ (ix2 r j) = _
  rw [Ideal.matmul_plain_apply]
  exact (congrArg (· + _) zero_f32).trans (zero_add _)

/-- Where a rectangle's index lands. -/
theorem emb2 {R C n w : ℕ} (off : Fin 2 → ℕ) (inb) (r : Fin n) (j : Fin w) (r' : Fin R) (j' : Fin C) (hr : r'.val = off 0 + r.val) (hj : j'.val = off 1 + j.val) :
    (Rect.unit (s := ⟨2, ![R, C]⟩) off ![n, w] inb).emb (ix2 r j) = ix2 r' j' := by
  funext a; apply Fin.ext
  match a with
  | ⟨0, _⟩ => show off 0 + 1 * r.val = r'.val; rw [hr, Nat.one_mul]
  | ⟨1, _⟩ => show off 1 + 1 * j.val = j'.val; rw [hj, Nat.one_mul]
theorem emb3 {S R C n w : ℕ} (off : Fin 3 → ℕ) (inb) (r : Fin n) (j : Fin w) (l' : Fin S) (r' : Fin R) (j' : Fin C) (hl : l'.val = off 0) (hr : r'.val = off 1 + r.val) (hj : j'.val = off 2 + j.val) :
    (Rect.unit (s := ⟨3, ![S, R, C]⟩) off ![1, n, w] inb).emb (ix3 0 r j) = ix3 l' r' j' := by
  funext a; apply Fin.ext
  match a with
  | ⟨0, _⟩ => show off 0 + 1 * 0 = l'.val; rw [hl, Nat.mul_zero, Nat.add_zero]
  | ⟨1, _⟩ => show off 1 + 1 * r.val = r'.val; rw [hr, Nat.one_mul]
  | ⟨2, _⟩ => show off 2 + 1 * j.val = j'.val; rw [hj, Nat.one_mul]

/-- A place of a rectangle inside an array. -/
theorem inside {R C n w : ℕ} (off : Fin 2 → ℕ) (inb : ∀ a, off a + ![n, w] a ≤ ![R, C] a) (r : Fin n) (j : Fin w) : off 0 + r.val < R ∧ off 1 + j.val < C :=
  ⟨lt_of_lt_of_le (Nat.add_lt_add_left r.isLt _) (inb 0), lt_of_lt_of_le (Nat.add_lt_add_left j.isLt _) (inb 1)⟩

section Reads
variable (m : (ℓ : Loc nD τ sig) → Buf (Elt Ideal) ℓ)

/-- A layer's weights as they are loaded. -/
theorem w1_at (l : Fin 3) (c : Dev nD) (inb) (k : Fin 512) (j : Fin 1024) :
    at_ (F := Ideal) (e := .f32) (Rect.unit (s := S3x512x1024) ![l.val, 0, 0] ![1, 512, 1024] inb) (w1 m c) (ix3 0 k j) = wi m l c (ix2 k j) := by
  show w1 m c _ = _
  rw [emb3 (S := 3) (R := 512) (C := 1024) _ inb k j l k j rfl (Nat.zero_add _).symm (Nat.zero_add _).symm]
  fin_cases l <;> rfl
theorem w2_at (l : Fin 3) (c : Dev nD) (inb) (k : Fin 1024) (j : Fin 512) :
    at_ (F := Ideal) (e := .f32) (Rect.unit (s := S3x1024x512) ![l.val, 0, 0] ![1, 1024, 512] inb) (w2 m c) (ix3 0 k j) = wo m l c (ix2 k j) := by
  show w2 m c _ = _
  rw [emb3 (S := 3) (R := 1024) (C := 512) _ inb k j l k j rfl (Nat.zero_add _).symm (Nat.zero_add _).symm]
  fin_cases l <;> rfl
end Reads

/-- A product of a rectangle of rows with weights is the same rectangle of the hidden layer. -/
theorem hid_at {nn : ℕ} {off off' : Fin 2 → ℕ} (h0 : off' 0 = off 0) (h1 : off 1 = 0) (h1' : off' 1 = 0) (inb inb') (X : Mat 256 512) (W : Mat 512 1024)
    (A : Mat nn 1024) (hA : ∀ r j, A (ix2 r j) = max (∑ k : Fin 512, X ((Rect.unit (s := S256x512) off ![nn, 512] inb).emb (ix2 r k)) * W (ix2 k j)) 0) :
    A = at_ (F := Ideal) (e := .bf16) (Rect.unit (s := S256x1024) off' ![nn, 1024] inb') (hid X W) := by
  funext i
  obtain ⟨r, j, rfl⟩ : ∃ (r : Fin nn) (j : Fin 1024), i = ix2 r j := ⟨i 0, i 1, eq_ix2 i⟩
  have hr := inside (R := 256) (C := 1024) off' inb' r j
  rw [hA]
  show _ = hid X W _
  rw [emb2 (R := 256) (C := 1024) off' inb' r j ⟨_, hr.1⟩ j rfl (by rw [h1', Nat.zero_add])]
  show max _ _ = max _ _
  refine congrArg (max · 0) (Finset.sum_congr rfl fun k _ => ?_)
  rw [emb2 (R := 256) (C := 512) off inb r k ⟨_, hr.1⟩ k (by rw [← h0]) (by rw [h1, Nat.zero_add])]

/-- The same of the second product, whose columns may be a part. -/
theorem back_at {nn w : ℕ} {off off' : Fin 2 → ℕ} (h0 : off' 0 = off 0) (h1 : off 1 = 0) (inb inb') (H : Mat 256 1024) (W : Mat 1024 512)
    (A : Mat nn w) (hA : ∀ r (j : Fin w) (j' : Fin 512), j'.val = off' 1 + j.val → A (ix2 r j) = ∑ k : Fin 1024, H ((Rect.unit (s := S256x1024) off ![nn, 1024] inb).emb (ix2 r k)) * W (ix2 k j')) :
    A = at_ (F := Ideal) (e := .bf16) (Rect.unit (s := S256x512) off' ![nn, w] inb') (back H W) := by
  funext i
  obtain ⟨r, j, rfl⟩ : ∃ (r : Fin nn) (j : Fin w), i = ix2 r j := ⟨i 0, i 1, eq_ix2 i⟩
  have hr := inside (R := 256) (C := 512) off' inb' r j
  rw [hA r j ⟨_, hr.2⟩ rfl]
  show _ = back H W _
  rw [emb2 (R := 256) (C := 512) off' inb' r j ⟨_, hr.1⟩ ⟨_, hr.2⟩ rfl rfl]
  refine Finset.sum_congr rfl fun k _ => ?_
  rw [emb2 (R := 256) (C := 1024) off inb r k ⟨_, hr.1⟩ k (by rw [← h0]) (by rw [h1, Nat.zero_add])]

/-- A sum of two rectangles. -/
theorem sums_of {nn w : ℕ} {off : Fin 2 → ℕ} {off3 : Fin 3 → ℕ} {A B C : Mat 256 512} {pay} {h : (⟨3, ![1, nn, w]⟩ : Shape).ShapeCasts ⟨2, ![nn, w]⟩} {h' : (⟨2, ![nn, w]⟩ : Shape).ShapeCasts ⟨2, ![nn, w]⟩}
    (hp : pay = fun v u => shapeCast ⟨2, ![nn, w]⟩ (addf (F := Ideal) (φ := .bf16) v (shapeCast ⟨2, ![nn, w]⟩ u h)) h')
    (h1 : off3 1 = off 0) (h2 : off3 2 = off 1)
    (hC : ∀ (r : Fin 256) (j : Fin 512), off 0 ≤ r.val ∧ r.val < off 0 + nn → off 1 ≤ j.val ∧ j.val < off 1 + w → A (ix2 r j) + B (ix2 r j) = C (ix2 r j)) :
    sums (F := Ideal) (nn := nn) (w := w) pay off off3 A B C := by
  subst hp
  intro inb inb3
  funext i
  obtain ⟨r, j, rfl⟩ : ∃ (r : Fin nn) (j : Fin w), i = ix2 r j := ⟨i 0, i 1, eq_ix2 i⟩
  have hr := inside (R := 256) (C := 512) off inb r j
  have hl : off3 0 < 4 := by have := inb3 0; change off3 0 + 1 ≤ 4 at this; omega
  dsimp only
  rw [shapeCast_self, addf_apply, shapeCast_1ab_ab_apply]
  show A _ + B (ix2 _ _) = C _
  rw [emb2 (R := 256) (C := 512) off inb r j ⟨_, hr.1⟩ ⟨_, hr.2⟩ rfl rfl,
    emb3 (S := 4) (R := 256) (C := 512) off3 inb3 r j ⟨_, hl⟩ ⟨_, hr.1⟩ ⟨_, hr.2⟩ rfl (by rw [h1]) (by rw [h2])]
  exact hC _ _ ⟨Nat.le_add_right _ _, Nat.add_lt_add_left r.isLt _⟩ ⟨Nat.le_add_right _ _, Nat.add_lt_add_left j.isLt _⟩

end Cert.KernelIdeal.Pf
end
-- ==== Proof.KernelIdeal.Value2.lean ====
/-
Every store of the kernel, in exact arithmetic, stores what its stage says.
-/
module

public import proofs.«01_k».proof.Proof.KernelIdeal.Value

@[expose] public section

noncomputable section

namespace Cert.KernelIdeal.Pf

open Cert.KernelIdeal Cert.KernelIdeal.Gen
open Idealize.ShloMosaic
open Idealize.ShloMosaic.TcCoe
open Idealize.ShloMosaic.ValueIdx
open scoped BigOperators

section Shapes
variable (m : (ℓ : Loc nD τ sig) → Buf (Elt Ideal) ℓ) (l : Fin 3) (c : Dev nD)

/-- The hidden layer of some rows, in one product. -/
theorem hid_whole {nn : ℕ} {off off' : Fin 2 → ℕ} (h : off' 0 = off 0 ∧ off 1 = 0 ∧ off' 1 = 0) (X : Mat 256 512) {inb inb' inb3 hs b b' hs'} :
    shapeCast ⟨2, ![nn, 1024]⟩ (truncf .bf16 (maximumf (matmul (φ₁ := .bf16) (DotDims.plain nn 512 1024) none
        (at_ (F := Ideal) (e := .bf16) (Rect.unit (s := S256x512) off ![nn, 512] inb) X)
        (truncf (F := Ideal) .bf16 (shapeCast S512x1024 (at_ (F := Ideal) (e := .f32) (Rect.unit (s := S3x512x1024) ![l.val, 0, 0] ![1, 512, 1024] inb3) (w1 m c)) hs : FVec Ideal S512x1024 .f32) b)
        (constant ⟨2, ![nn, 1024]⟩ .f32 0x00000000#32)) (broadcast ⟨2, ![nn, 1024]⟩ (Scalar.ofBits .f32 0x00000000#32))) b') hs'
      = at_ (F := Ideal) (e := .bf16) (Rect.unit (s := S256x1024) off' ![nn, 1024] inb') (hid X (wi m l c)) := by
  refine hid_at h.1 h.2.1 h.2.2 inb inb' X _ _ fun r j => ?_
  rw [shapeCast_self, truncf_apply, maximumf_apply, prod_at]
  refine congrArg₂ max (Finset.sum_congr rfl fun k _ => ?_) zero_f32
  rw [truncf_apply, shapeCast_1ab_ab_apply, w1_at]

/-- The same in two products, each of half the columns. -/
theorem hid_halves {nn : ℕ} {off off₁ off₂ : Fin 2 → ℕ} (h : (off₁ 0 = off 0 ∧ off₂ 0 = off 0) ∧ off₁ 1 = 0 ∧ off₂ 1 = 256 ∧ off 1 = 0) (X : Mat 256 512)
    {inb₁ inb₂ inb' inb3 hs b b' hs' hx hy} :
    shapeCast ⟨2, ![nn, 1024]⟩ (truncf .bf16 (maximumf (addf
        (matmul (φ₁ := .bf16) (DotDims.plain nn 256 1024) none
          (at_ (F := Ideal) (e := .bf16) (Rect.unit (s := S256x512) off₁ ![nn, 256] inb₁) X)
          (extractStridedSlice S256x1024 ![0, 0] (truncf (F := Ideal) .bf16 (shapeCast S512x1024 (at_ (F := Ideal) (e := .f32) (Rect.unit (s := S3x512x1024) ![l.val, 0, 0] ![1, 512, 1024] inb3) (w1 m c)) hs : FVec Ideal S512x1024 .f32) b) hx)
          (constant ⟨2, ![nn, 1024]⟩ .f32 0x00000000#32))
        (matmul (φ₁ := .bf16) (DotDims.plain nn 256 1024) none
          (at_ (F := Ideal) (e := .bf16) (Rect.unit (s := S256x512) off₂ ![nn, 256] inb₂) X)
          (extractStridedSlice S256x1024 ![256, 0] (truncf (F := Ideal) .bf16 (shapeCast S512x1024 (at_ (F := Ideal) (e := .f32) (Rect.unit (s := S3x512x1024) ![l.val, 0, 0] ![1, 512, 1024] inb3) (w1 m c)) hs : FVec Ideal S512x1024 .f32) b) hy)
          (constant ⟨2, ![nn, 1024]⟩ .f32 0x00000000#32))) (broadcast ⟨2, ![nn, 1024]⟩ (Scalar.ofBits .f32 0x00000000#32))) b') hs'
      = at_ (F := Ideal) (e := .bf16) (Rect.unit (s := S256x1024) off ![nn, 1024] inb') (hid X (wi m l c)) := by
  have inb : ∀ a, (![off 0, 0] : Fin 2 → ℕ) a + ![nn, 512] a ≤ S256x512.size a := fun a => match a with
    | ⟨0, _⟩ => inb' 0
    | ⟨1, _⟩ => le_refl 512
  refine hid_at (off := ![off 0, 0]) (off' := off) rfl rfl h.2.2.2 inb inb' X _ _ fun r j => ?_
  have hr := inside (R := 256) (C := 1024) off inb' r j
  rw [shapeCast_self, truncf_apply, maximumf_apply, addf_apply, prod_at, prod_at]
  refine congrArg₂ max ?_ zero_f32
  rw [show (∑ k : Fin 512, X ((Rect.unit (s := S256x512) ![off 0, 0] ![nn, 512] inb).emb (ix2 r k)) * wi m l c (ix2 k j)) = _ from Fin.sum_univ_add (a := 256) (b := 256) _]
  refine congrArg₂ (· + ·) (Finset.sum_congr rfl fun k _ => ?_) (Finset.sum_congr rfl fun k _ => ?_)
  · rw [slice2_axis0_apply 0 _ hx k j (Fin.castAdd 256 k) (Nat.zero_add _).symm, truncf_apply, shapeCast_1ab_ab_apply, w1_at]
    show X _ * _ = _
    rw [emb2 (R := 256) (C := 512) off₁ inb₁ r k ⟨_, hr.1⟩ (Fin.castAdd 256 k) (by rw [h.1.1]) (by rw [h.2.1, Nat.zero_add]; rfl),
      emb2 (R := 256) (C := 512) ![off 0, 0] inb r (Fin.castAdd 256 k) ⟨_, hr.1⟩ (Fin.castAdd 256 k) rfl (Nat.zero_add _).symm]
  · rw [slice2_axis0_apply 256 _ hy k j (Fin.natAdd 256 k) rfl, truncf_apply, shapeCast_1ab_ab_apply, w1_at]
    show X _ * _ = _
    rw [emb2 (R := 256) (C := 512) off₂ inb₂ r k ⟨_, hr.1⟩ (Fin.natAdd 256 k) (by rw [h.1.2]) (by rw [h.2.2.1]; rfl),
      emb2 (R := 256) (C := 512) ![off 0, 0] inb r (Fin.natAdd 256 k) ⟨_, hr.1⟩ (Fin.natAdd 256 k) rfl (Nat.zero_add _).symm]

/-- The second product of some rows. -/
theorem back_whole {nn : ℕ} {off off' : Fin 2 → ℕ} (h : off' 0 = off 0 ∧ off 1 = 0 ∧ off' 1 = 0) (H : Mat 256 1024) {inb inb' inb3 hs b b' hs'} :
    shapeCast ⟨2, ![nn, 512]⟩ (truncf .bf16 (matmul (φ₁ := .bf16) (DotDims.plain nn 1024 512) none
        (at_ (F := Ideal) (e := .bf16) (Rect.unit (s := S256x1024) off ![nn, 1024] inb) H)
        (truncf (F := Ideal) .bf16 (shapeCast S1024x512 (at_ (F := Ideal) (e := .f32) (Rect.unit (s := S3x1024x512) ![l.val, 0, 0] ![1, 1024, 512] inb3) (w2 m c)) hs : FVec Ideal S1024x512 .f32) b)
        (constant ⟨2, ![nn, 512]⟩ .f32 0x00000000#32)) b') hs'
      = at_ (F := Ideal) (e := .bf16) (Rect.unit (s := S256x512) off' ![nn, 512] inb') (back H (wo m l c)) := by
  refine back_at h.1 h.2.1 inb inb' H _ _ fun r j j' hj => ?_
  obtain rfl : j' = j := Fin.ext (by rw [hj, h.2.2, Nat.zero_add])
  rw [shapeCast_self, truncf_apply, prod_at]
  refine Finset.sum_congr rfl fun k _ => ?_
  rw [truncf_apply, shapeCast_1ab_ab_apply, w2_at]

/-- The same of half the columns. -/
theorem back_part {nn o : ℕ} {off off' : Fin 2 → ℕ} (h : off' 0 = off 0 ∧ off 1 = 0 ∧ off' 1 = o) (H : Mat 256 1024) {inb inb' inb3 hs b b' hs' hx} :
    shapeCast ⟨2, ![nn, 256]⟩ (truncf .bf16 (matmul (φ₁ := .bf16) (DotDims.plain nn 1024 256) none
        (at_ (F := Ideal) (e := .bf16) (Rect.unit (s := S256x1024) off ![nn, 1024] inb) H)
        (extractStridedSlice S1024x256 ![0, o] (truncf (F := Ideal) .bf16 (shapeCast S1024x512 (at_ (F := Ideal) (e := .f32) (Rect.unit (s := S3x1024x512) ![l.val, 0, 0] ![1, 1024, 512] inb3) (w2 m c)) hs : FVec Ideal S1024x512 .f32) b) hx)
        (constant ⟨2, ![nn, 256]⟩ .f32 0x00000000#32)) b') hs'
      = at_ (F := Ideal) (e := .bf16) (Rect.unit (s := S256x512) off' ![nn, 256] inb') (back H (wo m l c)) := by
  refine back_at h.1 h.2.1 inb inb' H _ _ fun r j j' hj => ?_
  rw [shapeCast_self, truncf_apply, prod_at]
  refine Finset.sum_congr rfl fun k _ => ?_
  rw [slice2_axis1_apply o _ hx k j j' (by rw [hj, h.2.2]), truncf_apply, shapeCast_1ab_ab_apply, w2_at]

end Shapes

section Sums
variable (m : (ℓ : Loc nD τ sig) → Buf (Elt Ideal) ℓ)

/-- The four shares, from a device and its neighbours. -/
theorem four (f : Dev nD → EReal) (c : Dev nD) : (f c + f (bD c)) + (f (aD c) + f (bD (aD c))) = ∑ d : Dev nD, f d
    ∧ (f c + f (aD c)) + (f (bD c) + f (aD (bD c))) = ∑ d : Dev nD, f d := by
  have hs : ∑ d : Dev nD, f d = f 0 + f 1 + f 2 + f 3 := Fin.sum_univ_four f
  rw [hs]
  fin_cases c
  · exact ⟨show f 0 + f 3 + (f 1 + f 2) = _ by ac_rfl, show f 0 + f 1 + (f 3 + f 2) = _ by ac_rfl⟩
  · exact ⟨show f 1 + f 2 + (f 0 + f 3) = _ by ac_rfl, show f 1 + f 0 + (f 2 + f 3) = _ by ac_rfl⟩
  · exact ⟨show f 2 + f 1 + (f 3 + f 0) = _ by ac_rfl, show f 2 + f 3 + (f 1 + f 0) = _ by ac_rfl⟩
  · exact ⟨show f 3 + f 0 + (f 2 + f 1) = _ by ac_rfl, show f 3 + f 2 + (f 0 + f 1) = _ by ac_rfl⟩

/-- The first sum of a layer. -/
theorem first_sum (l : Fin 3) (c p : Dev nD) (i) (hp : par l i c = p) : (exact_ m).Z l c i + (exact_ m).Z l p i = (exact_ m).Y l c i := by
  subst hp; rfl
/-- The second sum: all four shares. -/
theorem second_sum (l : Fin 3) (c p : Dev nD) (i) (hp : (par l i c = bD c ∧ par l i p = bD p ∧ p = aD c) ∨ (par l i c = aD c ∧ par l i p = aD p ∧ p = bD c)) :
    (exact_ m).Y l c i + (exact_ m).Y l p i = tot m l (xs m l) i := by
  show (zz1 m l (xs m l) c i + zz1 m l (xs m l) (par l i c) i) + (zz1 m l (xs m l) p i + zz1 m l (xs m l) (par l i p) i) = ∑ d : Dev nD, zz1 m l (xs m l) d i
  rcases hp with ⟨h1, h2, rfl⟩ | ⟨h1, h2, rfl⟩ <;> rw [h1, h2]
  · exact (four (fun d => zz1 m l (xs m l) d i) c).1
  · exact (four (fun d => zz1 m l (xs m l) d i) c).2

theorem par_top (l : Fin 3) (hl : l ≠ 2) (r : Fin 256) (j : Fin 512) (h : r.val < 128) (c : Dev nD) : par l (ix2 r j) c = bD c := by
  unfold par; rw [if_neg hl, if_pos (show ((ix2 r j : (⟨2, ![256, 512]⟩ : Shape).Idx) 0).val < 128 from h)]
theorem par_bot (l : Fin 3) (hl : l ≠ 2) (r : Fin 256) (j : Fin 512) (h : 128 ≤ r.val) (c : Dev nD) : par l (ix2 r j) c = aD c := by
  unfold par; rw [if_neg hl, if_neg (show ¬ ((ix2 r j : (⟨2, ![256, 512]⟩ : Shape).Idx) 0).val < 128 from Nat.not_lt.mpr h)]
theorem par_left (r : Fin 256) (j : Fin 512) (h : j.val < 256) (c : Dev nD) : par 2 (ix2 r j) c = bD c := by
  unfold par; rw [if_pos rfl, if_pos (show ((ix2 r j : (⟨2, ![256, 512]⟩ : Shape).Idx) 1).val < 256 from h)]
theorem par_right (r : Fin 256) (j : Fin 512) (h : 256 ≤ j.val) (c : Dev nD) : par 2 (ix2 r j) c = aD c := by
  unfold par; rw [if_pos rfl, if_neg (show ¬ ((ix2 r j : (⟨2, ![256, 512]⟩ : Shape).Idx) 1).val < 256 from Nat.not_lt.mpr h)]
end Sums

end Cert.KernelIdeal.Pf
end
-- ==== Proof.KernelIdeal.Value3.lean ====
/-
In exact arithmetic the stages are met: what each store of the kernel is to store.
-/
module

public import proofs.«01_k».proof.Proof.KernelIdeal.Value2

@[expose] public section

noncomputable section

namespace Cert.KernelIdeal.Pf

open Cert.KernelIdeal Cert.KernelIdeal.Gen
open Idealize.ShloMosaic
open Idealize.ShloMosaic.TcCoe
open Idealize.ShloMosaic.ValueIdx
open scoped BigOperators

section Met
variable (m : (ℓ : Loc nD τ sig) → Buf (Elt Ideal) ℓ)

/-- Offsets with the same row, at the first column. -/
abbrev Same (off off' : Fin 2 → ℕ) : Prop := off' 0 = off 0 ∧ off 1 = 0 ∧ off' 1 = 0

theorem o5_6 : ∀ c, Same (k0_off5 c) (k0_off6 c) := by decide +kernel
theorem o7_8 : ∀ c, Same (k0_off7 c) (k0_off8 c) := by decide +kernel
theorem o9_10 : ∀ c, Same (k0_off9 c) (k0_off10 c) := by decide +kernel
theorem o11_12 : ∀ c, Same (k0_off11 c) (k0_off12 c) := by decide +kernel
theorem o11_15 : ∀ c, k0_off15 c 0 = k0_off11 c 0 ∧ k0_off11 c 1 = 0 ∧ k0_off15 c 1 = 256 := by decide +kernel
theorem o6_5 : ∀ c, Same (k0_off6 c) (k0_off5 c) := by decide +kernel
theorem o1 : ∀ c, k0_off1 c 0 = c.val * 64 ∧ k0_off1 c 1 = 0 := by decide +kernel
theorem o17 : ∀ c, k0_off17 c 1 = 0 := by decide +kernel
theorem o23 : ∀ c, k0_off23 c 1 = 256 := by decide +kernel
theorem o21 : ∀ c, k0_off21 c 0 = c.val * 64 ∧ k0_off21 c 1 = 256 := by decide +kernel
theorem o27 : ∀ c, k0_off27 c 0 = c.val * 64 ∧ k0_off27 c 1 = 0 := by decide +kernel

/-- The gathered rows hold each device's own. -/
theorem x0_own (c : Dev nD) (inb inb') :
    k0_pay2 (F := Ideal) (at_ (F := Ideal) (e := .f32) (Rect.unit (s := S64x512) ![0, 0] ![64, 512] inb) (arg0 m c)) = at_ (F := Ideal) (e := .bf16) (Rect.unit (s := S256x512) (k0_off1 c) ![64, 512] inb') (x0 m) := by
  funext i
  obtain ⟨r, j, rfl⟩ : ∃ (r : Fin 64) (j : Fin 512), i = ix2 r j := ⟨i 0, i 1, eq_ix2 i⟩
  have hr := inside (R := 256) (C := 512) (k0_off1 c) inb' r j
  unfold k0_pay2
  rw [shapeCast_self, truncf_apply]
  show arg0 m c _ = x0 m _
  rw [emb2 (R := 64) (C := 512) ![0, 0] inb r j r j (Nat.zero_add _).symm (Nat.zero_add _).symm,
    emb2 (R := 256) (C := 512) (k0_off1 c) inb' r j ⟨_, hr.1⟩ j rfl (by rw [(o1 c).2, Nat.zero_add])]
  have e := (o1 c).1
  have h1 : (k0_off1 c 0 + r.val) / 64 = c.val := by have := r.isLt; omega
  have h2 : (k0_off1 c 0 + r.val) % 64 = r.val := by have := r.isLt; omega
  have hc : (⟨(k0_off1 c 0 + r.val) / 64, by rw [h1]; exact c.isLt⟩ : Dev nD) = c := Fin.ext h1
  have hr' : (⟨(k0_off1 c 0 + r.val) % 64, Nat.mod_lt _ (by decide)⟩ : Fin 64) = r := Fin.ext h2
  show _ = arg0 m (⟨(k0_off1 c 0 + r.val) / 64, _⟩ : Dev nD) (ix2 (⟨(k0_off1 c 0 + r.val) % 64, _⟩ : Fin 64) j)
  rw [hc, hr']

/-- A stored half row block of the result. -/
theorem out_of {w : ℕ} {off : Fin 2 → ℕ} {off3 : Fin 3 → ℕ} {o : ℕ} {c p : Dev nD} {pay}
    {h : (⟨3, ![1, 64, w]⟩ : Shape).ShapeCasts ⟨2, ![64, w]⟩} {h' : (⟨2, ![64, w]⟩ : Shape).ShapeCasts ⟨2, ![64, w]⟩}
    (hp : pay = fun v u => shapeCast ⟨2, ![64, w]⟩ (addf (F := Ideal) (φ := .bf16) v (shapeCast ⟨2, ![64, w]⟩ u h)) h')
    (h3 : off3 1 = off 0 ∧ off3 2 = off 1) (h0 : off 0 = c.val * 64 ∧ off 1 = o)
    (hC : ∀ (r : Fin 256) (j : Fin 512), off 1 ≤ j.val ∧ j.val < off 1 + w → (exact_ m).Y 2 c (ix2 r j) + (exact_ m).Y 2 p (ix2 r j) = final m (ix2 r j)) (inb inb3 inb') :
    pay (at_ (F := Ideal) (e := .bf16) (Rect.unit (s := S256x512) off ![64, w] inb) ((exact_ m).Y 2 c))
        (at_ (F := Ideal) (e := .bf16) (Rect.unit (s := S4x256x512) off3 ![1, 64, w] inb3) (slab4 ((exact_ m).Y 2 p)))
      = at_ (F := Ideal) (e := .bf16) (Rect.unit (s := S64x512) ![0, o] ![64, w] inb') ((exact_ m).O c) := by
  refine (sums_of (C := final m) hp h3.1 h3.2 (fun r j _ hj => hC r j hj) inb inb3).trans ?_
  funext i
  obtain ⟨r, j, rfl⟩ : ∃ (r : Fin 64) (j : Fin w), i = ix2 r j := ⟨i 0, i 1, eq_ix2 i⟩
  have hr := inside (R := 256) (C := 512) off inb r j
  show final m _ = (exact_ m).O c _
  rw [emb2 (R := 256) (C := 512) off inb r j ⟨_, hr.1⟩ ⟨_, hr.2⟩ rfl rfl,
    emb2 (R := 64) (C := 512) ![0, o] inb' r j r ⟨_, hr.2⟩ (Nat.zero_add _).symm (show off 1 + j.val = o + j.val by rw [h0.2])]
  refine congrArg (final m) ?_
  show ix2 _ _ = ix2 _ _
  exact congrArg (fun x => ix2 x _) (Fin.ext (by show off 0 + r.val = c.val * 64 + r.val; rw [h0.1]))

theorem prA (k : ℕ) (h : toA k = true) (c : Dev nD) : pr k c = aD c := if_pos h
theorem prB (k : ℕ) (h : toA k = false) (c : Dev nD) : pr k c = bD c := if_neg (by rw [h]; decide)

section Quarter
variable (l : Fin 3) (hl : l ≠ 2) (k : ℕ) (c : Dev nD) {w : ℕ} {off : Fin 2 → ℕ} {off3 : Fin 3 → ℕ}
  {pay : FVec Ideal ⟨2, ![128, w]⟩ .bf16 → Vec Ideal ⟨3, ![1, 128, w]⟩ .bf16 → FVec Ideal ⟨2, ![128, w]⟩ .bf16}
  {h : (⟨3, ![1, 128, w]⟩ : Shape).ShapeCasts ⟨2, ![128, w]⟩} {h' : (⟨2, ![128, w]⟩ : Shape).ShapeCasts ⟨2, ![128, w]⟩}
  (hp : pay = fun v u => shapeCast ⟨2, ![128, w]⟩ (addf (F := Ideal) (φ := .bf16) v (shapeCast ⟨2, ![128, w]⟩ u h)) h')
  (h3 : off3 1 = off 0 ∧ off3 2 = off 1)
include hl hp h3

/-- The first sum of a layer, upper and lower rows; -/
theorem y_top (hk : toA k = false) (h0 : off 0 = 0) : sums (nn := 128) (w := w) pay off off3 ((exact_ m).Z l c) ((exact_ m).Z l (pr k c)) ((exact_ m).Y l c) :=
  sums_of hp h3.1 h3.2 fun r j hr _ => first_sum m l c _ _ ((par_top l hl r j (by have := hr.2; omega) c).trans (prB k hk c).symm)
theorem y_bot (hk : toA k = true) (h0 : off 0 = 128) : sums (nn := 128) (w := w) pay off off3 ((exact_ m).Z l c) ((exact_ m).Z l (pr k c)) ((exact_ m).Y l c) :=
  sums_of hp h3.1 h3.2 fun r j hr _ => first_sum m l c _ _ ((par_bot l hl r j (by have := hr.1; omega) c).trans (prA k hk c).symm)
/-- the second. -/
theorem x_top (hk : toA k = true) (h0 : off 0 = 0) : sums (nn := 128) (w := w) pay off off3 ((exact_ m).Y l c) ((exact_ m).Y l (pr k c)) (tot m l (xs m l)) :=
  sums_of hp h3.1 h3.2 fun r j hr _ => second_sum m l c _ _ (.inl ⟨par_top l hl r j (by have := hr.2; omega) c, par_top l hl r j (by have := hr.2; omega) _, prA k hk c⟩)
theorem x_bot (hk : toA k = false) (h0 : off 0 = 128) : sums (nn := 128) (w := w) pay off off3 ((exact_ m).Y l c) ((exact_ m).Y l (pr k c)) (tot m l (xs m l)) :=
  sums_of hp h3.1 h3.2 fun r j hr _ => second_sum m l c _ _ (.inr ⟨par_bot l hl r j (by have := hr.1; omega) c, par_bot l hl r j (by have := hr.1; omega) _, prB k hk c⟩)
end Quarter

theorem sum_left (c : Dev nD) {off : Fin 2 → ℕ} (h0 : off 1 = 0) (r : Fin 256) (j : Fin 512) (hj : off 1 ≤ j.val ∧ j.val < off 1 + 256) :
    (exact_ m).Z 2 c (ix2 r j) + (exact_ m).Z 2 (pr 20 c) (ix2 r j) = (exact_ m).Y 2 c (ix2 r j)
      ∧ (exact_ m).Y 2 c (ix2 r j) + (exact_ m).Y 2 (pr 23 c) (ix2 r j) = final m (ix2 r j) :=
  have h : j.val < 256 := by omega
  ⟨first_sum m 2 c _ _ ((par_left r j h c).trans (prB 20 rfl c).symm), second_sum m 2 c _ _ (.inl ⟨par_left r j h c, par_left r j h _, prA 23 rfl c⟩)⟩
theorem sum_right (c : Dev nD) (k : ℕ) (hk : toA k = true) {off : Fin 2 → ℕ} (h0 : off 1 = 256) (r : Fin 256) (j : Fin 512) (hj : off 1 ≤ j.val ∧ j.val < off 1 + 256) :
    (exact_ m).Z 2 c (ix2 r j) + (exact_ m).Z 2 (pr k c) (ix2 r j) = (exact_ m).Y 2 c (ix2 r j)
      ∧ (exact_ m).Y 2 c (ix2 r j) + (exact_ m).Y 2 (pr 24 c) (ix2 r j) = final m (ix2 r j) :=
  have h : 256 ≤ j.val := by omega
  ⟨first_sum m 2 c _ _ ((par_right r j h c).trans (prA k hk c).symm), second_sum m 2 c _ _ (.inr ⟨par_right r j h c, par_right r j h _, prB 24 rfl c⟩)⟩

/-- Every store stores its stage. -/
theorem met : Facts (exact_ m) m where
  x0 c inb inb' := x0_own m c inb inb'
  h0g c _ _ _ := hid_whole m 0 c (o5_6 c) (xs m 0)
  h0b c _ _ _ := hid_whole m 0 c (o7_8 c) (xs m 0)
  h0d c _ _ _ := hid_whole m 0 c (o9_10 c) (xs m 0)
  z0t c _ _ _ := back_whole m 0 c ⟨rfl, rfl, rfl⟩ _
  z0b c _ _ _ := back_whole m 0 c ⟨rfl, rfl, rfl⟩ _
  y0a c := y_top m 0 (by decide) 4 c (pay := k0_pay10 (F := Ideal)) rfl ⟨rfl, rfl⟩ rfl rfl
  y0b c := y_top m 0 (by decide) 5 c (pay := k0_pay11 (F := Ideal)) rfl ⟨rfl, rfl⟩ rfl rfl
  y0c c := y_bot m 0 (by decide) 8 c (pay := fun v u => k0_pay13 (F := Ideal) (k0_pay12 v u)) rfl ⟨rfl, rfl⟩ rfl rfl
  y0d c := y_bot m 0 (by decide) 9 c (pay := k0_pay14 (F := Ideal)) rfl ⟨rfl, rfl⟩ rfl rfl
  x1a c := x_top m 0 (by decide) 6 c (pay := k0_pay16 (F := Ideal)) rfl ⟨rfl, rfl⟩ rfl rfl
  x1b c := x_top m 0 (by decide) 7 c (pay := k0_pay18 (F := Ideal)) rfl ⟨rfl, rfl⟩ rfl rfl
  x1c c := x_bot m 0 (by decide) 10 c (pay := k0_pay20 (F := Ideal)) rfl ⟨rfl, rfl⟩ rfl rfl
  x1d c := x_bot m 0 (by decide) 11 c (pay := k0_pay22 (F := Ideal)) rfl ⟨rfl, rfl⟩ rfl rfl
  h1t c _ _ _ _ := hid_halves (off := ![0, 0]) (off₁ := ![0, 0]) (off₂ := ![0, 256]) m 1 c ⟨⟨rfl, rfl⟩, rfl, rfl, rfl⟩ (xs m 1)
  h1b c _ _ _ _ := hid_halves (off := ![128, 0]) (off₁ := ![128, 0]) (off₂ := ![128, 256]) m 1 c ⟨⟨rfl, rfl⟩, rfl, rfl, rfl⟩ (xs m 1)
  z1t c _ _ _ := back_whole m 1 c ⟨rfl, rfl, rfl⟩ _
  z1b c _ _ _ := back_whole m 1 c ⟨rfl, rfl, rfl⟩ _
  y1a c := y_top m 1 (by decide) 12 c (pay := k0_pay27 (F := Ideal)) rfl ⟨rfl, rfl⟩ rfl rfl
  y1b c := y_top m 1 (by decide) 13 c (pay := k0_pay28 (F := Ideal)) rfl ⟨rfl, rfl⟩ rfl rfl
  y1c c := y_bot m 1 (by decide) 16 c (pay := k0_pay29 (F := Ideal)) rfl ⟨rfl, rfl⟩ rfl rfl
  y1d c := y_bot m 1 (by decide) 17 c (pay := k0_pay30 (F := Ideal)) rfl ⟨rfl, rfl⟩ rfl rfl
  x2a c := x_top m 1 (by decide) 14 c (pay := k0_pay32 (F := Ideal)) rfl ⟨rfl, rfl⟩ rfl rfl
  x2b c := x_top m 1 (by decide) 15 c (pay := k0_pay34 (F := Ideal)) rfl ⟨rfl, rfl⟩ rfl rfl
  x2c c := x_bot m 1 (by decide) 18 c (pay := k0_pay36 (F := Ideal)) rfl ⟨rfl, rfl⟩ rfl rfl
  x2d c := x_bot m 1 (by decide) 19 c (pay := k0_pay38 (F := Ideal)) rfl ⟨rfl, rfl⟩ rfl rfl
  h2t c _ _ _ _ := hid_halves (off := ![0, 0]) (off₁ := ![0, 0]) (off₂ := ![0, 256]) m 2 c ⟨⟨rfl, rfl⟩, rfl, rfl, rfl⟩ (xs m 2)
  h2b c _ _ _ _ := hid_halves (off := ![128, 0]) (off₁ := ![128, 0]) (off₂ := ![128, 256]) m 2 c ⟨⟨rfl, rfl⟩, rfl, rfl, rfl⟩ (xs m 2)
  z2l c _ _ _ := back_part m 2 c (o11_12 c) _
  z2r c _ _ _ := back_part m 2 c (o11_15 c) _
  z2g c _ _ _ := back_whole m 2 c (o6_5 c) _
  y2g c := sums_of (pay := k0_pay44 (F := Ideal)) rfl (s20 c).2.2.1 (s20 c).2.2.2 fun r j _ hj => (sum_left m c (o17 c) r j hj).1
  y2p c := sums_of (pay := k0_pay45 (F := Ideal)) rfl (s22 c).2.2.1 (s22 c).2.2.2 fun r j _ hj => (sum_right m c 22 rfl (o21 c).2 r j hj).1
  y2b c := sums_of (pay := k0_pay46 (F := Ideal)) rfl (s21 c).2.2.1 (s21 c).2.2.2 fun r j _ hj => (sum_right m c 21 rfl (o23 c) r j hj).1
  o_l c := out_of m (pay := k0_pay47 (F := Ideal)) rfl (s23 c).2.2 (o27 c) fun r j hj => (sum_left m c (o27 c).2 r j hj).2
  o_r c := out_of m (pay := k0_pay1 (F := Ideal)) rfl (s24 c).2.2 (o21 c) fun r j hj => (sum_right m c 22 rfl (o21 c).2 r j hj).2

end Met

end Cert.KernelIdeal.Pf
end
-- ==== Proof.KernelIdeal.Whole.lean ====
/-
The kernel's result is the plain stack of layers over the whole arrays, and so is the reference's.
-/
module

public import proofs.«01_k».proof.Proof.KernelIdeal.Value3
public import proofs.«01_k».proof.Proof.KernelIdeal.Quiet
public import proofs.«01_k».proof.Proof.Gen.ReferenceIdeal.Run
public import proofs.«01_k».proof.Defs
public import Idealize.ShloMosaic.Lib.StackMember

@[expose] public section

noncomputable section

namespace Cert.KernelIdeal.Pf

open Cert.KernelIdeal Cert.KernelIdeal.Gen
open Idealize.ShloMosaic
open Idealize.ShloMosaic.TcCoe
open Idealize.ShloMosaic.ValueIdx
open scoped BigOperators

/-- One layer over the whole weights. -/
abbrev layer (X : Mat 256 512) (W : Mat 512 4096) (U : Mat 4096 512) : Mat 256 512 := back (hid X W) U

/-- A sum over all columns is the sum over the devices' shares of them. -/
theorem sum_shares (f : Fin 4096 → EReal) :
    ∑ d : Fin 4, ∑ k : Fin 1024, f ⟨d.val * 1024 + k.val, by have := d.isLt; have := k.isLt; omega⟩ = ∑ j : Fin 4096, f j := by
  rw [← Equiv.sum_comp (finProdFinEquiv (m := 4) (n := 1024)) f, Fintype.sum_prod_type]
  refine Finset.sum_congr rfl fun d _ => Finset.sum_congr rfl fun k _ => congrArg f (Fin.ext ?_)
  show d.val * 1024 + k.val = k.val + 1024 * d.val
  omega

section Shares
variable (m : (ℓ : Loc nD τ sig) → Buf (Elt Ideal) ℓ)

/-- The four shares of a layer add up to the layer. -/
theorem tot_whole (l : Fin 3) (X : Mat 256 512) (W : Mat 512 4096) (U : Mat 4096 512)
    (hW : ∀ c : Dev nD, wi m l c = Layout.block ⟨2, ![512, 1024]⟩ ⟨2, ![512, 4096]⟩ 1 4 c W)
    (hU : ∀ c : Dev nD, wo m l c = Layout.block ⟨2, ![1024, 512]⟩ ⟨2, ![4096, 512]⟩ 0 4 c U) : tot m l X = layer X W U := by
  funext i
  refine Eq.trans ?_ (sum_shares fun j => hid X W (ix2 (i 0) j) * U (ix2 j (i 1)))
  refine Finset.sum_congr rfl fun d _ => ?_
  show (∑ k : Fin 1024, hid X (wi m l d) (ix2 (i 0) k) * wo m l d (ix2 k (i 1))) = _
  rw [hW, hU]
  refine Finset.sum_congr rfl fun k _ => congrArg₂ (· * ·) ?_ ?_
  · show max (∑ t : Fin 512, X (ix2 (i 0) t) * W _) 0 = max (∑ t : Fin 512, X (ix2 (i 0) t) * W _) 0
    refine congrArg (max · 0) (Finset.sum_congr rfl fun t _ => congrArg (X (ix2 (i 0) t) * ·) (congrArg W ?_))
    funext a; apply Fin.ext
    match a with
    | ⟨0, _⟩ => rfl
    | ⟨1, _⟩ => rfl
  · show U _ = U _
    refine congrArg U ?_
    funext a; apply Fin.ext
    match a with
    | ⟨0, _⟩ => rfl
    | ⟨1, _⟩ => rfl

/-- The devices' rows, one block under the other, are the whole input. -/
theorem x0_whole (X : Mat 256 512) (hX : ∀ c : Dev nD, arg0 m c = Layout.block ⟨2, ![64, 512]⟩ ⟨2, ![256, 512]⟩ 0 4 c X) : x0 m = X := by
  funext i
  unfold x0
  rw [hX]
  show X _ = X i
  refine congrArg X ?_
  funext a; apply Fin.ext
  match a with
  | ⟨0, _⟩ => exact Nat.div_add_mod' (i 0).val 64
  | ⟨1, _⟩ => rfl

/-- The kernel's result, when the devices' arguments are shares of whole arrays. -/
theorem final_whole (X : Mat 256 512) (W0 W1 W2 : Mat 512 4096) (U0 U1 U2 : Mat 4096 512)
    (h : ∀ c : Dev nD, m ((c.tc : Thread nD τ).loc main_arg0) = Layout.block ⟨2, ![64, 512]⟩ ⟨2, ![256, 512]⟩ 0 4 c X
      ∧ m ((c.tc : Thread nD τ).loc main_arg1) = Layout.block ⟨2, ![512, 1024]⟩ ⟨2, ![512, 4096]⟩ 1 4 c W0
      ∧ m ((c.tc : Thread nD τ).loc main_arg2) = Layout.block ⟨2, ![1024, 512]⟩ ⟨2, ![4096, 512]⟩ 0 4 c U0
      ∧ m ((c.tc : Thread nD τ).loc main_arg3) = Layout.block ⟨2, ![512, 1024]⟩ ⟨2, ![512, 4096]⟩ 1 4 c W1
      ∧ m ((c.tc : Thread nD τ).loc main_arg4) = Layout.block ⟨2, ![1024, 512]⟩ ⟨2, ![4096, 512]⟩ 0 4 c U1
      ∧ m ((c.tc : Thread nD τ).loc main_arg5) = Layout.block ⟨2, ![512, 1024]⟩ ⟨2, ![512, 4096]⟩ 1 4 c W2
      ∧ m ((c.tc : Thread nD τ).loc main_arg6) = Layout.block ⟨2, ![1024, 512]⟩ ⟨2, ![4096, 512]⟩ 0 4 c U2) :
    final m = layer (layer (layer X W0 U0) W1 U1) W2 U2 := by
  show tot m 2 (tot m 1 (tot m 0 (x0 m))) = _
  rw [x0_whole m X fun c => (h c).1,
    tot_whole m 0 X W0 U0 (fun c => (h c).2.1) (fun c => (h c).2.2.1),
    tot_whole m 1 _ W1 U1 (fun c => (h c).2.2.2.1) (fun c => (h c).2.2.2.2.1),
    tot_whole m 2 _ W2 U2 (fun c => (h c).2.2.2.2.2.1) (fun c => (h c).2.2.2.2.2.2)]

/-- A device's result is its rows of the whole result. -/
theorem out_block (c : Dev nD) : (exact_ m).O c = Layout.block ⟨2, ![64, 512]⟩ ⟨2, ![256, 512]⟩ 0 4 c (final m) := by
  funext i
  show final m _ = final m _
  refine congrArg (final m) ?_
  funext a; apply Fin.ext
  match a with
  | ⟨0, _⟩ => rfl
  | ⟨1, _⟩ => rfl
end Shares

/-! ## The reference -/

/-- The reference's first product, cut at zero. -/
theorem host_hid (X : FVec Ideal Cert.ReferenceIdeal.S256x512 .f32) (W : FVec Ideal Cert.ReferenceIdeal.S512x4096 .f32) :
    (maximumf (Host.dotGeneral Cert.ReferenceIdeal.dot_S256x512_S512x4096_S256x4096_1_0_0_1_n_n none X W : FVec Ideal Cert.ReferenceIdeal.S256x4096 .f32)
      (broadcastInDim Cert.ReferenceIdeal.S256x4096 ![] Cert.ReferenceIdeal.Facts₀.bcast_S_S256x4096 (constant Cert.ReferenceIdeal.S_ .f32 0x00000000#32)) : Mat 256 4096) = hid (n := 4096) X W := by
  funext i
  obtain ⟨r, j, rfl⟩ : ∃ (r : Fin 256) (j : Fin 4096), i = ix2 r j := ⟨i 0, i 1, eq_ix2 i⟩
  show max (Host.dotGeneral (DotDims.plain 256 512 4096) none X W (ix2 r j) : EReal) (broadcastInDim _ _ _ _ (ix2 r j)) = _
  rw [StackMember.dotGeneral_plain_apply, broadcastInDim_scalar_apply]
  exact congrArg (max _) zero_f32

/-- The reference's second product. -/
theorem host_back (H : FVec Ideal Cert.ReferenceIdeal.S256x4096 .f32) (U : FVec Ideal Cert.ReferenceIdeal.S4096x512 .f32) :
    (Host.dotGeneral Cert.ReferenceIdeal.dot_S256x4096_S4096x512_S256x512_1_0_0_1_n_n none H U : FVec Ideal Cert.ReferenceIdeal.S256x512 .f32) = back (n := 4096) H U := by
  funext i
  obtain ⟨r, j, rfl⟩ : ∃ (r : Fin 256) (j : Fin 512), i = ix2 r j := ⟨i 0, i 1, eq_ix2 i⟩
  show Host.dotGeneral (DotDims.plain 256 4096 512) none H U (ix2 r j) = _
  rw [StackMember.dotGeneral_plain_apply]
  rfl

end Cert.KernelIdeal.Pf
end
-- ==== Proof.Algebraic.lean ====
/-
The value claim: in exact arithmetic the kernel over four devices computes what the reference does.
-/
module

public import proofs.«01_k».proof.Proof.KernelIdeal.Whole

@[expose] public section

noncomputable section

namespace Cert.Proof

open Idealize.ShloMosaic Cert.KernelIdeal.Pf

/-- The reference's result over whole arrays. -/
theorem ref_value (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v12)
          = layer (layer (layer (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
              (m' (((0 : Dev Cert.ReferenceIdeal.nD).tc : Thread Cert.ReferenceIdeal.nD Cert.ReferenceIdeal.τ).loc Cert.ReferenceIdeal.main_arg2)))
              (m' (((0 : Dev Cert.ReferenceIdeal.nD).tc : Thread Cert.ReferenceIdeal.nD Cert.ReferenceIdeal.τ).loc Cert.ReferenceIdeal.main_arg3))
              (m' (((0 : Dev Cert.ReferenceIdeal.nD).tc : Thread Cert.ReferenceIdeal.nD Cert.ReferenceIdeal.τ).loc Cert.ReferenceIdeal.main_arg4)))
              (m' (((0 : Dev Cert.ReferenceIdeal.nD).tc : Thread Cert.ReferenceIdeal.nD Cert.ReferenceIdeal.τ).loc Cert.ReferenceIdeal.main_arg5))
              (m' (((0 : Dev Cert.ReferenceIdeal.nD).tc : Thread Cert.ReferenceIdeal.nD Cert.ReferenceIdeal.τ).loc Cert.ReferenceIdeal.main_arg6))
        ∧ ∀ b : Ref Cert.ReferenceIdeal.sig .tc, b ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6] →
          r.2.mem (((0 : Dev Cert.ReferenceIdeal.nD).tc : Thread Cert.ReferenceIdeal.nD Cert.ReferenceIdeal.τ).loc b) = m' (((0 : Dev Cert.ReferenceIdeal.nD).tc : Thread Cert.ReferenceIdeal.nD Cert.ReferenceIdeal.τ).loc b)) := by
  refine θ_run_mono (Cert.ReferenceIdeal.Value.run m' g') fun r h => ?_
  obtain ⟨hv, h0, h1, h2, h3, h4, h5, h6⟩ := h 0
  refine ⟨hv.trans ?_, ?_⟩
  · rw [host_hid, host_back, host_hid, host_back, host_hid, host_back]
    rfl
  · intro b hb
    simp only [List.mem_cons, List.not_mem_nil, or_false] at hb
    rcases hb with rfl | rfl | rfl | rfl | rfl | rfl | rfl <;> assumption

theorem algebraic : Cert.algebraic_KernelIdeal_ReferenceIdeal := fun m g m' g' _ hag =>
  ⟨_, θ_run_mono (run_main (exact_ m) m g fun _ => met m) fun r h c =>
      ⟨((h.1 c).2 trivial).trans ((out_block m c).trans (congrArg (fun v => Layout.block ⟨2, ![64, 512]⟩ ⟨2, ![256, 512]⟩ 0 4 c v) (final_whole m _ _ _ _ _ _ _ hag))), args_of_post (h.1 c)⟩,
    θ_run_mono (ref_value m' g') fun r h =>
      ⟨h.1, h.2 _ (by decide), h.2 _ (by decide), h.2 _ (by decide), h.2 _ (by decide), h.2 _ (by decide), h.2 _ (by decide), h.2 _ (by decide)⟩⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_bits, frame_ideal, frame_ref, trivial, algebraic⟩

end Cert.Proof

end
